-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_beams [hPre_beams : Cert.Pre_beams.Facts] (m : (ℓ : Loc Cert.KernelIdeal.nD Cert.KernelIdeal.τ Cert.KernelIdeal.sig) → Buf (Elt Ideal) ℓ) : Prop :=
  ∀ c : Dev Cert.KernelIdeal.nD,
    (Cert.Pre_beams.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_beams [hPre_beams : Cert.Pre_beams.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_beams.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_ranked [hPre_ranked : Cert.Pre_ranked.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_ranked.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_ranked [hPre_ranked : Cert.Pre_ranked.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_ranked.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_beams [hKernelIdeal : Cert.KernelIdeal.Facts] [hPre_beams : Cert.Pre_beams.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_beams m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_beams [hReferenceIdeal : Cert.ReferenceIdeal.Facts] [hPre_beams : Cert.Pre_beams.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_beams m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_KernelBIdeal_pre_ranked [hKernelBIdeal : Cert.KernelBIdeal.Facts] [hPre_ranked : Cert.Pre_ranked.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_ranked m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_ReferenceBIdeal_pre_ranked [hReferenceBIdeal : Cert.ReferenceBIdeal.Facts] [hPre_ranked : Cert.Pre_ranked.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_ranked m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def preserves_Kernel_KernelIdeal : Prop :=
  True

def algebraic_KernelIdeal_ReferenceIdeal_pre_beams [hKernelIdeal : Cert.KernelIdeal.Facts] [hReferenceIdeal : Cert.ReferenceIdeal.Facts] [hPre_beams : Cert.Pre_beams.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_beams m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelA_KernelAIdeal : Prop :=
  IdealRules.named_const.Statement Cert.KernelAIdeal.κ "mask" .f32 0xF149F2CA#32 ⊥

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v1_0)) (v1 : (c : Dev Cert.KernelAIdeal.nD) → Buf (Elt Ideal) ((c.tc : Thread Cert.KernelAIdeal.nD Cert.KernelAIdeal.τ).loc Cert.KernelAIdeal.main_v1_1)) (v2 : (c : Dev Cert.KernelAIdeal.nD) → Buf (Elt Ideal) ((c.tc : Thread Cert.KernelAIdeal.nD Cert.KernelAIdeal.τ).loc Cert.KernelAIdeal.main_v1_2)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v1_0) = v0 c
          ∧ r.2.mem ((c.tc : Thread Cert.KernelAIdeal.nD Cert.KernelAIdeal.τ).loc Cert.KernelAIdeal.main_v1_1) = v1 c
          ∧ r.2.mem ((c.tc : Thread Cert.KernelAIdeal.nD Cert.KernelAIdeal.τ).loc Cert.KernelAIdeal.main_v1_2) = v2 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v13) = v0 c
          ∧ r.2.mem ((c.tc : Thread Cert.ReferenceAIdeal.nD Cert.ReferenceAIdeal.τ).loc Cert.ReferenceAIdeal.main_v16) = v1 c
          ∧ r.2.mem ((c.tc : Thread Cert.ReferenceAIdeal.nD Cert.ReferenceAIdeal.τ).loc Cert.ReferenceAIdeal.main_v12) = v2 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal_pre_ranked [hKernelBIdeal : Cert.KernelBIdeal.Facts] [hReferenceBIdeal : Cert.ReferenceBIdeal.Facts] [hPre_ranked : Cert.Pre_ranked.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_ranked m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) →
    ∃ (v0 : (c : Dev Cert.KernelBIdeal.nD) → Buf (Elt Ideal) ((c.tc : Thread Cert.KernelBIdeal.nD Cert.KernelBIdeal.τ).loc Cert.KernelBIdeal.main_v6)) (v1 : (c : Dev Cert.KernelBIdeal.nD) → Buf (Elt Ideal) ((c.tc : Thread Cert.KernelBIdeal.nD Cert.KernelBIdeal.τ).loc Cert.KernelBIdeal.main_v7)) (v2 : (c : Dev Cert.KernelBIdeal.nD) → Buf (Elt Ideal) ((c.tc : Thread Cert.KernelBIdeal.nD Cert.KernelBIdeal.τ).loc Cert.KernelBIdeal.main_v8)) (v3 : (c : Dev Cert.KernelBIdeal.nD) → Buf (Elt Ideal) ((c.tc : Thread Cert.KernelBIdeal.nD Cert.KernelBIdeal.τ).loc Cert.KernelBIdeal.main_v9)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v6) = v0 c
          ∧ r.2.mem ((c.tc : Thread Cert.KernelBIdeal.nD Cert.KernelBIdeal.τ).loc Cert.KernelBIdeal.main_v7) = v1 c
          ∧ r.2.mem ((c.tc : Thread Cert.KernelBIdeal.nD Cert.KernelBIdeal.τ).loc Cert.KernelBIdeal.main_v8) = v2 c
          ∧ r.2.mem ((c.tc : Thread Cert.KernelBIdeal.nD Cert.KernelBIdeal.τ).loc Cert.KernelBIdeal.main_v9) = v3 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v21) = v0 c
          ∧ r.2.mem ((c.tc : Thread Cert.ReferenceBIdeal.nD Cert.ReferenceBIdeal.τ).loc Cert.ReferenceBIdeal.main_v6) = v1 c
          ∧ r.2.mem ((c.tc : Thread Cert.ReferenceBIdeal.nD Cert.ReferenceBIdeal.τ).loc Cert.ReferenceBIdeal.main_values_0) = v2 c
          ∧ r.2.mem ((c.tc : Thread Cert.ReferenceBIdeal.nD Cert.ReferenceBIdeal.τ).loc Cert.ReferenceBIdeal.main_v35) = v3 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hPre_beams : Cert.Pre_beams.Facts) (hPre_ranked : Cert.Pre_ranked.Facts),
    quiescent_Kernel (hKernel := hKernel)
    ∧ quiescent_KernelIdeal (hKernelIdeal := hKernelIdeal)
    ∧ quiescent_KernelIdeal_pre_beams (hKernelIdeal := hKernelIdeal) (hPre_beams := hPre_beams)
    ∧ quiescent_ReferenceIdeal (hReferenceIdeal := hReferenceIdeal)
    ∧ quiescent_ReferenceIdeal_pre_beams (hReferenceIdeal := hReferenceIdeal) (hPre_beams := hPre_beams)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_KernelBIdeal_pre_ranked (hKernelBIdeal := hKernelBIdeal) (hPre_ranked := hPre_ranked)
    ∧ quiescent_ReferenceBIdeal (hReferenceBIdeal := hReferenceBIdeal)
    ∧ quiescent_ReferenceBIdeal_pre_ranked (hReferenceBIdeal := hReferenceBIdeal) (hPre_ranked := hPre_ranked)
    ∧ preserves_Kernel_KernelIdeal
    ∧ algebraic_KernelIdeal_ReferenceIdeal_pre_beams (hKernelIdeal := hKernelIdeal) (hReferenceIdeal := hReferenceIdeal) (hPre_beams := hPre_beams)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal_pre_ranked (hKernelBIdeal := hKernelBIdeal) (hReferenceBIdeal := hReferenceBIdeal) (hPre_ranked := hPre_ranked)
-- ==== Pre_beams.lean ====
abbrev S16 : Shape := ⟨1, ![16]⟩
abbrev S16x1024 : Shape := ⟨2, ![16, 1024]⟩
abbrev S2x16x1024 : Shape := ⟨3, ![2, 16, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S16x1024 .f32) (main_arg2 : FVec F S2x16x1024 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 16#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Pre_ranked.lean ====
abbrev S25x16x32 : Shape := ⟨3, ![25, 16, 32]⟩
abbrev S16x102400 : Shape := ⟨2, ![16, 102400]⟩
abbrev S16x1 : Shape := ⟨2, ![16, 1]⟩
abbrev S16 : Shape := ⟨1, ![16]⟩
abbrev S16x25x32x128 : Shape := ⟨4, ![16, 25, 32, 128]⟩
abbrev S_ : Shape := ⟨0, ![]⟩
abbrev S16x25x32 : Shape := ⟨3, ![16, 25, 32]⟩
abbrev S16x100000 : Shape := ⟨2, ![16, 100000]⟩

class Facts : Prop where
  shapeCasts_S16x102400_S16x25x32x128 : S16x102400.ShapeCasts S16x25x32x128
  reducesTo_S16x25x32x128_S16x25x32_d3 : S16x25x32x128.ReducesTo [3] S16x25x32
  h_S_ : 0 < S_.numel
  slices_S16x102400_S16x100000_0_0 : S16x102400.Slices ![0, 0] S16x100000
  bcast_S_S16x100000 : S_.BroadcastsInDim S16x100000 (![] : Fin 0 → Fin S16x100000.rank)
  reducesTo_S16x100000_S_d0_1 : S16x100000.ReducesTo [0, 1] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  transposes_S16x25x32_S25x16x32_1_0_2 : S16x25x32.Transposes [1, 0, 2] S25x16x32
  reducesTo_S25x16x32_S_d0_1_2 : S25x16x32.ReducesTo [0, 1, 2] S_

variable [Facts]

def fn_part1 {F : FTy → Type} [FloatOps F] (main_v14 : IVec S_ 1) (main_v16 : IVec S25x16x32 1) : IVec S_ 1 :=
  let main_c_5 : IVec S_ 1 := constantI S_ 1 1#1
  let main_v17 : IVec S_ 1 := (fun x v => Host.reduce IntOp.andi x v reducesTo_S25x16x32_S_d0_1_2 h_S_) main_v16 main_c_5
  let main_v18 : IVec S_ 1 := andi main_v14 main_v17
  main_v18

def fn {F : FTy → Type} [FloatOps F] (main_arg0 : FVec F S25x16x32 .f32) (main_arg1 : FVec F S16x102400 .f32) (main_arg2 : FVec F S16x1 .f32) (main_arg3 : FVec F S16 .f32) : IVec S_ 1 :=
  let main_v0 : FVec F S16x25x32x128 .f32 := shapeCast S16x25x32x128 main_arg1 shapeCasts_S16x102400_S16x25x32x128
  let main_cst : FVec F S_ .f32 := constant S_ .f32 0xFF800000#32
  let main_v1 : FVec F S16x25x32 .f32 := (fun x v => Host.reduce FloatOps.maximumf x v reducesTo_S16x25x32x128_S16x25x32_d3 h_S_) main_v0 main_cst
  let main_v2 : FVec F S16x100000 .f32 := (extractStridedSlice S16x100000 ![0, 0] · slices_S16x102400_S16x100000_0_0) main_arg1
  let main_cst_0 : FVec F S_ .f32 := constant S_ .f32 0xF149F2CA#32
  let main_v3 : FVec F S16x100000 .f32 := broadcastInDim S16x100000 ![] bcast_S_S16x100000 main_cst_0
  let main_v4 : IVec S16x100000 1 := cmpf .ogt main_v2 main_v3
  let main_c : IVec S_ 1 := constantI S_ 1 1#1
  let main_v5 : IVec S_ 1 := (fun x v => Host.reduce IntOp.andi x v reducesTo_S16x100000_S_d0_1 h_S_) main_v4 main_c
  let main_v6 : FVec F S16x1 .f32 := Host.absf main_arg2
  let main_cst_1 : FVec F S_ .f32 := constant S_ .f32 0x7F800000#32
  let main_v7 : FVec F S16x1 .f32 := broadcastInDim S16x1 ![] bcast_S_S16x1 main_cst_1
  let main_v8 : IVec S16x1 1 := cmpf .olt main_v6 main_v7
  let main_c_2 : IVec S_ 1 := constantI S_ 1 1#1
  let main_v9 : IVec S_ 1 := (fun x v => Host.reduce IntOp.andi x v reducesTo_S16x1_S_d0_1 h_S_) main_v8 main_c_2
  let main_v10 : IVec S_ 1 := andi main_v5 main_v9
  let main_cst_3 : FVec F S_ .f32 := constant S_ .f32 0xFF800000#32
  let main_v11 : FVec F S16 .f32 := broadcastInDim S16 ![] bcast_S_S16 main_cst_3
  let main_v12 : IVec S16 1 := cmpf .ogt main_arg3 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v10 main_v13
  let main_v15 : FVec F S25x16x32 .f32 := (transpose S25x16x32 [1, 0, 2] · transposes_S16x25x32_S25x16x32_1_0_2) main_v1
  let main_v16 : IVec S25x16x32 1 := cmpf .oeq main_arg0 main_v15
  fn_part1 (F := F) main_v14 main_v16
-- ==== Kernel.lean ====
abbrev S16 : Shape := ⟨1, ![16]⟩
abbrev S16x1024 : Shape := ⟨2, ![16, 1024]⟩
abbrev S2x16x1024 : Shape := ⟨3, ![2, 16, 1024]⟩
abbrev S32x1024 : Shape := ⟨2, ![32, 1024]⟩
abbrev S32 : Shape := ⟨1, ![32]⟩
abbrev S_ : Shape := ⟨0, ![]⟩
abbrev S16x128 : Shape := ⟨2, ![16, 128]⟩
abbrev S32x128 : Shape := ⟨2, ![32, 128]⟩

abbrev nBuf : Table → Nat
  | .hbm => 7
  | .local .scVector .vmem => 4
  | _ => 0

abbrev bufTy : (tb : Table) → Fin (nBuf tb) → BufTy
  | .hbm, ⟨0, _⟩ => ⟨S16, .i32⟩
  | .hbm, ⟨1, _⟩ => ⟨S16x1024, .f32⟩
  | .hbm, ⟨2, _⟩ => ⟨S2x16x1024, .f32⟩
  | .hbm, ⟨3, _⟩ => ⟨S32x1024, .f32⟩
  | .hbm, ⟨4, _⟩ => ⟨S16x1024, .f32⟩
  | .hbm, ⟨5, _⟩ => ⟨S32x1024, .f32⟩
  | .hbm, ⟨6, _⟩ => ⟨S2x16x1024, .f32⟩
  | .local .scVector .vmem, ⟨0, _⟩ => ⟨S16, .i32⟩
  | .local .scVector .vmem, ⟨1, _⟩ => ⟨S32, .i32⟩
  | .local .scVector .vmem, ⟨2, _⟩ => ⟨S16x1024, .f32⟩
  | .local .scVector .vmem, ⟨3, _⟩ => ⟨S32x1024, .f32⟩
  | _, _ => ⟨S16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16 : Shape := ⟨1, ![16]⟩
abbrev S16x1024 : Shape := ⟨2, ![16, 1024]⟩
abbrev S2x16x1024 : Shape := ⟨3, ![2, 16, 1024]⟩
abbrev S_ : Shape := ⟨0, ![]⟩
abbrev S16x1 : Shape := ⟨2, ![16, 1]⟩

abbrev nBuf : Space → Nat
  | .hbm => 21
  | .vmem => 0
  | .smem => 0
  | _ => 0

abbrev bufTy : (tb : Table) → Fin (tcTables nBuf tb) → BufTy
  | .hbm, ⟨0, _⟩ => ⟨S16, .i32⟩
  | .hbm, ⟨1, _⟩ => ⟨S16x1024, .f32⟩
  | .hbm, ⟨2, _⟩ => ⟨S2x16x1024, .f32⟩
  | .hbm, ⟨3, _⟩ => ⟨S_, .i32⟩
  | .hbm, ⟨4, _⟩ => ⟨S16, .i32⟩
  | .hbm, ⟨5, _⟩ => ⟨S16, .i1⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x1, .i32⟩
  | .hbm, ⟨11, _⟩ => ⟨S16x1024, .f32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S2x16x1024, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== KernelA.lean ====
abbrev S16x1024 : Shape := ⟨2, ![16, 1024]⟩
abbrev S1024x100000 : Shape := ⟨2, ![1024, 100000]⟩
abbrev S100000 : Shape := ⟨1, ![100000]⟩
abbrev S1x100000 : Shape := ⟨2, ![1, 100000]⟩
abbrev S16x102400 : Shape := ⟨2, ![16, 102400]⟩
abbrev S25x16x32 : Shape := ⟨3, ![25, 16, 32]⟩
abbrev S16x1 : Shape := ⟨2, ![16, 1]⟩
abbrev S1024x4096 : Shape := ⟨2, ![1024, 4096]⟩
abbrev S1x4096 : Shape := ⟨2, ![1, 4096]⟩
abbrev S16x4096 : Shape := ⟨2, ![16, 4096]⟩
abbrev S1x16x32 : Shape := ⟨3, ![1, 16, 32]⟩
abbrev S16x32x128 : Shape := ⟨3, ![16, 32, 128]⟩
abbrev S16x32 : Shape := ⟨2, ![16, 32]⟩
abbrev S16 : Shape := ⟨1, ![16]⟩

abbrev nBuf : Space → Nat
  | .hbm => 7
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S1024x100000, .f32⟩
  | .hbm, ⟨2, _⟩ => ⟨S100000, .f32⟩
  | .hbm, ⟨3, _⟩ => ⟨S1x100000, .f32⟩
  | .hbm, ⟨4, _⟩ => ⟨S16x102400, .f32⟩
  | .hbm, ⟨5, _⟩ => ⟨S25x16x32, .f32⟩
  | .hbm, ⟨6, _⟩ => ⟨S16x1, .f32⟩
  | .local _ .vmem, ⟨0, _⟩ => ⟨S16x1024, .f32⟩
  | .local _ .vmem, ⟨1, _⟩ => ⟨S1024x4096, .f32⟩
  | .local _ .vmem, ⟨2, _⟩ => ⟨S1024x4096, .f32⟩
  | .local _ .vmem, ⟨3, _⟩ => ⟨S1x4096, .f32⟩
  | .local _ .vmem, ⟨4, _⟩ => ⟨S1x4096, .f32⟩
  | .local _ .vmem, ⟨5, _⟩ => ⟨S16x4096, .f32⟩
  | .local _ .vmem, ⟨6, _⟩ => ⟨S16x4096, .f32⟩
  | .local _ .vmem, ⟨7, _⟩ => ⟨S1x16x32, .f32⟩
  | .local _ .vmem, ⟨8, _⟩ => ⟨S1x16x32, .f32⟩
  | .local _ .vmem, ⟨9, _⟩ => ⟨S16x1, .f32⟩
  | .local _ .vmem, ⟨10, _⟩ => ⟨S16x1, .f32⟩
  | .local _ .vmem, ⟨11, _⟩ => ⟨S16x1, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_23 : BitVec 32 := 0#32
  let v48 : BitVec 1 := Scalar.cmpi .ne v47 c0_i32_23
  v48

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelAIdeal.lean ====
variable {F : FTy → Type} [FloatOps F] [Named F]
def κ : String → Option EReal := fun
  | "mask" => some ⊥
  | _ => none
-- ==== ReferenceAIdeal.lean ====
abbrev S16x1024 : Shape := ⟨2, ![16, 1024]⟩
abbrev S1024x100000 : Shape := ⟨2, ![1024, 100000]⟩
abbrev S100000 : Shape := ⟨1, ![100000]⟩
abbrev S16x100000 : Shape := ⟨2, ![16, 100000]⟩
abbrev S1x100000 : Shape := ⟨2, ![1, 100000]⟩
abbrev S_ : Shape := ⟨0, ![]⟩
abbrev S16 : Shape := ⟨1, ![16]⟩
abbrev S16x1 : Shape := ⟨2, ![16, 1]⟩
abbrev S16x102400 : Shape := ⟨2, ![16, 102400]⟩
abbrev S16x25x32x128 : Shape := ⟨4, ![16, 25, 32, 128]⟩
abbrev S16x25x32 : Shape := ⟨3, ![16, 25, 32]⟩
abbrev S25x16x32 : Shape := ⟨3, ![25, 16, 32]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x100000, .f32⟩
  | .hbm, ⟨2, _⟩ => ⟨S100000, .f32⟩
  | .hbm, ⟨3, _⟩ => ⟨S16x100000, .f32⟩
  | .hbm, ⟨4, _⟩ => ⟨S1x100000, .f32⟩
  | .hbm, ⟨5, _⟩ => ⟨S16x100000, .f32⟩
  | .hbm, ⟨6, _⟩ => ⟨S16x100000, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S16x100000, .f32⟩
  | .hbm, ⟨11, _⟩ => ⟨S16x100000, .f32⟩
  | .hbm, ⟨12, _⟩ => ⟨S16x100000, .f32⟩
  | .hbm, ⟨13, _⟩ => ⟨S_, .f32⟩
  | .hbm, ⟨14, _⟩ => ⟨S16, .f32⟩
  | .hbm, ⟨15, _⟩ => ⟨S16x1, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S_, .f32⟩
  | .hbm, ⟨20, _⟩ => ⟨S16x102400, .f32⟩
  | .hbm, ⟨21, _⟩ => ⟨S16x25x32x128, .f32⟩
  | .hbm, ⟨22, _⟩ => ⟨S_, .f32⟩
  | .hbm, ⟨23, _⟩ => ⟨S16x25x32, .f32⟩
  | .hbm, ⟨24, _⟩ => ⟨S25x16x32, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KernelB.lean ====
abbrev S25x16x32 : Shape := ⟨3, ![25, 16, 32]⟩
abbrev S16x102400 : Shape := ⟨2, ![16, 102400]⟩
abbrev S16x1 : Shape := ⟨2, ![16, 1]⟩
abbrev S16 : Shape := ⟨1, ![16]⟩
abbrev S16x25x32 : Shape := ⟨3, ![16, 25, 32]⟩
abbrev S16x800 : Shape := ⟨2, ![16, 800]⟩
abbrev S_ : Shape := ⟨0, ![]⟩
abbrev S16x896 : Shape := ⟨2, ![16, 896]⟩
abbrev S16x800x128 : Shape := ⟨3, ![16, 800, 128]⟩
abbrev S1x16 : Shape := ⟨2, ![1, 16]⟩
abbrev S16x16 : Shape := ⟨2, ![16, 16]⟩
abbrev S16x16x1 : Shape := ⟨3, ![16, 16, 1]⟩
abbrev S16x16x800 : Shape := ⟨3, ![16, 16, 800]⟩
abbrev S1x16x800 : Shape := ⟨3, ![1, 16, 800]⟩
abbrev S1x800x128 : Shape := ⟨3, ![1, 800, 128]⟩
abbrev S800x128 : Shape := ⟨2, ![800, 128]⟩
abbrev S16x128 : Shape := ⟨2, ![16, 128]⟩
abbrev S1x2048 : Shape := ⟨2, ![1, 2048]⟩
abbrev S16x2048 : Shape := ⟨2, ![16, 2048]⟩
abbrev S16x16x128 : Shape := ⟨3, ![16, 16, 128]⟩
abbrev S1x16x16 : Shape := ⟨3, ![1, 16, 16]⟩
abbrev S1 : Shape := ⟨1, ![1]⟩
abbrev S1x1x1 : Shape := ⟨3, ![1, 1, 1]⟩

abbrev nBuf : Space → Nat
  | .hbm => 19
  | .vmem => 9
  | .smem => 0
  | _ => 0

abbrev bufTy : (tb : Table) → Fin (tcTables nBuf tb) → BufTy
  | .hbm, ⟨0, _⟩ => ⟨S25x16x32, .f32⟩
  | .hbm, ⟨1, _⟩ => ⟨S16x102400, .f32⟩
  | .hbm, ⟨2, _⟩ => ⟨S16x1, .f32⟩
  | .hbm, ⟨3, _⟩ => ⟨S16, .f32⟩
  | .hbm, ⟨4, _⟩ => ⟨S16x25x32, .f32⟩
  | .hbm, ⟨5, _⟩ => ⟨S16x800, .f32⟩
  | .hbm, ⟨6, _⟩ => ⟨S_, .f32⟩
  | .hbm, ⟨7, _⟩ => ⟨S_, .f32⟩
  | .hbm, ⟨8, _⟩ => ⟨S16x896, .f32⟩
  | .hbm, ⟨9, _⟩ => ⟨S16x800x128, .f32⟩
  | .hbm, ⟨10, _⟩ => ⟨S16x1, .f32⟩
  | .hbm, ⟨11, _⟩ => ⟨S1x16, .i32⟩
  | .hbm, ⟨12, _⟩ => ⟨S1x16, .i32⟩
  | .hbm, ⟨13, _⟩ => ⟨S1x16, .f32⟩
  | .hbm, ⟨14, _⟩ => ⟨S1x16, .f32⟩
  | .hbm, ⟨15, _⟩ => ⟨S16, .i32⟩
  | .hbm, ⟨16, _⟩ => ⟨S16, .i32⟩
  | .hbm, ⟨17, _⟩ => ⟨S16, .f32⟩
  | .hbm, ⟨18, _⟩ => ⟨S16, .f32⟩
  | .local _ .vmem, ⟨0, _⟩ => ⟨S16x896, .f32⟩
  | .local _ .vmem, ⟨1, _⟩ => ⟨S16x800x128, .f32⟩
  | .local _ .vmem, ⟨2, _⟩ => ⟨S16x1, .f32⟩
  | .local _ .vmem, ⟨3, _⟩ => ⟨S16x1, .f32⟩
  | .local _ .vmem, ⟨4, _⟩ => ⟨S1x16, .i32⟩
  | .local _ .vmem, ⟨5, _⟩ => ⟨S1x16, .i32⟩
  | .local _ .vmem, ⟨6, _⟩ => ⟨S1x16, .f32⟩
  | .local _ .vmem, ⟨7, _⟩ => ⟨S1x16, .f32⟩
  | .local _ .vmem, ⟨8, _⟩ => ⟨S16x16, .f32⟩
  | _, _ => ⟨S25x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x800x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceBIdeal.lean ====
abbrev S25x16x32 : Shape := ⟨3, ![25, 16, 32]⟩
abbrev S16x102400 : Shape := ⟨2, ![16, 102400]⟩
abbrev S16x1 : Shape := ⟨2, ![16, 1]⟩
abbrev S16 : Shape := ⟨1, ![16]⟩
abbrev S16x16 : Shape := ⟨2, ![16, 16]⟩
abbrev S256 : Shape := ⟨1, ![256]⟩
abbrev S_ : Shape := ⟨0, ![]⟩
abbrev S16x2 : Shape := ⟨2, ![16, 2]⟩

abbrev nBuf : Space → Nat
  | .hbm => 90
  | .vmem => 0
  | .smem => 0
  | _ => 0

abbrev bufTy : (tb : Table) → Fin (tcTables nBuf tb) → BufTy
  | .hbm, ⟨0, _⟩ => ⟨S25x16x32, .f32⟩
  | .hbm, ⟨1, _⟩ => ⟨S16x102400, .f32⟩
  | .hbm, ⟨2, _⟩ => ⟨S16x1, .f32⟩
  | .hbm, ⟨3, _⟩ => ⟨S16, .f32⟩
  | .hbm, ⟨4, _⟩ => ⟨S16x102400, .f32⟩
  | .hbm, ⟨5, _⟩ => ⟨S16x102400, .f32⟩
  | .hbm, ⟨6, _⟩ => ⟨S16x16, .f32⟩
  | .hbm, ⟨7, _⟩ => ⟨S16x16, .i32⟩
  | .hbm, ⟨8, _⟩ => ⟨S16x1, .f32⟩
  | .hbm, ⟨9, _⟩ => ⟨S16x16, .f32⟩
  | .hbm, ⟨10, _⟩ => ⟨S16x16, .f32⟩
  | .hbm, ⟨11, _⟩ => ⟨S256, .f32⟩
  | .hbm, ⟨12, _⟩ => ⟨S16, .f32⟩
  | .hbm, ⟨13, _⟩ => ⟨S16, .i32⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S_, .i32⟩
  | .hbm, ⟨47, _⟩ => ⟨S_, .i1⟩
  | .hbm, ⟨48, _⟩ => ⟨S16, .i1⟩
  | .hbm, ⟨49, _⟩ => ⟨S16, .i1⟩
  | .hbm, ⟨50, _⟩ => ⟨S16, .i1⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S16, .i32⟩
  | .hbm, ⟨56, _⟩ => ⟨S16, .i1⟩
  | .hbm, ⟨57, _⟩ => ⟨S_, .i32⟩
  | .hbm, ⟨58, _⟩ => ⟨S16, .i32⟩
  | .hbm, ⟨59, _⟩ => ⟨S16, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S16x1, .i32⟩
  | .hbm, ⟨69, _⟩ => ⟨S16x1, .i32⟩
  | .hbm, ⟨70, _⟩ => ⟨S16x2, .i32⟩
  | .hbm, ⟨71, _⟩ => ⟨S16, .i32⟩
  | .hbm, ⟨72, _⟩ => ⟨S_, .i32⟩
  | .hbm, ⟨73, _⟩ => ⟨S16, .i32⟩
  | .hbm, ⟨74, _⟩ => ⟨S16, .i1⟩
  | .hbm, ⟨75, _⟩ => ⟨S_, .i32⟩
  | .hbm, ⟨76, _⟩ => ⟨S16, .i32⟩
  | .hbm, ⟨77, _⟩ => ⟨S16, .i32⟩
  | .hbm, ⟨78, _⟩ => ⟨S16, .i32⟩
  | .hbm, ⟨79, _⟩ => ⟨S_, .i32⟩
  | .hbm, ⟨80, _⟩ => ⟨S16, .i32⟩
  | .hbm, ⟨81, _⟩ => ⟨S16, .i1⟩
  | .hbm, ⟨82, _⟩ => ⟨S_, .i32⟩
  | .hbm, ⟨83, _⟩ => ⟨S16, .i32⟩
  | .hbm, ⟨84, _⟩ => ⟨S16, .i32⟩
  | .hbm, ⟨85, _⟩ => ⟨S16, .i32⟩
  | .hbm, ⟨86, _⟩ => ⟨S16x1, .i32⟩
  | .hbm, ⟨87, _⟩ => ⟨S16x1, .i32⟩
  | .hbm, ⟨88, _⟩ => ⟨S16x2, .i32⟩
  | .hbm, ⟨89, _⟩ => ⟨S16, .f32⟩
  | _, _ => ⟨S25x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_values_0 : Ref sig .tc := ⟨.hbm, 12, rfl⟩
abbrev main_indices_1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_2 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v7 : Ref sig .tc := ⟨.hbm, 53, rfl⟩
abbrev main_c_3 : Ref sig .tc := ⟨.hbm, 54, rfl⟩
abbrev main_v8 : Ref sig .tc := ⟨.hbm, 55, rfl⟩
abbrev main_v9 : Ref sig .tc := ⟨.hbm, 56, rfl⟩
abbrev main_c_4 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_5 : Ref sig .tc := ⟨.hbm, 61, rfl⟩
abbrev main_v13 : Ref sig .tc := ⟨.hbm, 62, rfl⟩
abbrev main_v14 : Ref sig .tc := ⟨.hbm, 63, rfl⟩
abbrev main_c_6 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_7 : Ref sig .tc := ⟨.hbm, 72, rfl⟩
abbrev main_v22 : Ref sig .tc := ⟨.hbm, 73, rfl⟩
abbrev main_v23 : Ref sig .tc := ⟨.hbm, 74, rfl⟩
abbrev main_c_8 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_9 : Ref sig .tc := ⟨.hbm, 79, rfl⟩
abbrev main_v27 : Ref sig .tc := ⟨.hbm, 80, rfl⟩
abbrev main_v28 : Ref sig .tc := ⟨.hbm, 81, rfl⟩
abbrev main_c_10 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩

abbrev nD : Nat := 1
abbrev τ : Topo := Topo.v7x

variable {F : FTy → Type} [FloatOps F]
-- ==== Proof.Tile.lean ====
/-
  The gather kernel on one vector subcore. Only subcore 0 of SparseCore 0 works: it fetches the sixteen beam numbers,
  clips them to 0..15, and moves the named rows of the decoder output and of the recurrent state, in strips of 128
  lanes, into its scratch and out again. Every other subcore returns at once.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueIdxCore
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

/-! ## The program's one SparseCore call -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

abbrev qRef : Ref sig .scVector := main_arg0_scv
abbrev rnnRef : Ref sig .scVector := main_arg1_scv
abbrev stRef : Ref sig .scVector := main_v0_scv
abbrev nroRef : Ref sig .scVector := main_v1_0_scv
abbrev nsRef : Ref sig .scVector := main_v1_1_scv

abbrev qLoc (d : Dev nD) : Loc nD τ sig := (SparseCore.T d).loc main_arg0
abbrev rnnLoc (d : Dev nD) : Loc nD τ sig := (SparseCore.T d).loc main_arg1
abbrev stLoc (d : Dev nD) : Loc nD τ sig := (SparseCore.T d).loc main_v0
abbrev nroLoc (d : Dev nD) : Loc nD τ sig := (SparseCore.T d).loc main_v1_0
abbrev nsLoc (d : Dev nD) : Loc nD τ sig := (SparseCore.T d).loc main_v1_1

local notation "qM" => (Memref.whole Cert.KernelIdeal.main_arg0_scv : Memref Cert.KernelIdeal.sig Kind.scVector Space.hbm Cert.KernelIdeal.S16 EltTy.i32)
local notation "rnnM" => (Memref.whole Cert.KernelIdeal.main_arg1_scv : Memref Cert.KernelIdeal.sig Kind.scVector Space.hbm Cert.KernelIdeal.S16x1024 EltTy.f32)
local notation "stM" => (Memref.whole Cert.KernelIdeal.main_v0_scv : Memref Cert.KernelIdeal.sig Kind.scVector Space.hbm Cert.KernelIdeal.S32x1024 EltTy.f32)
local notation "nroM" => (Memref.whole Cert.KernelIdeal.main_v1_0_scv : Memref Cert.KernelIdeal.sig Kind.scVector Space.hbm Cert.KernelIdeal.S16x1024 EltTy.f32)
local notation "nsM" => (Memref.whole Cert.KernelIdeal.main_v1_1_scv : Memref Cert.KernelIdeal.sig Kind.scVector Space.hbm Cert.KernelIdeal.S32x1024 EltTy.f32)
local notation "qvM" => (Memref.whole Cert.KernelIdeal.cc0_scratch0 : Memref Cert.KernelIdeal.sig Kind.scVector Space.vmem Cert.KernelIdeal.S16 EltTy.i32)
local notation "idxM" => (Memref.whole Cert.KernelIdeal.cc0_scratch1 : Memref Cert.KernelIdeal.sig Kind.scVector Space.vmem Cert.KernelIdeal.S32 EltTy.i32)
local notation "rowsM" => (Memref.whole Cert.KernelIdeal.cc0_scratch2 : Memref Cert.KernelIdeal.sig Kind.scVector Space.vmem Cert.KernelIdeal.S16x1024 EltTy.f32)
local notation "rows2M" => (Memref.whole Cert.KernelIdeal.cc0_scratch3 : Memref Cert.KernelIdeal.sig Kind.scVector Space.vmem Cert.KernelIdeal.S32x1024 EltTy.f32)

/-! ## The values -/

/-- A beam number clipped to 0..15. -/
def clip (v : BitVec 32) : BitVec 32 := IntOp.minsi 15#32 (IntOp.maxsi 0#32 v)

theorem clip_lt (v : BitVec 32) : (clip v).toNat < 16 := by
  have hmax : (IntOp.maxsi 0#32 v).toNat < 2 ^ 31 := by
    unfold IntOp.maxsi
    have := v.isLt
    split
    · simp
    · rename_i h
      simp only [BitVec.slt_eq_decide, BitVec.toInt_eq_toNat_cond, decide_eq_true_eq] at h
      simp at h ⊢
      omega
  show (IntOp.minsi 15#32 (IntOp.maxsi 0#32 v)).toNat < 16
  generalize IntOp.maxsi 0#32 v = w at hmax
  unfold IntOp.minsi
  split
  · decide
  · rename_i h
    simp only [BitVec.slt_eq_decide, BitVec.toInt_eq_toNat_cond, decide_eq_true_eq] at h
    simp at h
    omega

/-- The sixteen clipped numbers. -/
def list16 (q : IVec S16 32) : IVec S16 32 := fun i => clip (q i)
/-- The sixteen clipped numbers, and each of them sixteen further: the rows of the flattened state. -/
def list32 (q : IVec S16 32) : IVec S32 32 := fun i =>
  if h : (i 0).val < 16 then clip (q (ix1 ⟨(i 0).val, h⟩)) else clip (q (ix1 ⟨(i 0).val - 16, by have := (i 0).isLt; simp [S32] at this; omega⟩)) + 16#32

theorem list16_lt (q : IVec S16 32) (i : S16.Idx) : (list16 q i).toNat < 16 := clip_lt _
theorem list32_lt (q : IVec S16 32) (i : S32.Idx) : (list32 q i).toNat < 32 := by
  unfold list32
  split
  · exact lt_trans (clip_lt _) (by decide)
  · have := clip_lt (q (ix1 ⟨(i 0).val - 16, by have := (i 0).isLt; simp [S32] at this; omega⟩))
    rw [BitVec.toNat_add]
    simp
    omega

/-- The decoder rows the beams continue: row `r` is the row the `r`-th number names. -/
def outRows (q : IVec S16 32) (x : Vec F S16x1024 .f32) : Vec F S16x1024 .f32 :=
  fun i => x (ix2 ⟨(list16 q (ix1 (i 0))).toNat, list16_lt _ _⟩ (i 1))
/-- The state rows the beams continue, the two layers one after the other. -/
def outState (q : IVec S16 32) (y : Vec F S32x1024 .f32) : Vec F S32x1024 .f32 :=
  fun i => y (ix2 ⟨(list32 q (ix1 (i 0))).toNat, list32_lt _ _⟩ (i 1))

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev cell0 (d : Dev nD) (c : Fin τ.nSC) (i : Fin τ.nSub) : GSem nD τ sig := (V d c i, .dma cc0_scratch4.sem)
abbrev cell1 (d : Dev nD) (c : Fin τ.nSC) (i : Fin τ.nSub) : GSem nD τ sig := (V d c i, .dma cc0_scratch5.sem)
abbrev cell2 (d : Dev nD) (c : Fin τ.nSC) (i : Fin τ.nSub) : GSem nD τ sig := (V d c i, .dma cc0_scoped0.sem)
abbrev cell3 (d : Dev nD) (c : Fin τ.nSC) (i : Fin τ.nSub) : GSem nD τ sig := (V d c i, .dma cc0_scoped1.sem)
abbrev cell4 (d : Dev nD) (c : Fin τ.nSC) (i : Fin τ.nSub) : GSem nD τ sig := (V d c i, .dma cc0_scoped2.sem)

/-- A strip of 128 lanes gathered by the sixteen numbers is that strip of the rows they name. -/
theorem strip16 (q : IVec S16 32) (x : Vec F S16x1024 .f32) (o : ℕ) (inb : ∀ a, (![0, o] : Fin 2 → ℕ) a + S16x128.size a ≤ S16x1024.size a)
    (hn : S16.numel = S16x128.size gathers_S16x128_S16x128.axis') (hin : ∀ i, (list16 q i).toNat < S16x128.size gathers_S16x128_S16x128.axis)
    (z : S16x128.Idx) :
    SparseCore.gatherPayload (F := F) (e := .f32) gathers_S16x128_S16x128
        (((rnnM).slice (Rect.unit (s := S16x1024) ![0, o] S16x128.size inb) (fun _ => rfl)).view.read (Elt F) x)
        (SparseCore.rows (F := F) (list16 q) hn hin) z
      = outRows q x ((Rect.unit (s := S16x1024) ![0, o] S16x128.size inb).emb z) := by
  unfold SparseCore.gatherPayload outRows
  show x ((Rect.unit (s := S16x1024) ![0, o] S16x128.size inb).emb (gathers_S16x128_S16x128.idx (SparseCore.rows (F := F) (list16 q) hn hin) z)) = x _
  congr 1
  have h0 : gathers_S16x128_S16x128.idx (SparseCore.rows (F := F) (list16 q) hn hin) z 0 = SparseCore.rows (F := F) (list16 q) hn hin (z 0) :=
    gathers_S16x128_S16x128.idx_axis _ z
  have h1 := gathers_S16x128_S16x128.idx_of_ne (SparseCore.rows (F := F) (list16 q) hn hin) z 1 (by decide)
  have hr : S16.rowMajor.symm ((z 0 : Fin 16).cast hn.symm) = ix1 ((Rect.unit (s := S16x1024) ![0, o] S16x128.size inb).emb z 0) := by
    refine (Equiv.symm_apply_eq _).mpr (Fin.ext ?_)
    refine Eq.trans ?_ (Shape.rowMajor_val_one _).symm
    show (z 0).val = 0 + 1 * (z 0).val
    omega
  funext a
  match a with
  | 0 =>
    apply Fin.ext
    show 0 + 1 * (gathers_S16x128_S16x128.idx (SparseCore.rows (F := F) (list16 q) hn hin) z 0).val = (list16 q (ix1 _)).toNat
    rw [h0, Nat.zero_add, Nat.one_mul]
    exact congrArg (fun j => (list16 q j).toNat) hr
  | 1 =>
    apply Fin.ext
    show o + 1 * (gathers_S16x128_S16x128.idx (SparseCore.rows (F := F) (list16 q) hn hin) z 1).val = o + 1 * (z 1).val
    rw [h1]
    rfl

/-- The same for the thirty-two rows of the flattened state. -/
theorem strip32 (q : IVec S16 32) (x : Vec F S32x1024 .f32) (o : ℕ) (inb : ∀ a, (![0, o] : Fin 2 → ℕ) a + S32x128.size a ≤ S32x1024.size a)
    (hn : S32.numel = S32x128.size gathers_S32x128_S32x128.axis') (hin : ∀ i, (list32 q i).toNat < S32x128.size gathers_S32x128_S32x128.axis)
    (z : S32x128.Idx) :
    SparseCore.gatherPayload (F := F) (e := .f32) gathers_S32x128_S32x128
        (((stM).slice (Rect.unit (s := S32x1024) ![0, o] S32x128.size inb) (fun _ => rfl)).view.read (Elt F) x)
        (SparseCore.rows (F := F) (list32 q) hn hin) z
      = outState q x ((Rect.unit (s := S32x1024) ![0, o] S32x128.size inb).emb z) := by
  unfold SparseCore.gatherPayload outState
  show x ((Rect.unit (s := S32x1024) ![0, o] S32x128.size inb).emb (gathers_S32x128_S32x128.idx (SparseCore.rows (F := F) (list32 q) hn hin) z)) = x _
  congr 1
  have h0 : gathers_S32x128_S32x128.idx (SparseCore.rows (F := F) (list32 q) hn hin) z 0 = SparseCore.rows (F := F) (list32 q) hn hin (z 0) :=
    gathers_S32x128_S32x128.idx_axis _ z
  have h1 := gathers_S32x128_S32x128.idx_of_ne (SparseCore.rows (F := F) (list32 q) hn hin) z 1 (by decide)
  have hr : S32.rowMajor.symm ((z 0 : Fin 32).cast hn.symm) = ix1 ((Rect.unit (s := S32x1024) ![0, o] S32x128.size inb).emb z 0) := by
    refine (Equiv.symm_apply_eq _).mpr (Fin.ext ?_)
    refine Eq.trans ?_ (Shape.rowMajor_val_one _).symm
    show (z 0).val = 0 + 1 * (z 0).val
    omega
  funext a
  match a with
  | 0 =>
    apply Fin.ext
    show 0 + 1 * (gathers_S32x128_S32x128.idx (SparseCore.rows (F := F) (list32 q) hn hin) z 0).val = (list32 q (ix1 _)).toNat
    rw [h0, Nat.zero_add, Nat.one_mul]
    exact congrArg (fun j => (list32 q j).toNat) hr
  | 1 =>
    apply Fin.ext
    show o + 1 * (gathers_S32x128_S32x128.idx (SparseCore.rows (F := F) (list32 q) hn hin) z 1).val = o + 1 * (z 1).val
    rw [h1]
    rfl

end Tile

end Cert.Proof.Tile

end
-- ==== Proof.Work.lean ====
/- The run of the gather kernel on the subcore that works. -/
module

public import proofs.«01_k».proof.Defs
public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.Writes
public import Idealize.ShloMosaic.Lib.ValueIdxCore
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ
local notation "qM" => (Memref.whole Cert.KernelIdeal.main_arg0_scv : Memref Cert.KernelIdeal.sig Kind.scVector Space.hbm Cert.KernelIdeal.S16 EltTy.i32)
local notation "rnnM" => (Memref.whole Cert.KernelIdeal.main_arg1_scv : Memref Cert.KernelIdeal.sig Kind.scVector Space.hbm Cert.KernelIdeal.S16x1024 EltTy.f32)
local notation "stM" => (Memref.whole Cert.KernelIdeal.main_v0_scv : Memref Cert.KernelIdeal.sig Kind.scVector Space.hbm Cert.KernelIdeal.S32x1024 EltTy.f32)
local notation "nroM" => (Memref.whole Cert.KernelIdeal.main_v1_0_scv : Memref Cert.KernelIdeal.sig Kind.scVector Space.hbm Cert.KernelIdeal.S16x1024 EltTy.f32)
local notation "nsM" => (Memref.whole Cert.KernelIdeal.main_v1_1_scv : Memref Cert.KernelIdeal.sig Kind.scVector Space.hbm Cert.KernelIdeal.S32x1024 EltTy.f32)
local notation "qvM" => (Memref.whole Cert.KernelIdeal.cc0_scratch0 : Memref Cert.KernelIdeal.sig Kind.scVector Space.vmem Cert.KernelIdeal.S16 EltTy.i32)
local notation "idxM" => (Memref.whole Cert.KernelIdeal.cc0_scratch1 : Memref Cert.KernelIdeal.sig Kind.scVector Space.vmem Cert.KernelIdeal.S32 EltTy.i32)
local notation "rowsM" => (Memref.whole Cert.KernelIdeal.cc0_scratch2 : Memref Cert.KernelIdeal.sig Kind.scVector Space.vmem Cert.KernelIdeal.S16x1024 EltTy.f32)
local notation "rows2M" => (Memref.whole Cert.KernelIdeal.cc0_scratch3 : Memref Cert.KernelIdeal.sig Kind.scVector Space.vmem Cert.KernelIdeal.S32x1024 EltTy.f32)

section Work

variable (d : Dev nD) (L : grid0.Coords)

omit [FloatOps F] in
/-- The sixteen numbers as the subcore reads them back from its scratch. -/
theorem read_list (q : IVec S16 32) (s₁ : Vec F S16 .i32) :
    View.readAt (Elt F) (qvM).view (Rect.unit (s := S16) ![0] S16.size inb_S16_S16_0).toLoadRect
      (View.write (Elt F) (qvM).view s₁ (View.read (Elt F) (qM).view q) Finset.univ) = q := by
  rw [View.write_whole_univ]
  exact Memref.readAt_unit_zero (Elt F) cc0_scratch0 (funext fun a => by match a with | 0 => rfl) _ _

/-- What the first store keeps: the numbers clipped. -/
theorem pay2_val (q : IVec S16 32) (s₁ : Vec F S16 .i32) (z : S16.Idx) :
    k0_pay2 (F := F) (View.readAt (Elt F) (qvM).view (Rect.unit (s := S16) ![0] S16.size inb_S16_S16_0).toLoadRect
      (View.write (Elt F) (qvM).view s₁ (View.read (Elt F) (qM).view q) Finset.univ)) z
      = list16 q ((Rect.unit (s := S16) ![0] S16.size inb_S16_S16_0).emb z) := by
  rw [read_list]
  have hz : (Rect.unit (s := S16) ![0] S16.size inb_S16_S16_0).emb z = z := by
    funext a; match a with | 0 => exact Fin.ext (show 0 + 1 * (z 0).val = (z 0).val by omega)
  rw [hz]
  unfold k0_pay2 k0_pay1
  rw [shapeCast_self, shapeCast_self]
  rfl

/-- The first half of the second list. -/
theorem pay3_val (q : IVec S16 32) (s₁ : Vec F S16 .i32) (z : S16.Idx) :
    k0_pay3 (F := F) (View.readAt (Elt F) (qvM).view (Rect.unit (s := S16) ![0] S16.size inb_S16_S16_0).toLoadRect
      (View.write (Elt F) (qvM).view s₁ (View.read (Elt F) (qM).view q) Finset.univ)) z
      = list32 q ((Rect.unit (s := S32) ![0] S16.size inb_S32_S16_0).emb z) := by
  rw [read_list]
  unfold k0_pay3 k0_pay1
  rw [shapeCast_self, shapeCast_self]
  have hz : ((Rect.unit (s := S32) ![0] S16.size inb_S32_S16_0).emb z 0).val = (z 0).val := show 0 + 1 * (z 0).val = (z 0).val by omega
  have hlt : ((Rect.unit (s := S32) ![0] S16.size inb_S32_S16_0).emb z 0).val < 16 := hz ▸ (z 0).isLt
  unfold list32
  rw [dif_pos hlt]
  show clip (q z) = clip (q _)
  congr 2
  funext a; match a with | 0 => exact Fin.ext hz.symm

/-- Its second half. -/
theorem pay4_val (q : IVec S16 32) (s₁ : Vec F S16 .i32) (z : S16.Idx) :
    k0_pay4 (F := F) (View.readAt (Elt F) (qvM).view (Rect.unit (s := S16) ![0] S16.size inb_S16_S16_0).toLoadRect
      (View.write (Elt F) (qvM).view s₁ (View.read (Elt F) (qM).view q) Finset.univ)) z
      = list32 q ((Rect.unit (s := S32) ![16] S16.size inb_S32_S16_16).emb z) := by
  rw [read_list]
  unfold k0_pay4 k0_pay1
  rw [shapeCast_self, shapeCast_self]
  have hz : ((Rect.unit (s := S32) ![16] S16.size inb_S32_S16_16).emb z 0).val = 16 + (z 0).val := show 16 + 1 * (z 0).val = 16 + (z 0).val by omega
  have hlt : ¬ ((Rect.unit (s := S32) ![16] S16.size inb_S32_S16_16).emb z 0).val < 16 := by omega
  unfold list32
  rw [dif_neg hlt]
  show clip (q z) + 16#32 = clip (q _) + 16#32
  congr 3
  funext a; match a with | 0 => exact Fin.ext (show (z 0).val = _ - 16 by rw [hz]; omega)

/-- The first list once the store has run. -/
theorem list16_written (q : IVec S16 32) (s₁ f : Vec F S16 .i32) :
    (qvM).view.writes (Elt F) f [⟨Rect.unit (s := S16) ![0] S16.size inb_S16_S16_0, k0_pay2 (F := F)
        (View.readAt (Elt F) (qvM).view (Rect.unit (s := S16) ![0] S16.size inb_S16_S16_0).toLoadRect
          (View.write (Elt F) (qvM).view s₁ (View.read (Elt F) (qM).view q) Finset.univ))⟩] = list16 q := by
  funext i
  refine (View.read_writes_apply_of_pieces (Val := Elt F) (qvM).view f (list16 q : S16.Idx → Elt F .i32)
    [⟨Rect.unit (s := S16) ![0] S16.size inb_S16_S16_0, k0_pay2 (F := F)
        (View.readAt (Elt F) (qvM).view (Rect.unit (s := S16) ![0] S16.size inb_S16_S16_0).toLoadRect
          (View.write (Elt F) (qvM).view s₁ (View.read (Elt F) (qM).view q) Finset.univ))⟩] ?_ i
    (View.cover_of_tiled (Val := Elt F) (s := S16) (e := .i32) _ S16.size rfl i) :)
  exact List.forall_mem_cons.mpr ⟨fun z => pay2_val q s₁ z, fun p hp => absurd hp List.not_mem_nil⟩

/-- The second list once both stores have run. -/
theorem list32_written (q : IVec S16 32) (s₁ : Vec F S16 .i32) (f : Vec F S32 .i32) :
    (idxM).view.writes (Elt F) f [⟨Rect.unit (s := S32) ![16] S16.size inb_S32_S16_16, k0_pay4 (F := F)
        (View.readAt (Elt F) (qvM).view (Rect.unit (s := S16) ![0] S16.size inb_S16_S16_0).toLoadRect
          (View.write (Elt F) (qvM).view s₁ (View.read (Elt F) (qM).view q) Finset.univ))⟩,
      ⟨Rect.unit (s := S32) ![0] S16.size inb_S32_S16_0, k0_pay3 (F := F)
        (View.readAt (Elt F) (qvM).view (Rect.unit (s := S16) ![0] S16.size inb_S16_S16_0).toLoadRect
          (View.write (Elt F) (qvM).view s₁ (View.read (Elt F) (qM).view q) Finset.univ))⟩] = list32 q := by
  funext i
  refine (View.read_writes_apply_of_pieces (Val := Elt F) (idxM).view f (list32 q : S32.Idx → Elt F .i32)
    [⟨Rect.unit (s := S32) ![16] S16.size inb_S32_S16_16, k0_pay4 (F := F)
        (View.readAt (Elt F) (qvM).view (Rect.unit (s := S16) ![0] S16.size inb_S16_S16_0).toLoadRect
          (View.write (Elt F) (qvM).view s₁ (View.read (Elt F) (qM).view q) Finset.univ))⟩,
      ⟨Rect.unit (s := S32) ![0] S16.size inb_S32_S16_0, k0_pay3 (F := F)
        (View.readAt (Elt F) (qvM).view (Rect.unit (s := S16) ![0] S16.size inb_S16_S16_0).toLoadRect
          (View.write (Elt F) (qvM).view s₁ (View.read (Elt F) (qM).view q) Finset.univ))⟩] ?_ i
    (View.cover_of_tiled (Val := Elt F) (s := S32) (e := .i32) _ S16.size rfl i) :)
  exact List.forall_mem_cons.mpr ⟨fun z => pay4_val q s₁ z, List.forall_mem_cons.mpr ⟨fun z => pay3_val q s₁ z, fun p hp => absurd hp List.not_mem_nil⟩⟩

set_option maxHeartbeats 4000000 in
theorem work (O : CellTallies nD τ sig (HIx 1)) (W : Waits sig (HIx 1))
    (hL : Scalar.cmpi .ne (Scalar.extui (Scalar.andi (Scalar.cmpi .eq (BitVec.ofNat 32 (L 0).val) 0#32) (Scalar.cmpi .eq (BitVec.ofNat 32 (L 1).val) 0#32)) : BitVec 32) 0#32 = 1#1)
    (q : Buf (Elt F) ((qM).view.loc (V d (cV L) (jV L)))) (x : Buf (Elt F) ((rnnM).view.loc (V d (cV L) (jV L)))) (y : Buf (Elt F) ((stM).view.loc (V d (cV L) (jV L))))
    (o₁ : Buf (Elt F) ((nroM).view.loc (V d (cV L) (jV L)))) (o₂ : Buf (Elt F) ((nsM).view.loc (V d (cV L) (jV L))))
    (s₁ : Buf (Elt F) ((qvM).view.loc (V d (cV L) (jV L)))) (s₂ : Buf (Elt F) ((idxM).view.loc (V d (cV L) (jV L))))
    (s₃ : Buf (Elt F) ((rowsM).view.loc (V d (cV L) (jV L)))) (s₄ : Buf (Elt F) ((rows2M).view.loc (V d (cV L) (jV L)))) :
    iprop(Transfers.MayWaits (V d (cV L) (jV L)) (default : HIx 1) O
        ∗ ((qM).view.loc (V d (cV L) (jV L)) ↦{fullShare} q) ∗ ((rnnM).view.loc (V d (cV L) (jV L)) ↦{fullShare} x)
        ∗ ((stM).view.loc (V d (cV L) (jV L)) ↦{fullShare} y)
        ∗ ((nroM).view.loc (V d (cV L) (jV L)) ↦{fullShare} o₁) ∗ ((nsM).view.loc (V d (cV L) (jV L)) ↦{fullShare} o₂)
        ∗ ((qvM).view.loc (V d (cV L) (jV L)) ↦{fullShare} s₁) ∗ ((idxM).view.loc (V d (cV L) (jV L)) ↦{fullShare} s₂)
        ∗ ((rowsM).view.loc (V d (cV L) (jV L)) ↦{fullShare} s₃) ∗ ((rows2M).view.loc (V d (cV L) (jV L)) ↦{fullShare} s₄)
        ∗ semVal (cell0 d (cV L) (jV L)) 0 ∗ semVal (cell1 d (cV L) (jV L)) 0 ∗ semVal (cell2 d (cV L) (jV L)) 0
        ∗ semVal (cell3 d (cV L) (jV L)) 0 ∗ semVal (cell4 d (cV L) (jV L)) 0
        ∗ owes (V d (cV L) (jV L)) O W)
      ⊢ (wp frame (wpE (defs₀ (F := F)) 𝒱₀ (V d (cV L) (jV L)) none) Set.univ
          (cc0__phase_c_sc L qM (Memref.isWhole_whole _) rnnM (Memref.isWhole_whole _) stM (Memref.isWhole_whole _)
            nroM (Memref.isWhole_whole _) nsM (Memref.isWhole_whole _) qvM (Memref.isWhole_whole _) idxM (Memref.isWhole_whole _)
            rowsM (Memref.isWhole_whole _) rows2M (Memref.isWhole_whole _) cc0_scratch4 cc0_scratch5 cc0_scoped0 cc0_scoped1 cc0_scoped2)
          fun _ => iprop(((qM).view.loc (V d (cV L) (jV L)) ↦{fullShare} q) ∗ ((rnnM).view.loc (V d (cV L) (jV L)) ↦{fullShare} x)
            ∗ ((stM).view.loc (V d (cV L) (jV L)) ↦{fullShare} y)
            ∗ ((nroM).view.loc (V d (cV L) (jV L)) ↦{fullShare} (outRows q x : Buf (Elt F) ((nroM).view.loc (V d (cV L) (jV L)))))
            ∗ ((nsM).view.loc (V d (cV L) (jV L)) ↦{fullShare} (outState q y : Buf (Elt F) ((nsM).view.loc (V d (cV L) (jV L)))))
            ∗ (∃ f, (qvM).view.loc (V d (cV L) (jV L)) ↦{fullShare} f) ∗ (∃ f, (idxM).view.loc (V d (cV L) (jV L)) ↦{fullShare} f)
            ∗ (∃ f, (rowsM).view.loc (V d (cV L) (jV L)) ↦{fullShare} f) ∗ (∃ f, (rows2M).view.loc (V d (cV L) (jV L)) ↦{fullShare} f)
            ∗ semVal (cell0 d (cV L) (jV L)) 0 ∗ semVal (cell1 d (cV L) (jV L)) 0 ∗ semVal (cell2 d (cV L) (jV L)) 0
            ∗ semVal (cell3 d (cV L) (jV L)) 0 ∗ semVal (cell4 d (cV L) (jV L)) 0
            ∗ ∃ W', ⌜∀ p ∈ W', p ∈ W ∨ p.2 = none⌝ ∗ owes (V d (cV L) (jV L)) O W') : sProp 𝕄) := by
  rw [cc0__phase_c_sc_eq_skeleton]
  unfold cc0__phase_c_sc_skel
  rw [k0_part1_eq_skeleton, k0_part2_eq_skeleton, k0_part3_eq_skeleton, k0_part4_eq_skeleton]
  unfold k0_part1_skel k0_part2_skel k0_part3_skel k0_part4_skel
  iintro ⟨#Hmw, Hq, Hx, Hy, Ho1, Ho2, Hs1, Hs2, Hs3, Hs4, Hc0, Hc1, Hc2, Hc3, Hc4, HO⟩
  sl_exec
  ihave Hs1' := (Entails.of_eq (congrArg (fun f => ((qvM).view.loc (V d (cV L) (jV L)) ↦{fullShare} f : sProp 𝕄))
    (show _ = (list16 q : Buf (Elt F) ((qvM).view.loc (V d (cV L) (jV L)))) from ?h1))) $$ Hs1
  case h1 => exact list16_written q s₁ _
  ihave Hs2' := (Entails.of_eq (congrArg (fun f => ((idxM).view.loc (V d (cV L) (jV L)) ↦{fullShare} f : sProp 𝕄))
    (show _ = (list32 q : Buf (Elt F) ((idxM).view.loc (V d (cV L) (jV L)))) from ?h2))) $$ Hs2
  case h2 => exact list32_written q s₁ s₂
  have hin1 : ∀ i, ((qvM).view.read (Elt F) (list16 q : Buf (Elt F) ((qvM).view.loc (V d (cV L) (jV L)))) i).toNat < S16x128.size gathers_S16x128_S16x128.axis := list16_lt q
  have hin2 : ∀ i, ((idxM).view.read (Elt F) (list32 q : Buf (Elt F) ((idxM).view.loc (V d (cV L) (jV L)))) i).toNat < S32x128.size gathers_S32x128_S32x128.axis := list32_lt q
  sl_exec
  ihave Ho1' := (Entails.of_eq (congrArg (fun f => ((nroM).view.loc (V d (cV L) (jV L)) ↦{fullShare} f : sProp 𝕄))
    (show _ = (outRows q x : Buf (Elt F) ((nroM).view.loc (V d (cV L) (jV L)))) from ?h3))) $$ Ho1
  case h3 =>
    rw [View.write_whole_univ]
    unfold work.sl.dma0_1
    funext i
    refine View.read_writes_apply_of_pieces (rowsM).view _ (outRows q x) _ ?_ i (View.cover_of_tiled (s := S16x1024) _ S16x128.size ?_ i)
    · refine List.forall_mem_cons.mpr ⟨fun z => ?_, ?_⟩
      · unfold work.sl.gather7
        exact strip16 q x 896 inb_S16x1024_S16x128_0_896 _ _ z
      refine List.forall_mem_cons.mpr ⟨fun z => ?_, ?_⟩
      · unfold work.sl.gather6
        exact strip16 q x 768 inb_S16x1024_S16x128_0_768 _ _ z
      refine List.forall_mem_cons.mpr ⟨fun z => ?_, ?_⟩
      · unfold work.sl.gather5
        exact strip16 q x 640 inb_S16x1024_S16x128_0_640 _ _ z
      refine List.forall_mem_cons.mpr ⟨fun z => ?_, ?_⟩
      · unfold work.sl.gather4
        exact strip16 q x 512 inb_S16x1024_S16x128_0_512 _ _ z
      refine List.forall_mem_cons.mpr ⟨fun z => ?_, ?_⟩
      · unfold work.sl.gather3
        exact strip16 q x 384 inb_S16x1024_S16x128_0_384 _ _ z
      refine List.forall_mem_cons.mpr ⟨fun z => ?_, ?_⟩
      · unfold work.sl.gather2
        exact strip16 q x 256 inb_S16x1024_S16x128_0_256 _ _ z
      refine List.forall_mem_cons.mpr ⟨fun z => ?_, ?_⟩
      · unfold work.sl.gather1
        exact strip16 q x 128 inb_S16x1024_S16x128_0_128 _ _ z
      refine List.forall_mem_cons.mpr ⟨fun z => ?_, ?_⟩
      · unfold work.sl.gather0
        exact strip16 q x 0 inb_S16x1024_S16x128_0_0 _ _ z
      exact fun p hp => absurd hp List.not_mem_nil
    · rfl
  ihave Ho2' := (Entails.of_eq (congrArg (fun f => ((nsM).view.loc (V d (cV L) (jV L)) ↦{fullShare} f : sProp 𝕄))
    (show _ = (outState q y : Buf (Elt F) ((nsM).view.loc (V d (cV L) (jV L)))) from ?h4))) $$ Ho2
  case h4 =>
    rw [View.write_whole_univ]
    unfold work.sl.dma0_2
    funext i
    refine View.read_writes_apply_of_pieces (rows2M).view _ (outState q y) _ ?_ i (View.cover_of_tiled (s := S32x1024) _ S32x128.size ?_ i)
    · refine List.forall_mem_cons.mpr ⟨fun z => ?_, ?_⟩
      · unfold work.sl.gather16
        exact strip32 q y 896 inb_S32x1024_S32x128_0_896 _ _ z
      refine List.forall_mem_cons.mpr ⟨fun z => ?_, ?_⟩
      · unfold work.sl.gather15
        exact strip32 q y 768 inb_S32x1024_S32x128_0_768 _ _ z
      refine List.forall_mem_cons.mpr ⟨fun z => ?_, ?_⟩
      · unfold work.sl.gather14
        exact strip32 q y 640 inb_S32x1024_S32x128_0_640 _ _ z
      refine List.forall_mem_cons.mpr ⟨fun z => ?_, ?_⟩
      · unfold work.sl.gather13
        exact strip32 q y 512 inb_S32x1024_S32x128_0_512 _ _ z
      refine List.forall_mem_cons.mpr ⟨fun z => ?_, ?_⟩
      · unfold work.sl.gather12
        exact strip32 q y 384 inb_S32x1024_S32x128_0_384 _ _ z
      refine List.forall_mem_cons.mpr ⟨fun z => ?_, ?_⟩
      · unfold work.sl.gather11
        exact strip32 q y 256 inb_S32x1024_S32x128_0_256 _ _ z
      refine List.forall_mem_cons.mpr ⟨fun z => ?_, ?_⟩
      · unfold work.sl.gather10
        exact strip32 q y 128 inb_S32x1024_S32x128_0_128 _ _ z
      refine List.forall_mem_cons.mpr ⟨fun z => ?_, ?_⟩
      · unfold work.sl.gather9
        exact strip32 q y 0 inb_S32x1024_S32x128_0_0 _ _ z
      exact fun p hp => absurd hp List.not_mem_nil
    · rfl
  sl_step
  isplitl [Hq]; · iexact Hq
  isplitl [Hx]; · iexact Hx
  isplitl [Hy]; · iexact Hy
  isplitl [Ho1']; · iexact Ho1'
  isplitl [Ho2']; · iexact Ho2'
  isplitl [Hs1']; · iexists _; iexact Hs1'
  isplitl [Hs2']; · iexists _; iexact Hs2'
  isplitl [Hs3]; · iexists _; iexact Hs3
  isplitl [Hs4]; · iexists _; iexact Hs4
  isplitl [Hc0]; · iexact Hc0
  isplitl [Hc1]; · iexact Hc1
  isplitl [Hc2]; · iexact Hc2
  isplitl [Hc3]; · iexact Hc3
  isplitl [Hc4]; · iexact Hc4
  iexists _
  isplitr
  swap
  · iexact HO
  · ipureintro
    intro p hp
    simp only [Finset.mem_insert] at hp
    rcases hp with h | h | h | h | h | h | h | h | h | h | h | h | h | h | h | h | h | h | h | h <;> first | exact Or.inl h | (subst h; exact Or.inr rfl)

end Work

end Cert.Proof.Tile

end
-- ==== Proof.Launch.lean ====
/- The launch of the gather kernel: what the handshakes carry, every subcore's obligation, and how the arrays reach the
   one subcore that works. -/
module

public import proofs.«01_k».proof.Defs
public import proofs.«01_k».proof.Proof.Tile
public import proofs.«01_k».proof.Proof.Work
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.Writes
public import Idealize.ShloMosaic.Lib.ValueIdxCore
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ
local notation "qM" => (Memref.whole Cert.KernelIdeal.main_arg0_scv : Memref Cert.KernelIdeal.sig Kind.scVector Space.hbm Cert.KernelIdeal.S16 EltTy.i32)
local notation "rnnM" => (Memref.whole Cert.KernelIdeal.main_arg1_scv : Memref Cert.KernelIdeal.sig Kind.scVector Space.hbm Cert.KernelIdeal.S16x1024 EltTy.f32)
local notation "stM" => (Memref.whole Cert.KernelIdeal.main_v0_scv : Memref Cert.KernelIdeal.sig Kind.scVector Space.hbm Cert.KernelIdeal.S32x1024 EltTy.f32)
local notation "nroM" => (Memref.whole Cert.KernelIdeal.main_v1_0_scv : Memref Cert.KernelIdeal.sig Kind.scVector Space.hbm Cert.KernelIdeal.S16x1024 EltTy.f32)
local notation "nsM" => (Memref.whole Cert.KernelIdeal.main_v1_1_scv : Memref Cert.KernelIdeal.sig Kind.scVector Space.hbm Cert.KernelIdeal.S32x1024 EltTy.f32)
local notation "qvM" => (Memref.whole Cert.KernelIdeal.cc0_scratch0 : Memref Cert.KernelIdeal.sig Kind.scVector Space.vmem Cert.KernelIdeal.S16 EltTy.i32)
local notation "idxM" => (Memref.whole Cert.KernelIdeal.cc0_scratch1 : Memref Cert.KernelIdeal.sig Kind.scVector Space.vmem Cert.KernelIdeal.S32 EltTy.i32)
local notation "rowsM" => (Memref.whole Cert.KernelIdeal.cc0_scratch2 : Memref Cert.KernelIdeal.sig Kind.scVector Space.vmem Cert.KernelIdeal.S16x1024 EltTy.f32)
local notation "rows2M" => (Memref.whole Cert.KernelIdeal.cc0_scratch3 : Memref Cert.KernelIdeal.sig Kind.scVector Space.vmem Cert.KernelIdeal.S32x1024 EltTy.f32)

/-! ## What the handshakes carry -/

/-- The contents of the call's five arrays on every device as it starts. -/
structure Arr (F : FTy → Type) where
  q : (d : Dev nD) → Buf (Elt F) (qLoc d)
  x : (d : Dev nD) → Buf (Elt F) (rnnLoc d)
  y : (d : Dev nD) → Buf (Elt F) (stLoc d)
  o₁ : (d : Dev nD) → Buf (Elt F) (nroLoc d)
  o₂ : (d : Dev nD) → Buf (Elt F) (nsLoc d)

variable (A : Arr F)

/-- The decoder rows the call leaves on device `d`. -/
abbrev rowsOf (d : Dev nD) : Buf (Elt F) (nroLoc d) := outRows (A.q d) (A.x d)
/-- The state rows the call leaves on device `d`. -/
abbrev stateOf (d : Dev nD) : Buf (Elt F) (nsLoc d) := outState (A.q d) (A.y d)

/-- The arrays as the call takes them. -/
abbrev XP (d : Dev nD) : sProp 𝕄 :=
  iprop((qLoc d ↦{fullShare} A.q d) ∗ (rnnLoc d ↦{fullShare} A.x d) ∗ (stLoc d ↦{fullShare} A.y d)
    ∗ (nroLoc d ↦{fullShare} A.o₁ d) ∗ (nsLoc d ↦{fullShare} A.o₂ d))
/-- The arrays as it leaves them. -/
abbrev YP (d : Dev nD) : sProp 𝕄 :=
  iprop((qLoc d ↦{fullShare} A.q d) ∗ (rnnLoc d ↦{fullShare} A.x d) ∗ (stLoc d ↦{fullShare} A.y d)
    ∗ (nroLoc d ↦{fullShare} rowsOf A d) ∗ (nsLoc d ↦{fullShare} stateOf A d))

/-- A resource where `b` holds, nothing elsewhere. -/
def onlyIf (b : Prop) [Decidable b] (R : sProp 𝕄) : sProp 𝕄 := if b then R else iprop(emp)

theorem onlyIf_pos {b : Prop} [Decidable b] (h : b) (R : sProp 𝕄) : onlyIf b R = R := if_pos h
theorem onlyIf_neg {b : Prop} [Decidable b] (h : ¬ b) (R : sProp 𝕄) : onlyIf b R = iprop(emp) := if_neg h

instance onlyIf_storable {b : Prop} [Decidable b] (R : sProp 𝕄) [h : BI.Storable (upEmb : UEmb _ 𝕄) R] :
    BI.Storable (upEmb : UEmb _ 𝕄) (onlyIf b R) := by
  unfold onlyIf; split
  · exact h
  · infer_instance

/-- All five arrays go to subcore 0 of SparseCore 0, and come back from it. -/
def P : (K (F := F)).Pay (nD := nD) (Val := Elt F) (Name := ℕ) (U := UU) where
  st := fun q d c => match q with | 0 => onlyIf (c.val = 0) (XP A d)
  dn := fun q d c => match q with | 0 => onlyIf (c.val = 0) (YP A d)
  go := fun q d c i => match q with | 0 => onlyIf (c.val = 0 ∧ i.val = 0) (XP A d)
  td := fun q d c i => match q with | 0 => onlyIf (c.val = 0 ∧ i.val = 0) (YP A d)
  x := fun _ _ => iprop(emp)

instance P_storable : (P (F := F) A).IsStorable where
  st q d c := match q with | 0 => (inferInstance : BI.Storable (upEmb : UEmb _ 𝕄) (onlyIf (c.val = 0) (XP A d)))
  dn q d c := match q with | 0 => (inferInstance : BI.Storable (upEmb : UEmb _ 𝕄) (onlyIf (c.val = 0) (YP A d)))
  go q d c i := match q with | 0 => (inferInstance : BI.Storable (upEmb : UEmb _ 𝕄) (onlyIf (c.val = 0 ∧ i.val = 0) (XP A d)))
  td q d c i := match q with | 0 => (inferInstance : BI.Storable (upEmb : UEmb _ 𝕄) (onlyIf (c.val = 0 ∧ i.val = 0) (YP A d)))

variable [FloatOps F]

/-! ## One subcore -/

section Tile

variable (d : Dev nD) (L : grid0.Coords)

omit [FloatOps F] in
/-- The five semaphores of the kernel among the subcore's own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase (cell3 d (cV L) (jV L))).erase (cell4 d (cV L) (jV L))) fun g => semVal g 0) := by
  unfold SparseCore.Cfg.ownSems0
  rw [SparseCore.bigSep_erase' ((mem_ownCells (g := cell0 d (cV L) (jV L))).mpr ⟨rfl, by show (SemLoc.dma cc0_scratch4.sem : SemLoc sig).isScoped .scVector = true; decide⟩),
    SparseCore.bigSep_erase' (Finset.mem_erase.mpr ⟨by simp [cell0, cell1]; decide, (mem_ownCells (g := cell1 d (cV L) (jV L))).mpr ⟨rfl, by show (SemLoc.dma cc0_scratch5.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d (cV L) (jV L))).mpr ⟨rfl, by show (SemLoc.dma cc0_scoped0.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d (cV L) (jV L))).mpr ⟨rfl, by show (SemLoc.dma cc0_scoped1.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d (cV L) (jV L))).mpr ⟨rfl, by show (SemLoc.dma cc0_scoped2.sem : SemLoc sig).isScoped .scVector = true; decide⟩⟩⟩⟩⟩)]

omit [FloatOps F] in
/-- The four scratch buffers among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

/-- The subcore's test of its own number, on the machine's words. -/
abbrev isFirst (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32)) : BitVec 32) 0#32

theorem isFirst_iff : ∀ (c : Fin 2) (s : Fin 16),
    (Scalar.cmpi .ne (Scalar.extui (Scalar.andi (Scalar.cmpi .eq (BitVec.ofNat 32 c.val) 0#32) (Scalar.cmpi .eq (BitVec.ofNat 32 s.val) 0#32)) : BitVec 32) 0#32 = 1#1)
      ↔ (c.val = 0 ∧ s.val = 0) := by decide

set_option maxHeartbeats 4000000 in
/-- Every other subcore returns at once. -/
theorem idle (hL : ¬ isFirst L = 1#1) (R : sProp 𝕄) :
    R ⊢ (wp frame (wpE (defs₀ (F := F)) 𝒱₀ (V d (cV L) (jV L)) none) Set.univ
          (cc0__phase_c_sc L qM (Memref.isWhole_whole _) rnnM (Memref.isWhole_whole _) stM (Memref.isWhole_whole _)
            nroM (Memref.isWhole_whole _) nsM (Memref.isWhole_whole _) qvM (Memref.isWhole_whole _) idxM (Memref.isWhole_whole _)
            rowsM (Memref.isWhole_whole _) rows2M (Memref.isWhole_whole _) cc0_scratch4 cc0_scratch5 cc0_scoped0 cc0_scoped1 cc0_scoped2)
          fun _ => R : sProp 𝕄) := by
  rw [cc0__phase_c_sc_eq_skeleton]
  unfold cc0__phase_c_sc_skel
  iintro H
  sl_exec
  sl_step
  iexact H

set_option maxHeartbeats 4000000 in
/-- The task on any subcore: where the arrays are, they come back with the rows moved. -/
theorem tile_body (hF : (K (F := F)).Facts) (O : CellTallies nD τ sig (HIx 1)) (W : Waits sig (HIx 1)) (hO : ∀ g, O g none = 0) :
    iprop(levAts (K (F := F)).L (K (F := F)).lev ∗ emp
        ∗ onlyIf ((L 0).val = 0 ∧ (L 1).val = 0) (XP A d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__phase_c_sc L qM (Memref.isWhole_whole _) rnnM (Memref.isWhole_whole _) stM (Memref.isWhole_whole _)
            nroM (Memref.isWhole_whole _) nsM (Memref.isWhole_whole _) qvM (Memref.isWhole_whole _) idxM (Memref.isWhole_whole _)
            rowsM (Memref.isWhole_whole _) rows2M (Memref.isWhole_whole _) cc0_scratch4 cc0_scratch5 cc0_scoped0 cc0_scoped1 cc0_scoped2)
          fun _ => iprop(onlyIf ((L 0).val = 0 ∧ (L 1).val = 0) (YP A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : (L 0).val = 0 ∧ (L 1).val = 0
  · rw [onlyIf_pos h, onlyIf_pos h]
    rw [(K (F := F)).scopedBufs_V hF d (cV L) (jV L), SparseCore.Cfg.scopedSems0_V (Val := Elt F) d (cV L) (jV L), ownSems0_V, ownBufs_V]
    iintro ⟨#Hlv, -, ⟨Hq, Hx, Hy, Ho1, Ho2⟩, ⟨⟨%s₁, Hs1⟩, ⟨%s₂, Hs2⟩, ⟨%s₃, Hs3⟩, ⟨%s₄, Hs4⟩, Hbufs⟩, ⟨Hc0, Hc1, Hc2, Hc3, Hc4, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    iapply (wp_wand_r frame (wpE (defs₀ (F := F)) 𝒱₀ (V d (cV L) (jV L)) none) Set.univ)
    isplitl [Hmw Hq Hx Hy Ho1 Ho2 Hs1 Hs2 Hs3 Hs4 Hc0 Hc1 Hc2 Hc3 Hc4 HO]
    · iapply (work d L O W ((isFirst_iff (L 0) (L 1)).mpr h) (A.q d) (A.x d) (A.y d) (A.o₁ d) (A.o₂ d) s₁ s₂ s₃ s₄)
      isplitl [Hmw]; · iexact Hmw
      isplitl [Hq]; · iexact Hq
      isplitl [Hx]; · iexact Hx
      isplitl [Hy]; · iexact Hy
      isplitl [Ho1]; · iexact Ho1
      isplitl [Ho2]; · iexact Ho2
      isplitl [Hs1]; · iexact Hs1
      isplitl [Hs2]; · iexact Hs2
      isplitl [Hs3]; · iexact Hs3
      isplitl [Hs4]; · iexact Hs4
      isplitl [Hc0]; · iexact Hc0
      isplitl [Hc1]; · iexact Hc1
      isplitl [Hc2]; · iexact Hc2
      isplitl [Hc3]; · iexact Hc3
      isplitl [Hc4]; · iexact Hc4
      iexact HO
    iintro %_
    iintro ⟨Hq, Hx, Hy, Ho1, Ho2, Hs1, Hs2, Hs3, Hs4, Hc0, Hc1, Hc2, Hc3, Hc4, HO⟩
    isplitl [Hq Hx Hy Ho1 Ho2]
    · isplitl [Hq]; · iexact Hq
      isplitl [Hx]; · iexact Hx
      isplitl [Hy]; · iexact Hy
      isplitl [Ho1]; · iexact Ho1
      iexact Ho2
    isplitl [Hs1 Hs2 Hs3 Hs4 Hbufs]
    · isplitl [Hs1]; · iexact Hs1
      isplitl [Hs2]; · iexact Hs2
      isplitl [Hs3]; · iexact Hs3
      isplitl [Hs4]; · iexact Hs4
      iexact Hbufs
    isplitl [Hc0 Hc1 Hc2 Hc3 Hc4 Hsems]
    · isplitl [Hc0]; · iexact Hc0
      isplitl [Hc1]; · iexact Hc1
      isplitl [Hc2]; · iexact Hc2
      isplitl [Hc3]; · iexact Hc3
      isplitl [Hc4]; · iexact Hc4
      iexact Hsems
    iexact HO
  · rw [onlyIf_neg h, onlyIf_neg h]
    have hi := idle (F := F) d L (fun e => h ((isFirst_iff (L 0) (L 1)).mp e)) iprop(emp
      ∗ scopedBufs (V d (cV L) (jV L)) ∗ scopedSems0 (V d (cV L) (jV L)) ∗ ∃ W', ⌜∀ p ∈ W', p ∈ W ∨ p.2 = none⌝ ∗ owes (V d (cV L) (jV L)) O W')
    iintro ⟨-, -, -, Hb, Hs, HO⟩
    iapply hi
    isplitr; · iempintro
    isplitl [Hb]; · iexact Hb
    isplitl [Hs]; · iexact Hs
    iexists W
    isplitr
    · ipureintro; exact fun p hp => Or.inl hp
    · iexact HO

/-! ## The obligation of every subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__phase_c_sc (coordsV c s) qM (Memref.isWhole_whole _) rnnM (Memref.isWhole_whole _) stM (Memref.isWhole_whole _)
            nroM (Memref.isWhole_whole _) nsM (Memref.isWhole_whole _) qvM (Memref.isWhole_whole _) idxM (Memref.isWhole_whole _)
            rowsM (Memref.isWhole_whole _) rows2M (Memref.isWhole_whole _) cc0_scratch4 cc0_scratch5 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF O W hO).trans (wp_mono frame _ _ fun _ => obl_post)

end Tile

/-! ## The arrays reach the one subcore, and come back -/

omit [FloatOps F] in
theorem bigSep_emp' {I : Type} (s : Finset I) : (bigSep s fun _ => iprop(emp)) = (iprop(emp) : sProp 𝕄) := bigSep_emp_const s

omit [FloatOps F] in
/-- A resource asked for at the first of `n + 1` indices only is that resource. -/
theorem bigSep_first {n : ℕ} (Φ : Fin (n + 1) → sProp 𝕄) (h : ∀ i, i.val ≠ 0 → Φ i = iprop(emp)) : bigSep Finset.univ Φ = Φ 0 := by
  rw [SparseCore.bigSep_erase' (Finset.mem_univ (0 : Fin (n + 1))),
    bigSep_congr (Ψ := fun _ => iprop(emp)) (fun i hi => h i fun e => (Finset.mem_erase.mp hi).1 (Fin.ext e)), bigSep_emp']
  exact equiv_iff.mp BI.sep_emp

omit [FloatOps F] in
theorem subcores (b : Prop) [Decidable b] (R : sProp 𝕄) :
    (bigSep Finset.univ fun i : Fin ((K (F := F)).nSub 0) => onlyIf (b ∧ i.val = 0) R) = onlyIf b R := by
  refine (bigSep_first (n := 15) (fun i => onlyIf (b ∧ i.val = 0) R) fun i hi => onlyIf_neg (fun e => hi e.2) R).trans ?_
  by_cases hb : b
  · rw [onlyIf_pos hb, onlyIf_pos ⟨hb, rfl⟩]
  · rw [onlyIf_neg hb, onlyIf_neg fun e => hb e.1]

omit [FloatOps F] in
theorem cores (R : sProp 𝕄) : (bigSep Finset.univ fun c : Fin ((K (F := F)).nCore 0) => onlyIf (c.val = 0) R) = R :=
  (bigSep_first (n := 1) (fun c => onlyIf (c.val = 0) R) fun i hi => onlyIf_neg hi R).trans (onlyIf_pos rfl R)

theorem vecSplit : (K (F := F)).VecSplit' (P A) 0 := by
  intro d c
  show onlyIf (c.val = 0) (XP A d) ⊢ |={Set.univ}=> iprop(
      (bigSep Finset.univ fun i : Fin ((K (F := F)).nSub 0) => onlyIf (c.val = 0 ∧ i.val = 0) (XP A d))
      ∗ ((bigSep Finset.univ fun i : Fin ((K (F := F)).nSub 0) => onlyIf (c.val = 0 ∧ i.val = 0) (YP A d)) -∗ onlyIf (c.val = 0) (YP A d)))
  rw [subcores, subcores]
  iintro H; imodintro
  isplitl [H]; · iexact H
  iintro H; iexact H

theorem st0_eq (d : Dev nD) : (bigSep Finset.univ fun c : Fin ((K (F := F)).nCore 0) => (P A).st 0 d c) = XP A d := cores _
theorem dn0_eq (d : Dev nD) : (bigSep Finset.univ fun c : Fin ((K (F := F)).nCore 0) => (P A).dn 0 d c) = YP A d := cores _

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

end Cert.Proof.Tile

end
-- ==== Proof.Main.lean ====
/- The whole program: the host's reshape of the state, the gather kernel, the reshape back. -/
module

public import proofs.«01_k».proof.Defs
public import proofs.«01_k».proof.Proof.Tile
public import proofs.«01_k».proof.Proof.Work
public import proofs.«01_k».proof.Proof.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.Writes
public import Idealize.ShloMosaic.Lib.ValueIdxCore
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

abbrev argLoc (d : Dev nD) : Loc nD τ sig := (SparseCore.T d).loc main_arg2
abbrev resLoc (d : Dev nD) : Loc nD τ sig := (SparseCore.T d).loc main_v2

/-- The arrays of the call: the two arguments, the flattened state, and the results at what the launch memory holds. -/
def arr : Arr F where
  q d := m (qLoc d)
  x d := m (rnnLoc d)
  y d := shapeCast S32x1024 (m (argLoc d) : Vec F S2x16x1024 .f32) shapeCasts_S2x16x1024_S32x1024
  o₁ d := m (nroLoc d)
  o₂ d := m (nsLoc d)

/-- The second result: the state rows, at the state's shape. -/
def resOf (d : Dev nD) : Buf (Elt F) (resLoc d) :=
  shapeCast S2x16x1024 (stateOf (arr m) d : Vec F S32x1024 .f32) shapeCasts_S32x1024_S2x16x1024

/-! ## A host reshape -/

omit [FloatOps F] in
theorem held_pair (d : Dev nD) {a b : Ref sig .tc} (h : a ≠ b) (V : Valuation τ sig (Elt F)) :
    (StableHlo.held (SparseCore.T d) {Proc.devRef .tc a, Proc.devRef .tc b} V : sProp 𝕄)
      = iprop(((SparseCore.T d).loc a ↦{fullShare} V (Proc.devRef .tc a)) ∗ ((SparseCore.T d).loc b ↦{fullShare} V (Proc.devRef .tc b))) := by
  unfold StableHlo.held
  rw [SparseCore.bigSep_insert' (by rw [Finset.mem_singleton]; exact StableHlo.devRef_ne_of_ne h), bigSep_singleton]

include m in
theorem wp_reshape (d : Dev nD) {x y : Ref sig .tc} (h : x ≠ y) (he : x.ty.elt = y.ty.elt) (hn : x.ty.shape.ShapeCasts y.ty.shape) (hx hy)
    (f : Buf (Elt F) ((SparseCore.T d).loc x)) (g : Buf (Elt F) ((SparseCore.T d).loc y)) {Q : PUnit → sProp 𝕄} :
    iprop(boundary (SparseCore.T d) ∗ ((SparseCore.T d).loc x ↦{fullShare} f) ∗ ((SparseCore.T d).loc y ↦{fullShare} g))
      ⊢ iprop((boundary (SparseCore.T d) ∗ ((SparseCore.T d).loc x ↦{fullShare} f)
            ∗ ((SparseCore.T d).loc y ↦{fullShare} ((fun i => he ▸ shapeCast y.ty.shape f hn i : y.ty.Contents (Elt F)) : Buf (Elt F) ((SparseCore.T d).loc y)))
            -∗ Q ⟨⟩)
          -∗ wp frame (wpE ((K (F := F)).defs (D (F := F))) 𝒱 (SparseCore.T d) none) Set.univ
            (hlo rfl (StableHlo.reshape x y he hn hx hy) (fun _ => .ret ⟨⟩)) Q) := by
  obtain ⟨V, hVx, hVy⟩ : ∃ V : Valuation τ sig (Elt F), V (Proc.devRef .tc x) = f ∧ V (Proc.devRef .tc y) = g :=
    ⟨Function.update (Function.update (fun b => m (d, b)) (Proc.devRef .tc x) f) (Proc.devRef .tc y) g,
      by rw [Function.update_of_ne (StableHlo.devRef_ne_of_ne h), Function.update_self], by rw [Function.update_self]⟩
  subst hVx hVy
  iintro ⟨Hb, Hx, Hy⟩ Hk
  iapply (StableHlo.wp_hlo_within 𝒱 (SparseCore.T d) none Set.univ (op := StableHlo.reshape x y he hn hx hy)
    (S := {Proc.devRef .tc x, Proc.devRef .tc y}) (Finset.Subset.refl _) (V := V)) $$ [Hb Hx Hy]
  · isplitl [Hb]; · iexact Hb
    rw [held_pair d h]
    isplitl [Hx]; · iexact Hx
    iexact Hy
  rw [held_pair d h, StableHlo.reshape_result_ne _ _ _ _ _ _ _ h, StableHlo.reshape_result]
  iintro ⟨Hb, Hx, Hy⟩
  sl_step
  iapply Hk
  isplitl [Hb]; · iexact Hb
  isplitl [Hx]; · iexact Hx
  iexact Hy

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((qLoc d ↦{fullShare} W main_arg0) ∗ (rnnLoc d ↦{fullShare} W main_arg1) ∗ (argLoc d ↦{fullShare} W main_arg2)
      ∗ (stLoc d ↦{fullShare} W main_v0) ∗ (nroLoc d ↦{fullShare} W main_v1_0) ∗ (nsLoc d ↦{fullShare} W main_v1_1) ∗ (resLoc d ↦{fullShare} W main_v2)) := by
  unfold unscopedBufs
  rw [show (Finset.univ.filter fun b : Ref sig .tc => ¬ b.isScoped) = {main_arg0, main_arg1, main_arg2, main_v0, main_v1_0, main_v1_1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What @main leaves: the arguments as they were, the two results. -/
abbrev FIN (d : Dev nD) : sProp 𝕄 :=
  iprop((qLoc d ↦{fullShare} m (qLoc d)) ∗ (rnnLoc d ↦{fullShare} m (rnnLoc d)) ∗ (argLoc d ↦{fullShare} m (argLoc d))
    ∗ (nroLoc d ↦{fullShare} rowsOf (arr m) d) ∗ (resLoc d ↦{fullShare} resOf m d))

theorem hmain (κ : GSem nD τ sig → ℕ) (d : Dev nD) :
    iprop((K (F := F)).ctx EH (P (arr m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hq, Hx, Ha, Hy, Ho1, Ho2, Hr⟩, Hts, -⟩, -⟩
  iapply (wp_reshape m d (x := main_arg2) (y := main_v0) (by decide)) $$ [Hb Ha Hy]
  · isplitl [Hb]; · iexact Hb
    isplitl [Ha]; · iexact Ha
    iexact Hy
  iintro ⟨Hb, Ha, Hy⟩
  iapply ((K (F := F)).wp_run (D (F := F)) 𝒱 (EH := EH) (P := P (arr m)) κ d 0) $$ [Hst Hq Hx Hy Ho1 Ho2 Ha Hr Hb Hts]
  isplitr; · iexact Hctx
  isplitl [Hst]; · iexact Hst
  isplitl [Hq Hx Hy Ho1 Ho2]
  · rw [st0_eq]
    isplitl [Hq]; · iexact Hq
    isplitl [Hx]; · iexact Hx
    isplitl [Hy]; · iexact Hy
    isplitl [Ho1]; · iexact Ho1
    iexact Ho2
  iintro ⟨Hst, Hdn⟩
  ihave Hdn' := (Entails.of_eq (dn0_eq (arr m) d)) $$ Hdn
  icases Hdn' with ⟨Hq, Hx, -, Ho1, Ho2⟩
  iapply (wp_reshape m d (x := main_v1_1) (y := main_v2) (by decide)) $$ [Hb Ho2 Hr]
  · isplitl [Hb]; · iexact Hb
    isplitl [Ho2]; · iexact Ho2
    iexact Hr
  iintro ⟨Hb, -, Hr⟩
  imodintro
  isplitl [Hst]; · iexact Hst
  isplitr [Hb Hts]
  · isplitl [Hq]; · iexact Hq
    isplitl [Hx]; · iexact Hx
    isplitl [Ha]; · iexact Ha
    isplitl [Ho1]; · iexact Ho1
    iexact Hr
  isplitl [Hb] <;> iassumption

/-! ## The run -/

def fq (d : Dev nD) (s' : Phys nD τ sig (Elt F)) : Prop :=
  s'.mem.mem (qLoc d) = m (qLoc d) ∧ s'.mem.mem (rnnLoc d) = m (rnnLoc d) ∧ s'.mem.mem (argLoc d) = m (argLoc d)
    ∧ s'.mem.mem (nroLoc d) = rowsOf (arr m) d ∧ s'.mem.mem (resLoc d) = resOf m d

omit [FloatOps F] in
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hq, Hx, Ha, Ho, Hr⟩, HSI⟩
  ihave H := (agree s' (qLoc d) _) $$ [HSI Hq]
  · isplitl [HSI] <;> iassumption
  icases H with ⟨%hHq, HSI⟩
  ihave H := (agree s' (rnnLoc d) _) $$ [HSI Hx]
  · isplitl [HSI] <;> iassumption
  icases H with ⟨%hHx, HSI⟩
  ihave H := (agree s' (argLoc d) _) $$ [HSI Ha]
  · isplitl [HSI] <;> iassumption
  icases H with ⟨%hHa, HSI⟩
  ihave H := (agree s' (nroLoc d) _) $$ [HSI Ho]
  · isplitl [HSI] <;> iassumption
  icases H with ⟨%hHo, HSI⟩
  ihave H := (agree s' (resLoc d) _) $$ [HSI Hr]
  · isplitl [HSI] <;> iassumption
  icases H with ⟨%hHr, HSI⟩
  ipureintro; exact ⟨hHq, hHx, hHa, hHo, hHr⟩

def QC : PUnit × MemSt nD τ sig (Elt F) → Prop := fun r =>
  (∀ d : Dev nD, r.2.mem (qLoc d) = m (qLoc d) ∧ r.2.mem (rnnLoc d) = m (rnnLoc d) ∧ r.2.mem (argLoc d) = m (argLoc d)
    ∧ r.2.mem (nroLoc d) = rowsOf (arr m) d ∧ r.2.mem (resLoc d) = resOf m d) ∧ r.2.sem = fun _ => 0

/-- Every run of the program ends with the arguments unchanged, the two results at their rows and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arr m)) (A := ∅) facts v₀
    (fun q hq => match q with | 0 => nomatch hq)
    (fun q _ => match q with | 0 => tileObl (arr m) facts)
    (fun q _ => match q with | 0 => SparseCore.Cfg.VecSplit.of_plain (vecSplit (arr m)))
    m ρ main (fun _ => iprop(emp)) (FIN m) (u₀ (F := F)) (sep_elim_left.trans (hu₀ (arr m))) (hmain m ρ) (fq m) (hfin m) (QC m) (fun _ h hz => ⟨h, hz⟩)

end Cert.Proof.Tile

end
-- ==== Proof.RefValue.lean ====
/- The reference's two gathers, read element by element, and its wrapped beam numbers. -/
module

public import proofs.«01_k».proof.Defs
public import Idealize.ShloMosaic.Lib.ValueIdxCore
public import Idealize.ShloMosaic.Lib.ReduceAll
public import proofs.«01_k».proof.Proof.Gen.ReferenceIdeal
public import proofs.«01_k».proof.Proof.Gen.Pre_beams

@[expose] public section

noncomputable section

namespace Cert.Proof.RefValue

open Cert.ReferenceIdeal Cert.ReferenceIdeal.Gen
open Idealize.ShloMosaic Idealize.ShloMosaic.ValueIdx

variable {α : Type}

/-- The decoder rows: row `r` of the result is the row the `r`-th number names, clamped. -/
theorem gather_rows (x : S16x1024.Idx → α) (idx : IVec S16x1 32) (r : Fin 16) (c : Fin 1024) :
    Host.gather gather_S16x1024_S16x1_S16x1024_1_0_n_n_0_1_11024 x idx (ix2 r c)
      = x (ix2 ⟨min (idx (ix2 r (0 : Fin 1))).toInt.toNat 15, by omega⟩ c) := by
  unfold Host.gather
  refine congrArg x (funext fun a => Fin.ext ?_)
  match a with
  | ⟨0, _⟩ =>
    show GatherDims.start _ (ix2 r c) idx 0 + GatherDims.batchCoord _ (ix2 r c) 0 + GatherDims.offCoord _ (ix2 r c) 0 = min (idx (ix2 r (0 : Fin 1))).toInt.toNat 15
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x1024_S16x1_S16x1024_1_0_n_n_0_1_11024.startIndexMap from List.mem_singleton.mpr rfl)]
    have hsi : gather_S16x1024_S16x1_S16x1024_1_0_n_n_0_1_11024.siIdx (ix2 r c) ⟨List.idxOf (0 : Fin 2) gather_S16x1024_S16x1_S16x1024_1_0_n_n_0_1_11024.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GatherDims.start _ (ix2 r c) idx 1 + GatherDims.batchCoord _ (ix2 r c) 1 + GatherDims.offCoord _ (ix2 r c) 1 = c.val
    rw [GatherDims.batchCoord_eq_zero _ _ _ List.not_mem_nil]
    unfold GatherDims.start GatherDims.offCoord
    rw [dif_neg (show (1 : Fin 2) ∉ gather_S16x1024_S16x1_S16x1024_1_0_n_n_0_1_11024.startIndexMap by decide),
      dif_pos (show (1 : Fin 2) ∈ gather_S16x1024_S16x1_S16x1024_1_0_n_n_0_1_11024.sKept by decide), Nat.zero_add]
    rfl

/-- The state rows: both layers' row `r` is the row the `r`-th number names, clamped. -/
theorem gather_state (x : S2x16x1024.Idx → α) (idx : IVec S16x1 32) (l : Fin 2) (r : Fin 16) (c : Fin 1024) :
    Host.gather gather_S2x16x1024_S16x1_S2x16x1024_02_1_n_n_1_1_211024 x idx (ix3 l r c)
      = x (ix3 l ⟨min (idx (ix2 r (0 : Fin 1))).toInt.toNat 15, by omega⟩ c) := by
  unfold Host.gather
  refine congrArg x (funext fun a => Fin.ext ?_)
  match a with
  | ⟨0, _⟩ =>
    show GatherDims.start _ (ix3 l r c) idx 0 + GatherDims.batchCoord _ (ix3 l r c) 0 + GatherDims.offCoord _ (ix3 l r c) 0 = l.val
    rw [GatherDims.batchCoord_eq_zero _ _ _ List.not_mem_nil]
    unfold GatherDims.start GatherDims.offCoord
    rw [dif_neg (show (0 : Fin 3) ∉ gather_S2x16x1024_S16x1_S2x16x1024_02_1_n_n_1_1_211024.startIndexMap by decide),
      dif_pos (show (0 : Fin 3) ∈ gather_S2x16x1024_S16x1_S2x16x1024_02_1_n_n_1_1_211024.sKept by decide), Nat.zero_add]
    rfl
  | ⟨1, _⟩ =>
    show GatherDims.start _ (ix3 l r c) idx 1 + GatherDims.batchCoord _ (ix3 l r c) 1 + GatherDims.offCoord _ (ix3 l r c) 1 = min (idx (ix2 r (0 : Fin 1))).toInt.toNat 15
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2x16x1024_S16x1_S2x16x1024_02_1_n_n_1_1_211024.startIndexMap from List.mem_singleton.mpr rfl)]
    have hsi : gather_S2x16x1024_S16x1_S2x16x1024_02_1_n_n_1_1_211024.siIdx (ix3 l r c) ⟨List.idxOf (1 : Fin 3) gather_S2x16x1024_S16x1_S2x16x1024_02_1_n_n_1_1_211024.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨2, _⟩ =>
    show GatherDims.start _ (ix3 l r c) idx 2 + GatherDims.batchCoord _ (ix3 l r c) 2 + GatherDims.offCoord _ (ix3 l r c) 2 = c.val
    rw [GatherDims.batchCoord_eq_zero _ _ _ List.not_mem_nil]
    unfold GatherDims.start GatherDims.offCoord
    rw [dif_neg (show (2 : Fin 3) ∉ gather_S2x16x1024_S16x1_S2x16x1024_02_1_n_n_1_1_211024.startIndexMap by decide),
      dif_pos (show (2 : Fin 3) ∈ gather_S2x16x1024_S16x1_S2x16x1024_02_1_n_n_1_1_211024.sKept by decide), Nat.zero_add]
    rfl

/-- The numbers as the gathers take them: a negative one counts from the end. -/
def wrapped (q : IVec S16 32) : IVec S16x1 32 :=
  broadcastInDim S16x1 ![0] bcast_S16_S16x1_0 (select (cmpi .slt q (broadcastInDim S16 ![] bcast_S_S16 (constantI S_ 32 0#32)))
    (addi q (broadcastInDim S16 ![] bcast_S_S16 (constantI S_ 32 16#32))) q)

/-- A number below 16 is its own. -/
theorem wrapped_apply (q : IVec S16 32) (r : Fin 16) (h : (q (ix1 r)).toNat < 16) : wrapped q (ix2 r (0 : Fin 1)) = q (ix1 r) := by
  have key : ∀ v : BitVec 32, v.toNat < 16 → IntOp.cmpi .slt v 0#32 = 0#1 := by
    intro v hv
    have : BitVec.slt v 0#32 = false := by
      simp only [BitVec.slt_eq_decide, decide_eq_false_iff_not, BitVec.toInt_eq_toNat_cond, BitVec.toNat_ofNat, Nat.reducePow, Nat.reduceMod]
      omega
    simp [IntOp.cmpi, this]
  have hix : broadcastInDim S16x1 ![0] bcast_S16_S16x1_0 (select (cmpi .slt q (broadcastInDim S16 ![] bcast_S_S16 (constantI S_ 32 0#32)))
      (addi q (broadcastInDim S16 ![] bcast_S_S16 (constantI S_ 32 16#32))) q) (ix2 r (0 : Fin 1))
      = (select (cmpi .slt q (broadcastInDim S16 ![] bcast_S_S16 (constantI S_ 32 0#32)))
        (addi q (broadcastInDim S16 ![] bcast_S_S16 (constantI S_ 32 16#32))) q) (ix1 r) := by
    unfold broadcastInDim
    refine congrArg _ (funext fun a => ?_)
    match a with | ⟨0, _⟩ => rfl
  refine hix.trans ?_
  show (if IntOp.cmpi .slt (q (ix1 r)) 0#32 = 1#1 then _ else q (ix1 r)) = q (ix1 r)
  rw [key _ h]
  rfl

/-- What the precondition says of each number. -/
theorem beams_lt {F : FTy → Type} [FloatOps F] (q : IVec S16 32) (x : FVec F S16x1024 .f32) (y : FVec F S2x16x1024 .f32)
    (h : Cert.Pre_beams.fn (F := F) q x y = fun _ => 1#1) (i : S16.Idx) : (q i).toNat < 16 := by
  have andi_ofBool (a b : Bool) : IntOp.andi (BitVec.ofBool a) (BitVec.ofBool b) = BitVec.ofBool (a && b) := by
    cases a <;> cases b <;> decide
  have ofBool_eq_one (a : Bool) : (BitVec.ofBool a = 1#1) ↔ a = true := by cases a <;> decide
  have key : ∀ v : BitVec 32, IntOp.andi (IntOp.cmpi .sge v 0#32) (IntOp.cmpi .slt v 16#32) = 1#1 → v.toNat < 16 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have : Subsingleton Cert.Pre_beams.S_.Idx := ⟨fun a b => funext fun k => k.elim0⟩
  exact key _ (Host.reduce_andi_all _ _ _ _ _ (congrFun h (fun k => k.elim0)) i)

end Cert.Proof.RefValue

end
-- ==== Proof.Equal.lean ====
/- The arrays the SparseCore call leaves are the reference's, for beam numbers below 16. -/
module

public import proofs.«01_k».proof.Proof.RefValue
public import proofs.«01_k».proof.Proof.Tile
public import Idealize.ShloMosaic.Lib.ValueLayout

@[expose] public section

noncomputable section

namespace Cert.Proof.Tile

open Idealize.ShloMosaic Idealize.ShloMosaic.ValueIdx
open Cert.KernelIdeal Cert.KernelIdeal.Gen

variable {F : FTy → Type} [FloatOps F]

omit [FloatOps F] in
/-- A number below 16 is not changed by the clip. -/
theorem clip_eq (v : BitVec 32) (h : v.toNat < 16) : clip v = v := by
  have h0 : IntOp.maxsi 0#32 v = v := by
    unfold IntOp.maxsi
    split
    · rename_i hs
      simp only [BitVec.slt_eq_decide, BitVec.toInt_eq_toNat_cond, decide_eq_true_eq, BitVec.toNat_ofNat, Nat.reducePow, Nat.reduceMod] at hs
      omega
    · rfl
  unfold clip
  rw [h0]
  unfold IntOp.minsi
  split
  · rename_i hs
    simp only [BitVec.slt_eq_decide, BitVec.toInt_eq_toNat_cond, decide_eq_true_eq, BitVec.toNat_ofNat, Nat.reducePow, Nat.reduceMod] at hs
    omega
  · rfl

omit [FloatOps F] in
/-- A number below 16, read signed and clamped to 0..15, is itself. -/
theorem clamp_eq (v : BitVec 32) (h : v.toNat < 16) : min v.toInt.toNat 15 = v.toNat := by
  rw [BitVec.toInt_eq_toNat_cond]
  split <;> omega

omit [FloatOps F] in
/-- The reference's decoder rows are the rows the call leaves. -/
theorem rows_eq (q : IVec S16 32) (x : Vec F S16x1024 .f32) (h : ∀ i, (q i).toNat < 16) :
    Host.gather Cert.ReferenceIdeal.gather_S16x1024_S16x1_S16x1024_1_0_n_n_0_1_11024 x (RefValue.wrapped q) = outRows q x := by
  funext i
  refine (congrArg _ (eq_ix2 i)).trans ((RefValue.gather_rows x (RefValue.wrapped q) (i 0) (i 1)).trans ?_)
  unfold outRows list16
  refine congrArg x (congrArg (fun a : Fin 16 => ix2 a (i 1)) (Fin.ext ?_))
  show min (RefValue.wrapped q (ix2 (i 0) (0 : Fin 1))).toInt.toNat 15 = (clip (q (ix1 (i 0)))).toNat
  rw [RefValue.wrapped_apply q (i 0) (h _), clip_eq _ (h _)]
  exact clamp_eq _ (h _)

/-- Row `r` of layer `l` of the state, in its flattened form. -/
abbrev flat (l : Fin 2) (r : Fin 16) : Fin 32 := ⟨16 * l.val + r.val, by omega⟩

omit [FloatOps F] in
/-- The flattened list at row `r` of layer `l` names row `clip (q r)` of that layer. -/
theorem list32_flat (q : IVec S16 32) (l : Fin 2) (r : Fin 16) : (list32 q (ix1 (flat l r))).toNat = 16 * l.val + (clip (q (ix1 r))).toNat := by
  have hc := clip_lt (q (ix1 r))
  have hrl := r.isLt
  unfold list32
  match l with
  | ⟨0, _⟩ =>
    have hr : (ix1 (flat ⟨0, by omega⟩ r) 0).val < 16 := by show 16 * 0 + r.val < 16; omega
    rw [dif_pos hr]
    have : (⟨(ix1 (flat ⟨0, by omega⟩ r) 0).val, hr⟩ : Fin 16) = r := Fin.ext (by show 16 * 0 + r.val = r.val; omega)
    rw [this]
    show (clip (q (ix1 r))).toNat = 16 * 0 + (clip (q (ix1 r))).toNat
    omega
  | ⟨1, _⟩ =>
    have hr : ¬ (ix1 (flat ⟨1, by omega⟩ r) 0).val < 16 := by show ¬ 16 * 1 + r.val < 16; omega
    rw [dif_neg hr]
    have : ∀ hb : (ix1 (flat ⟨1, by omega⟩ r) 0).val - 16 < 16, (⟨(ix1 (flat ⟨1, by omega⟩ r) 0).val - 16, hb⟩ : Fin 16) = r := fun hb => Fin.ext (by show 16 * 1 + r.val - 16 = r.val; omega)
    rw [this, BitVec.toNat_add]
    show ((clip (q (ix1 r))).toNat + 16) % 2 ^ 32 = 16 * 1 + (clip (q (ix1 r))).toNat
    omega

omit [FloatOps F] in
theorem shapeCast_state {α : Type} (z : S2x16x1024.Idx → α) (l : Fin 2) (r : Fin 16) (c : Fin 1024) :
    shapeCast S32x1024 z shapeCasts_S2x16x1024_S32x1024 (ix2 (flat l r) c) = z (ix3 l r c) :=
  shapeCast_apply z shapeCasts_S2x16x1024_S32x1024 _ _ (by
    rw [Shape.rowMajor_val_three, Shape.rowMajor_val_two]
    show (l.val * 16 + r.val) * 1024 + c.val = (16 * l.val + r.val) * 1024 + c.val
    omega)

omit [FloatOps F] in
theorem shapeCast_back {α : Type} (z : S32x1024.Idx → α) (l : Fin 2) (r : Fin 16) (c : Fin 1024) :
    shapeCast S2x16x1024 z shapeCasts_S32x1024_S2x16x1024 (ix3 l r c) = z (ix2 (flat l r) c) :=
  shapeCast_apply z shapeCasts_S32x1024_S2x16x1024 _ _ (by
    rw [Shape.rowMajor_val_three, Shape.rowMajor_val_two]
    show (16 * l.val + r.val) * 1024 + c.val = (l.val * 16 + r.val) * 1024 + c.val
    omega)

omit [FloatOps F] in
/-- The reference's state rows are the rows the call leaves, at the state's shape. -/
theorem state_eq (q : IVec S16 32) (y : Vec F S2x16x1024 .f32) (h : ∀ i, (q i).toNat < 16) :
    Host.gather Cert.ReferenceIdeal.gather_S2x16x1024_S16x1_S2x16x1024_02_1_n_n_1_1_211024 y (RefValue.wrapped q)
      = shapeCast S2x16x1024 (outState q (shapeCast S32x1024 y shapeCasts_S2x16x1024_S32x1024)) shapeCasts_S32x1024_S2x16x1024 := by
  funext i
  obtain ⟨l, r, c, rfl⟩ : ∃ (l : Fin 2) (r : Fin 16) (c : Fin 1024), i = ix3 l r c := ⟨i 0, i 1, i 2, eq_ix3 i⟩
  refine (RefValue.gather_state y (RefValue.wrapped q) l r c).trans (Eq.trans ?_ (shapeCast_back _ l r c).symm)
  have hrow : (⟨(list32 q (ix1 (flat l r))).toNat, list32_lt _ _⟩ : Fin 32) = flat l ⟨(clip (q (ix1 r))).toNat, clip_lt _⟩ := Fin.ext (list32_flat q l r)
  show _ = shapeCast S32x1024 y shapeCasts_S2x16x1024_S32x1024 (ix2 (⟨(list32 q (ix1 (flat l r))).toNat, list32_lt _ _⟩ : Fin 32) c)
  rw [hrow, shapeCast_state]
  refine congrArg y (congrArg (fun a : Fin 16 => ix3 l a c) (Fin.ext ?_))
  show min (RefValue.wrapped q (ix2 r (0 : Fin 1))).toInt.toNat 15 = (clip (q (ix1 r))).toNat
  rw [RefValue.wrapped_apply q r (h _), clip_eq _ (h _)]
  exact clamp_eq _ (h _)

end Cert.Proof.Tile

end
-- ==== Proof.ABits.lean ====
/- The logits kernel over words: it terminates and leaves its arguments as they were. Nothing is said of what it
   computes, so every window's buffer is at contents that nothing names. -/
module

public import proofs.«01_k».proof.Proof.ABodyBits
public import proofs.«01_k».proof.Proof.Gen.KernelA.Launch
public import proofs.«01_k».proof.Proof.Gen.KernelA.Points

@[expose] public section

set_option maxRecDepth 16384

noncomputable section

namespace Cert.KernelA.Point

open Cert.KernelA Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are named. -/
def forgetAll : Fin 6 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) : (Pipeline.ΦA (Val := Elt F) (U := UR sig nD τ) spec0 c : sProp 𝕄)
    = iprop(((∃ f, owns (c : Thread nD τ) (Memref.whole cc0_scratch0) fullShare f)
        ∗ (∃ f, owns (c : Thread nD τ) (Memref.whole cc0_scratch1) fullShare f)) ∗ ∃ r, prngReg c r) := by
  unfold Pipeline.ΦA; rw [scopedRest0_eq]
  simp only [owns_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA_eq]
  iintro ⟨⟨⟨⟨%M, HM⟩, ⟨%S, HS⟩⟩, Hr⟩, Ho, ⟨%d0, H0⟩, ⟨%d1, H1⟩, ⟨%d2, H2⟩, ⟨%d3, H3⟩, ⟨%d4, H4⟩, ⟨%d5, H5⟩⟩
  iapply (sound_kernel (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (Memref.whole cc0_scratch0) (Memref.isWhole_whole _)
    (Memref.whole cc0_scratch1) (Memref.isWhole_whole _) d0 d1 d2 d3 d4 d5 M S _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HS]; · iexact HS
  iintro ⟨H0, H1, H2, H3, H4, H5, HM, HS⟩
  isplitl [HM HS Hr]
  · isplitl [HM HS]
    · isplitl [HM]
      · iexists _; iexact HM
      · iexists _; iexact HS
    · iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  iexists _; iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgetAll := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgetAll) (V m) r ∧ r.2.sem = fun _ => 0) :=
  Pipeline.θ_run_frame_forget (Q' := _) cfgs (dats m) (0 : Fin 1) launch0 defs₀ Variants.none forgetAll m ρ main
    (hbody := body_obligation m) (hshare := fun c => (dats m 0 c).share_full fun _ => rfl)
    (howed := fun _ _ => rfl) (V := V m) (hmain := hmain m Variants.none) (hA := A_eq m) (hΦ := fun _ _ => rfl)

/-- Over any float values: the kernel terminates, its arguments end as they began, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (V_main_arg0 m c), (h.1.arr_in c 1 rfl).trans (V_main_arg1 m c),
      ((h.1 c).2 main_arg2 (Pipeline.mem_restRefs_of main_arg2 (by decide) (by decide))).trans (V_main_arg2 m c)⟩, h.2⟩) (run_main m ρ)

end Cert.KernelA.Point

end
-- ==== Proof.ABody.lean ====
/- One grid point of the logits kernel: what its body leaves in the buffers it is called on. -/
module

public import proofs.«01_k».proof.Proof.Gen.KernelAIdeal.Skeleton
public import proofs.«01_k».proof.Proof.Gen.KernelAIdeal.Frame
public import Idealize.ShloMosaic.Lib.Pipeline.Value

@[expose] public section

set_option maxRecDepth 16384

noncomputable section

namespace Cert.KernelAIdeal.Point

open Cert.KernelAIdeal Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Whether the grid point is the first, as the body tests it. -/
abbrev isFirst (i : grid0.Coords) : Prop :=
  Scalar.cmpi .ne (Scalar.extui (Scalar.cmpi .eq (BitVec.ofNat 32 (i 0).val) 0#32) : BitVec 32) 0#32 = 1#1

/-- The running maximum and the running sum that a grid point starts from: at the first one the initial values. -/
def mIn (i : grid0.Coords) (M : FVec F S16x1 .f32) : FVec F S16x1 .f32 := if isFirst i then k0_pay4 else M
def sIn (i : grid0.Coords) (S : FVec F S16x1 .f32) : FVec F S16x1 .f32 := if isFirst i then k0_pay5 else S
/-- The running maximum after the point. -/
def mOut (i : grid0.Coords) (x1 : Vec F S16x1024 .f32) (x2 : Vec F S1024x4096 .f32) (x3 : Vec F S1x4096 .f32)
    (M : FVec F S16x1 .f32) : FVec F S16x1 .f32 := k0_pay2 (k0_pay9 i x1 x2 x3 (mIn i M))
/-- The running sum after the point. -/
def sOut (i : grid0.Coords) (x1 : Vec F S16x1024 .f32) (x2 : Vec F S1024x4096 .f32) (x3 : Vec F S1x4096 .f32)
    (M S : FVec F S16x1 .f32) : FVec F S16x1 .f32 :=
  k0_pay1 (k0_pay6 i x1 x2 x3) (k0_pay9 i x1 x2 x3 (mIn i M)) (sIn i S) (k0_pay10 i x1 x2 x3 (mIn i M))
/-- The third result's buffer after the point: written at the last one only. -/
def lOut (i : grid0.Coords) (M S L : FVec F S16x1 .f32) : FVec F S16x1 .f32 :=
  if k0_cond2 i = 1#1 then k0_pay3 M S else L

theorem z2 : (![0, 0] : Fin 2 → Nat) = fun _ => 0 := funext fun a => by fin_cases a <;> rfl
theorem z3 : (![0, 0, 0] : Fin 3 → Nat) = fun _ => 0 := funext fun a => by fin_cases a <;> rfl

section Whole

variable {sig' : RefSig} {κ' : Kind} {sp : Space} {T : Shape} {e : EltTy} {Val : EltTy → Type}

theorem readAt_full (v : View sig' κ' sp T e) {off : Fin T.rank → Nat} (h : off = fun _ => 0) (inb : ∀ a, off a + T.size a ≤ T.size a)
    (f : v.ty.Contents Val) : v.readAt Val (Rect.unit off T.size inb).toLoadRect f = v.read Val f := by
  exact View.ld_unit_zero h inb (v.read Val f)

theorem read_full [∀ e, Nonempty (Val e)] (v : View sig' κ' sp T e) {off : Fin T.rank → Nat} (h : off = fun _ => 0)
    (inb : ∀ a, off a + T.size a ≤ T.size a) (f : v.ty.Contents Val) (w : T.Idx → Val e) (L : List (View.Piece Val T e)) :
    v.read Val (v.writes Val f ((⟨Rect.unit off T.size inb, w⟩ : View.Piece Val T e) :: L)) = w := by
  rw [View.read_writes_eq_canon v f _ (fun y => ⟨_, List.mem_cons_self, View.mem_set_unit_zero h inb y⟩),
    View.canon_cons_unit_zero h]

theorem readCov_full [∀ e, Nonempty (Val e)] (v : View sig' κ' sp T e) {off : Fin T.rank → Nat} (h : off = fun _ => 0)
    (inb : ∀ a, off a + T.size a ≤ T.size a) (w : T.Idx → Val e) (L : List (View.Piece Val T e)) :
    v.readCov ((⟨Rect.unit off T.size inb, w⟩ : View.Piece Val T e) :: L) (Rect.unit off T.size inb).toLoadRect = w := by
  rw [View.readCov_eq_canon_ld v _ _ (fun y => ⟨_, List.mem_cons_self, View.mem_set_unit_zero h inb y⟩),
    View.canon_cons_unit_zero h, View.ld_unit_zero h]

end Whole

set_option maxHeartbeats 2000000 in
theorem sound_kernel (c : Dev nD) (E : Set ℕ) (i : grid0.Coords)
    (arg1 : Memref sig .tc .vmem S16x1024 .f32) (harg1 : arg1.IsWhole) (arg2 : Memref sig .tc .vmem S1024x4096 .f32) (harg2 : arg2.IsWhole)
    (arg3 : Memref sig .tc .vmem S1x4096 .f32) (harg3 : arg3.IsWhole) (arg4 : Memref sig .tc .vmem S16x4096 .f32) (harg4 : arg4.IsWhole)
    (arg5 : Memref sig .tc .vmem S1x16x32 .f32) (harg5 : arg5.IsWhole) (arg6 : Memref sig .tc .vmem S16x1 .f32) (harg6 : arg6.IsWhole)
    (arg7 : Memref sig .tc .vmem S16x1 .f32) (harg7 : arg7.IsWhole) (arg8 : Memref sig .tc .vmem S16x1 .f32) (harg8 : arg8.IsWhole)
    (x1 : Vec F S16x1024 .f32) (x2 : Vec F S1024x4096 .f32) (x3 : Vec F S1x4096 .f32) (x4 : Vec F S16x4096 .f32) (x5 : Vec F S1x16x32 .f32)
    (x6 M S : Vec F S16x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare M ∗ owns (c : Thread nD τ) arg8 fullShare S
        ∗ (iprop(owns (c : Thread nD τ) arg1 fullShare x1 ∗ owns (c : Thread nD τ) arg2 fullShare x2 ∗ owns (c : Thread nD τ) arg3 fullShare x3
            ∗ owns (c : Thread nD τ) arg4 fullShare (k0_pay6 i x1 x2 x3) ∗ owns (c : Thread nD τ) arg5 fullShare (k0_pay8 i x1 x2 x3)
            ∗ owns (c : Thread nD τ) arg6 fullShare (lOut i (mOut i x1 x2 x3 M) (sOut i x1 x2 x3 M S) x6)
            ∗ owns (c : Thread nD τ) arg7 fullShare (mOut i x1 x2 x3 M) ∗ owns (c : Thread nD τ) arg8 fullShare (sOut i x1 x2 x3 M S)) -∗ K ⟨⟩))
      ⊢ wp frame (wpE (defs₀ (F := F)) Variants.none c none) E
          (cc0__phase_a i arg1 harg1 arg2 harg2 arg3 harg3 arg4 harg4 arg5 harg5 arg6 harg6 arg7 harg7 arg8 harg8) K := by
  rw [cc0__phase_a_eq_skeleton]; unfold cc0__phase_a_skel; rw [k0_part1_eq_skeleton]; unfold k0_part1_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, Hk⟩
  by_cases hc1 : isFirst i
  · by_cases hc2 : k0_cond2 i = 1#1
    · sl_exec (disch := first | sl_exact hc1 | sl_exact hc2)
      sl_step
      iapply Hk
      have e1 : mIn i M = k0_pay4 := by unfold mIn; rw [if_pos hc1]
      have e2 : sIn i S = k0_pay5 := by unfold sIn; rw [if_pos hc1]
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]
      · iexists _; isplitr; swap; · iexact H4
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H5]
      · iexists _; isplitr; swap; · iexact H5
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H6]
      · iexists _; isplitr; swap; · iexact H6
        ipureintro; unfold lOut; rw [if_pos hc2]; unfold mOut sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      isplitl [H7]
      · iexists _; isplitr; swap; · iexact H7
        ipureintro; unfold mOut; rw [e1]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      · iexists _; isplitr; swap; · iexact H8
        ipureintro; unfold sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
    · sl_exec (disch := first | sl_exact hc1 | sl_exact hc2)
      sl_step
      iapply Hk
      have e1 : mIn i M = k0_pay4 := by unfold mIn; rw [if_pos hc1]
      have e2 : sIn i S = k0_pay5 := by unfold sIn; rw [if_pos hc1]
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]
      · iexists _; isplitr; swap; · iexact H4
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H5]
      · iexists _; isplitr; swap; · iexact H5
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H6]
      · iexists _; isplitr; swap; · iexact H6
        ipureintro; unfold lOut; rw [if_neg hc2]; exact h6
      isplitl [H7]
      · iexists _; isplitr; swap; · iexact H7
        ipureintro; unfold mOut; rw [e1]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      · iexists _; isplitr; swap; · iexact H8
        ipureintro; unfold sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
  · by_cases hc2 : k0_cond2 i = 1#1
    · sl_exec (disch := first | sl_exact hc1 | sl_exact hc2)
      sl_step
      iapply Hk
      have e1 : mIn i M = M := by unfold mIn; rw [if_neg hc1]
      have e2 : sIn i S = S := by unfold sIn; rw [if_neg hc1]
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]
      · iexists _; isplitr; swap; · iexact H4
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H5]
      · iexists _; isplitr; swap; · iexact H5
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H6]
      · iexists _; isplitr; swap; · iexact H6
        ipureintro; unfold lOut; rw [if_pos hc2]; unfold mOut sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      isplitl [H7]
      · iexists _; isplitr; swap; · iexact H7
        ipureintro; unfold mOut; rw [e1]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      · iexists _; isplitr; swap; · iexact H8
        ipureintro; unfold sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
    · sl_exec (disch := first | sl_exact hc1 | sl_exact hc2)
      sl_step
      iapply Hk
      have e1 : mIn i M = M := by unfold mIn; rw [if_neg hc1]
      have e2 : sIn i S = S := by unfold sIn; rw [if_neg hc1]
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]
      · iexists _; isplitr; swap; · iexact H4
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H5]
      · iexists _; isplitr; swap; · iexact H5
        ipureintro; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3]
      isplitl [H6]
      · iexists _; isplitr; swap; · iexact H6
        ipureintro; unfold lOut; rw [if_neg hc2]; exact h6
      isplitl [H7]
      · iexists _; isplitr; swap; · iexact H7
        ipureintro; unfold mOut; rw [e1]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]
      · iexists _; isplitr; swap; · iexact H8
        ipureintro; unfold sOut; rw [e1, e2]; sl_unfold_run_names
        simp only [readAt_full (T := S16x1024) _ z2, readAt_full (T := S1024x4096) _ z2, readAt_full (T := S1x4096) _ z2, readAt_full (T := S16x1) _ z2,
          read_full (T := S16x4096) _ z2, read_full (T := S1x16x32) _ z3, read_full (T := S16x1) _ z2, readCov_full (T := S16x1) _ z2, h1, h2, h3, h6, h7, h8]

end Cert.KernelAIdeal.Point

end
-- ==== Proof.AValue.lean ====
/- What one grid point's payloads are, entry by entry, over the extended reals. -/
module

public import proofs.«01_k».proof.Proof.ABody
public import Idealize.ShloMosaic.Lib.Pointwise
public import Idealize.ShloMosaic.Lib.MatmulPlain
public import Idealize.ShloMosaic.Lib.ValueIdx

@[expose] public section

set_option maxRecDepth 16384

noncomputable section

namespace Cert.KernelAIdeal.Point

open Cert.KernelAIdeal Cert.KernelAIdeal.Gen
open Idealize.ShloMosaic Idealize.ShloMosaic.TcCoe Idealize.ShloMosaic.Tactic Idealize.SL.Sem

theorem mask_eq : (Named.named (F := Ideal) κ "mask" 0xF149F2CA#32 : Ideal .f32) = (⊥ : EReal) := rfl

theorem in_vocab (a b : ℕ) (ha : a < 25) (hb : b < 4096) :
    IntOp.cmpi CmpIPredicate.slt (IntOp.addi (Scalar.muli (BitVec.ofNat 32 a) 4096#32) (BitVec.ofNat 32 b)) 100000#32
      = if a * 4096 + b < 100000 then 1#1 else 0#1 := by
  have e : IntOp.addi (Scalar.muli (BitVec.ofNat 32 a) 4096#32) (BitVec.ofNat 32 b) = BitVec.ofNat 32 (a * 4096 + b) := by
    show BitVec.ofNat 32 a * 4096#32 + BitVec.ofNat 32 b = _
    apply BitVec.eq_of_toNat_eq
    simp only [BitVec.toNat_add, BitVec.toNat_mul, BitVec.toNat_ofNat]
    omega
  rw [e]
  have h1 : (BitVec.ofNat 32 (a * 4096 + b)).toInt = ((a * 4096 + b : ℕ) : ℤ) := by
    rw [BitVec.toInt_eq_toNat_of_lt (by rw [BitVec.toNat_ofNat]; omega), BitVec.toNat_ofNat, Nat.mod_eq_of_lt (by omega)]
  have h2 : (100000#32 : BitVec 32).toInt = (100000 : ℤ) := by decide
  unfold IntOp.cmpi
  simp only [BitVec.slt, h1, h2]
  split_ifs with h
  · rw [decide_eq_true (by omega)]; rfl
  · rw [decide_eq_false (by omega)]; rfl

theorem negInf : Ideal.ofBits FTy.f32 0xFF800000#32 = (⊥ : EReal) := by
  simp [Ideal.ofBits, Ideal.ieee]

theorem foldMax {ι : Type} (s : Finset ι) (f : ι → EReal) : Finset.fold max (Ideal.ofBits FTy.f32 0xFF800000#32) f s = s.sup f := by
  rw [negInf]; rfl

theorem pay6_apply (i : grid0.Coords) (x1 : Vec Ideal S16x1024 .f32) (x2 : Vec Ideal S1024x4096 .f32) (x3 : Vec Ideal S1x4096 .f32)
    (r : Fin 16) (j : Fin 4096) :
    k0_pay6 (F := Ideal) i x1 x2 x3 (ix2 r j)
      = if (i 0).val * 4096 + j.val < 100000 then (∑ k : Fin 1024, x1 (ix2 r k) * x2 (ix2 k j)) + x3 (ix2 0 j) else (⊥ : EReal) := by
  unfold k0_pay6
  pointwise
  rw [in_vocab _ _ (i 0).isLt j.isLt, mask_eq]
  split_ifs <;> rfl

theorem pay7_apply (i : grid0.Coords) (x1 : Vec Ideal S16x1024 .f32) (x2 : Vec Ideal S1024x4096 .f32) (x3 : Vec Ideal S1x4096 .f32)
    (r : Fin 16) (g : Fin 32) :
    k0_pay7 (F := Ideal) i x1 x2 x3 (ix2 r g)
      = Finset.univ.sup fun q : Fin 128 => (k0_pay6 (F := Ideal) i x1 x2 x3 (ix2 r ⟨g.val * 128 + q.val, by omega⟩) : EReal) := by
  unfold k0_pay7
  pointwise
  exact foldMax _ _

theorem pay9_apply (i : grid0.Coords) (x1 : Vec Ideal S16x1024 .f32) (x2 : Vec Ideal S1024x4096 .f32) (x3 : Vec Ideal S1x4096 .f32)
    (M : Vec Ideal S16x1 .f32) (r : Fin 16) :
    k0_pay2 (F := Ideal) (k0_pay9 i x1 x2 x3 M) (ix2 r 0)
      = max (M (ix2 r 0)) (Finset.univ.sup fun g : Fin 32 => (k0_pay7 (F := Ideal) i x1 x2 x3 (ix2 r g) : EReal)) := by
  unfold k0_pay2 k0_pay9
  pointwise
  exact congrArg (max _) (foldMax _ _)

theorem pay1_apply (v19 : FVec Ideal S16x4096 .f32) (v29 : FVec Ideal S16x1 .f32) (v30 : Vec Ideal S16x1 .f32) (v32 : FVec Ideal S16x1 .f32) (r : Fin 16) :
    k0_pay1 (F := Ideal) v19 v29 v30 v32 (ix2 r 0)
      = v30 (ix2 r 0) * v32 (ix2 r 0) + ∑ j : Fin 4096, Ideal.exp ((v19 (ix2 r j) : EReal) - v29 (ix2 r 0)) := by
  unfold k0_pay1
  pointwise

theorem pay8_apply (i : grid0.Coords) (x1 : Vec Ideal S16x1024 .f32) (x2 : Vec Ideal S1024x4096 .f32) (x3 : Vec Ideal S1x4096 .f32)
    (r : Fin 16) (g : Fin 32) :
    k0_pay8 (F := Ideal) i x1 x2 x3 (ix3 0 r g) = k0_pay7 (F := Ideal) i x1 x2 x3 (ix2 r g) := by
  unfold k0_pay8
  pointwise

theorem pay3_apply (M S : Vec Ideal S16x1 .f32) (r : Fin 16) :
    k0_pay3 (F := Ideal) M S (ix2 r 0) = (M (ix2 r 0) : EReal) + Ideal.log (S (ix2 r 0)) := by
  unfold k0_pay3
  pointwise

theorem pay4_apply (r : Fin 16) : k0_pay4 (F := Ideal) (ix2 r 0) = (⊥ : EReal) := by
  unfold k0_pay4
  pointwise
  exact negInf

theorem pay5_apply (r : Fin 16) : k0_pay5 (F := Ideal) (ix2 r 0) = (0 : EReal) := by
  unfold k0_pay5
  pointwise

theorem pay10_apply (i : grid0.Coords) (x1 : Vec Ideal S16x1024 .f32) (x2 : Vec Ideal S1024x4096 .f32) (x3 : Vec Ideal S1x4096 .f32)
    (M : Vec Ideal S16x1 .f32) (r : Fin 16) :
    k0_pay10 (F := Ideal) i x1 x2 x3 M (ix2 r 0)
      = Ideal.exp ((M (ix2 r 0) : EReal) - k0_pay9 (F := Ideal) i x1 x2 x3 M (ix2 r 0)) := by
  unfold k0_pay10
  pointwise

end Cert.KernelAIdeal.Point

end
-- ==== Proof.AMath.lean ====
/- The running maximum and the running sum of exponentials of a sequence of extended reals: how each grows by a block
   of further terms, and that terms at minus infinity change neither. -/
module

public import Idealize.ShloMosaic.PureOps.Ideal

@[expose] public section

noncomputable section

namespace Cert.Online

open Idealize.ShloMosaic

theorem exp_nonneg (x : EReal) : 0 ≤ Ideal.exp x := by
  induction x using EReal.rec with
  | bot => exact le_refl _
  | top => exact le_top
  | coe r => rw [Ideal.exp_coe]; exact_mod_cast (Real.exp_pos r).le

/-- Rescaling one exponential from an old bound to a new one. -/
theorem exp_mul_exp {a M M' : EReal} (h1 : a ≤ M) (h2 : M ≤ M') :
    Ideal.exp (a - M) * Ideal.exp (M - M') = Ideal.exp (a - M') := by
  induction M' using EReal.rec with
  | bot =>
    have hM : M = ⊥ := le_bot_iff.1 h2
    subst hM
    have ha : a = ⊥ := le_bot_iff.1 h1
    subst ha
    simp [EReal.bot_sub]
  | top => simp [EReal.sub_top]
  | coe m' =>
    induction M using EReal.rec with
    | bot =>
      have ha : a = ⊥ := le_bot_iff.1 h1
      subst ha
      simp [EReal.bot_sub]
    | top => exact absurd h2 (by simp)
    | coe m =>
      induction a using EReal.rec with
      | bot => simp [EReal.bot_sub]
      | top => exact absurd h1 (by simp)
      | coe a =>
        rw [← EReal.coe_sub, ← EReal.coe_sub, ← EReal.coe_sub, Ideal.exp_coe, Ideal.exp_coe, Ideal.exp_coe, ← EReal.coe_mul,
          ← Real.exp_add]
        congr 2; ring

theorem sum_mul_of_nonneg {ι : Type} (s : Finset ι) (f : ι → EReal) (c : EReal) (hf : ∀ i, 0 ≤ f i) :
    (∑ i ∈ s, f i) * c = ∑ i ∈ s, f i * c := by
  classical
  induction s using Finset.induction_on with
  | empty => simp
  | insert i s hi ih =>
    rw [Finset.sum_insert hi, Finset.sum_insert hi, ← ih]
    exact EReal.right_distrib_of_nonneg (hf i) (Finset.sum_nonneg fun j _ => hf j)

/-- The maximum of the first `T` terms. -/
def top (a : ℕ → EReal) (T : ℕ) : EReal := (Finset.range T).sup a
/-- The sum of the exponentials of the first `T` terms, each less their maximum. -/
def mass (a : ℕ → EReal) (T : ℕ) : EReal := ∑ n ∈ Finset.range T, Ideal.exp (a n - top a T)

theorem top_zero (a : ℕ → EReal) : top a 0 = ⊥ := rfl
theorem mass_zero (a : ℕ → EReal) : mass a 0 = 0 := rfl

theorem top_add (a : ℕ → EReal) (T K : ℕ) : top a (T + K) = max (top a T) ((Finset.range K).sup fun j => a (T + j)) := by
  unfold top
  induction K with
  | zero => simp
  | succ K ih =>
    rw [← Nat.add_assoc, Finset.range_add_one, Finset.range_add_one, Finset.sup_insert, Finset.sup_insert, ih]
    rw [← sup_assoc, sup_comm (a _), sup_assoc, sup_comm (a _)]

theorem le_top {a : ℕ → EReal} {T n : ℕ} (h : n < T) : a n ≤ top a T := Finset.le_sup (f := a) (Finset.mem_range.2 h)

theorem top_mono (a : ℕ → EReal) {T T' : ℕ} (h : T ≤ T') : top a T ≤ top a T' :=
  Finset.sup_mono (Finset.range_mono h)

theorem mass_add (a : ℕ → EReal) (T K : ℕ) :
    mass a (T + K) = mass a T * Ideal.exp (top a T - top a (T + K)) + ∑ j ∈ Finset.range K, Ideal.exp (a (T + j) - top a (T + K)) := by
  unfold mass
  rw [Finset.sum_range_add, sum_mul_of_nonneg _ _ _ fun _ => exp_nonneg _]
  congr 1
  exact Finset.sum_congr rfl fun n hn => (exp_mul_exp (le_top (Finset.mem_range.1 hn)) (top_mono a (Nat.le_add_right _ _))).symm

theorem top_pad (a : ℕ → EReal) (T K : ℕ) (h : ∀ n, T ≤ n → a n = ⊥) : top a (T + K) = top a T := by
  rw [top_add]
  have : ((Finset.range K).sup fun j => a (T + j)) = ⊥ := by
    rw [Finset.sup_eq_bot_iff]; exact fun j _ => h _ (Nat.le_add_right _ _)
  rw [this]; exact max_eq_left bot_le

theorem mass_pad (a : ℕ → EReal) (T K : ℕ) (h : ∀ n, T ≤ n → a n = ⊥) : mass a (T + K) = mass a T := by
  unfold mass
  rw [Finset.sum_range_add, top_pad a T K h]
  rw [Finset.sum_eq_zero (s := Finset.range K) fun j _ => by rw [h _ (Nat.le_add_right _ _), EReal.bot_sub]; rfl, add_zero]

/-- A maximum over a block, taken group by group. -/
theorem sup_groups (f : ℕ → EReal) (A B : ℕ) :
    (Finset.univ.sup fun g : Fin A => Finset.univ.sup fun q : Fin B => f (g.val * B + q.val)) = (Finset.range (A * B)).sup f := by
  apply le_antisymm
  · refine Finset.sup_le fun g _ => Finset.sup_le fun q _ => Finset.le_sup (f := f) (Finset.mem_range.2 ?_)
    have := Nat.mul_le_mul_right B g.isLt
    have := q.isLt
    rw [Nat.succ_mul] at *
    omega
  · refine Finset.sup_le fun n hn => ?_
    have hn := Finset.mem_range.1 hn
    have hB : 0 < B := Nat.pos_of_ne_zero (by rintro rfl; simp at hn)
    refine le_trans ?_ (Finset.le_sup (f := fun g : Fin A => Finset.univ.sup fun q : Fin B => f (g.val * B + q.val))
      (Finset.mem_univ ⟨n / B, by rwa [Nat.div_lt_iff_lt_mul hB]⟩))
    refine le_trans (le_of_eq ?_) (Finset.le_sup (f := fun q : Fin B => f (n / B * B + q.val)) (Finset.mem_univ ⟨n % B, Nat.mod_lt _ hB⟩))
    show f n = f (n / B * B + n % B)
    rw [Nat.mul_comm, Nat.div_add_mod]

theorem sup_fin (f : ℕ → EReal) (A : ℕ) : (Finset.univ.sup fun g : Fin A => f g.val) = (Finset.range A).sup f := by
  apply le_antisymm
  · exact Finset.sup_le fun g _ => Finset.le_sup (f := f) (Finset.mem_range.2 g.isLt)
  · exact Finset.sup_le fun n hn => Finset.le_sup (f := fun g : Fin A => f g.val) (Finset.mem_univ ⟨n, Finset.mem_range.1 hn⟩)

end Cert.Online

end
-- ==== Proof.AData.lean ====
/- The logits kernel over the extended reals: what each grid point's payloads are, in terms of the arguments. -/
module

public import proofs.«01_k».proof.Proof.AValue
public import proofs.«01_k».proof.Proof.AMath
public import proofs.«01_k».proof.Proof.Gen.KernelAIdeal.Launch
public import proofs.«01_k».proof.Proof.Gen.KernelAIdeal.Points
public import Idealize.ShloMosaic.Lib.Pipeline.ValueKit.Geometry
public import Idealize.ShloMosaic.Lib.StableHlo.ReadAt

@[expose] public section

set_option maxRecDepth 16384

noncomputable section

namespace Cert.KernelAIdeal.Point

open Cert.KernelAIdeal Cert.KernelAIdeal.Gen
open Idealize.ShloMosaic Idealize.ShloMosaic.TcCoe Idealize.ShloMosaic.Tactic Idealize.SL.Sem
open Idealize.ShloMosaic.Pipeline (Window)

variable (m : (ℓ : Loc nD τ sig) → Buf (Elt Ideal) ℓ) (c : Dev nD)

/-- The logit of row `r` at column `n`, with minus infinity past the vocabulary. -/
def lg (x0 : Vec Ideal S16x1024 .f32) (x1 : Vec Ideal S1024x100000 .f32) (x2 : Vec Ideal S100000 .f32) (r : Fin 16) (n : ℕ) : EReal :=
  if h : n < 100000 then (∑ k : Fin 1024, (x0 (ix2 r k) : EReal) * x1 (ix2 k ⟨n, h⟩)) + x2 (ix1 ⟨n, h⟩) else ⊥

/-- The same of the arguments a memory holds. -/
abbrev lgm (r : Fin 16) (n : ℕ) : EReal :=
  lg (m ((c.tc : Thread nD τ).loc main_arg0)) (m ((c.tc : Thread nD τ).loc main_arg1)) (m ((c.tc : Thread nD τ).loc main_arg2)) r n

theorem coord_val : ∀ t : Fin cfg0.N, ((grid0.coords t) 0).val = t.val :=
  (by decide +kernel : ∀ t : Fin grid0.N, ((grid0.coords t) 0).val = t.val)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem xs1 : ∀ t : Fin grid0.N, win0_1.xsize (grid0.coords t) 0 = 1024 ∧ win0_1.xsize (grid0.coords t) 1 = min 4096 (100000 - t.val * 4096) := by
  decide +kernel
theorem xs2 : ∀ t : Fin grid0.N, win0_2.xsize (grid0.coords t) 0 = 1 ∧ win0_2.xsize (grid0.coords t) 1 = min 4096 (100000 - t.val * 4096) := by
  decide +kernel

theorem V_main_v0 (n : Fin 100000) : (V m c main_v0 : Vec Ideal S1x100000 .f32) (ix2 0 n) = m ((c.tc : Thread nD τ).loc main_arg2) (ix1 n) := by
  unfold V hostOps0
  after_reads_at

theorem blk0 (t : Fin cfg0.N) (r : Fin 16) (k : Fin 1024) :
    (iblk m c 0 t : Vec Ideal S16x1024 .f32) (ix2 r k) = m ((c.tc : Thread nD τ).loc main_arg0) (ix2 r k) := by
  rw [← V_main_arg0 m c]
  blk_ext [iblk, idx0 t]

theorem blk1 (t : Fin cfg0.N) (d : Vec Ideal S1024x4096 .f32) (k : Fin 1024) (j : Fin 4096) (h : t.val * 4096 + j.val < 100000) :
    (win0_1.fill (grid0.coords t) d (iblk m c 1 t) : Vec Ideal S1024x4096 .f32) (ix2 k j)
      = m ((c.tc : Thread nD τ).loc main_arg1) (ix2 k ⟨t.val * 4096 + j.val, h⟩) := by
  have hm : win0_1.moved (grid0.coords t) (ix2 k j) = true := by
    rw [Window.moved_iff]
    intro a
    fin_cases a
    · exact lt_of_lt_of_eq k.isLt (xs1 t).1.symm
    · refine lt_of_lt_of_eq ?_ (xs1 t).2.symm
      show j.val < _
      have := j.isLt
      omega
  unfold Window.fill
  rw [dif_pos hm, ← V_main_arg1 m c]
  blk_ext [iblk, idx1 t]

theorem blk2 (t : Fin cfg0.N) (d : Vec Ideal S1x4096 .f32) (j : Fin 4096) (h : t.val * 4096 + j.val < 100000) :
    (win0_2.fill (grid0.coords t) d (iblk m c 2 t) : Vec Ideal S1x4096 .f32) (ix2 0 j)
      = m ((c.tc : Thread nD τ).loc main_arg2) (ix1 ⟨t.val * 4096 + j.val, h⟩) := by
  have hm : win0_2.moved (grid0.coords t) (ix2 0 j) = true := by
    rw [Window.moved_iff]
    intro a
    fin_cases a
    · exact lt_of_lt_of_eq (Nat.zero_lt_one) (xs2 t).1.symm
    · refine lt_of_lt_of_eq ?_ (xs2 t).2.symm
      show j.val < _
      have := j.isLt
      omega
  unfold Window.fill
  rw [dif_pos hm, ← V_main_v0 m c]
  blk_ext [iblk, idx2 t]

end Cert.KernelAIdeal.Point

end
-- ==== Proof.AStep.lean ====
/- One grid point of the logits kernel over the extended reals: the block of logits it stores, the maxima of the
   block's groups, and how it carries the running maximum and sum of exponentials on. -/
module

public import proofs.«01_k».proof.Proof.AData

@[expose] public section

set_option maxRecDepth 16384

noncomputable section

namespace Cert.KernelAIdeal.Point

open Cert.KernelAIdeal Cert.KernelAIdeal.Gen Cert.Online
open Idealize.ShloMosaic Idealize.ShloMosaic.TcCoe Idealize.ShloMosaic.Tactic Idealize.SL.Sem
open Idealize.ShloMosaic.Pipeline (Window)

variable (m : (ℓ : Loc nD τ sig) → Buf (Elt Ideal) ℓ) (c : Dev nD)

/-- The running maximum before grid point `t`. -/
def Mv (t : ℕ) : Vec Ideal S16x1 .f32 := fun i => (top (lgm m c (i 0)) (t * 4096) : EReal)
/-- The running sum of exponentials before grid point `t`. -/
def Sv (t : ℕ) : Vec Ideal S16x1 .f32 := fun i => (mass (lgm m c (i 0)) (t * 4096) : EReal)
/-- The logits of grid point `t`'s block. -/
def lgBlk (t : ℕ) : Vec Ideal S16x4096 .f32 := fun i => (lgm m c (i 0) (t * 4096 + (i 1).val) : EReal)
/-- The maxima of the groups of grid point `t`'s block. -/
def gmBlk (t : ℕ) : Vec Ideal S1x16x32 .f32 := fun i =>
  (Finset.univ.sup fun q : Fin 128 => lgm m c (i 1) (t * 4096 + ((i 2).val * 128 + q.val)) : EReal)
/-- The logarithm of each row's sum of exponentials. -/
def lseV : Vec Ideal S16x1 .f32 := fun i => (top (lgm m c (i 0)) 102400 + Ideal.log (mass (lgm m c (i 0)) 102400) : EReal)

theorem ext_col {X Y : Vec Ideal S16x1 .f32} (h : ∀ r : Fin 16, X (ix2 r 0) = Y (ix2 r 0)) : X = Y := by
  funext i
  rw [show i = ix2 (i 0) (0 : Fin 1) from by
    refine (eq_ix2 i).trans ?_
    congr 1
    exact Subsingleton.elim (α := Fin 1) _ _]
  exact h _

theorem isFirst_iff : ∀ t : Fin cfg0.N, isFirst (grid0.coords t) ↔ t.val = 0 :=
  (by decide +kernel : ∀ t : Fin grid0.N, isFirst (grid0.coords t) ↔ t.val = 0)

theorem cond2_iff : ∀ t : Fin cfg0.N, k0_cond2 (grid0.coords t) = 1#1 ↔ t.val = 24 :=
  (by decide +kernel : ∀ t : Fin grid0.N, k0_cond2 (grid0.coords t) = 1#1 ↔ t.val = 24)

section Tile

variable (t : Fin cfg0.N) (d1 : Vec Ideal S1024x4096 .f32) (d2 : Vec Ideal S1x4096 .f32)

/-- The blocks the point's payloads read. -/
abbrev B0 : Vec Ideal S16x1024 .f32 := iblk m c 0 t
abbrev B1 : Vec Ideal S1024x4096 .f32 := win0_1.fill (grid0.coords t) d1 (iblk m c 1 t)
abbrev B2 : Vec Ideal S1x4096 .f32 := win0_2.fill (grid0.coords t) d2 (iblk m c 2 t)

theorem pay6_tile (r : Fin 16) (j : Fin 4096) :
    k0_pay6 (F := Ideal) (grid0.coords t) (B0 m c t) (B1 m c t d1) (B2 m c t d2) (ix2 r j) = (lgm m c r (t.val * 4096 + j.val) : EReal) := by
  rw [pay6_apply, coord_val]
  unfold lgm lg
  by_cases h : t.val * 4096 + j.val < 100000
  · rw [if_pos h, dif_pos h]
    refine congrArg₂ (fun a b : EReal => a + b) (Finset.sum_congr rfl fun k _ => ?_) (blk2 m c t d2 j h)
    exact congrArg₂ (fun a b : EReal => a * b) (blk0 m c t r k) (blk1 m c t d1 k j h)
  · rw [if_neg h, dif_neg h]

theorem pay6_eq : k0_pay6 (F := Ideal) (grid0.coords t) (B0 m c t) (B1 m c t d1) (B2 m c t d2) = lgBlk m c t.val := by
  funext i
  rw [eq_ix2 i]
  exact pay6_tile m c t d1 d2 _ _

theorem pay7_tile (r : Fin 16) (g : Fin 32) :
    k0_pay7 (F := Ideal) (grid0.coords t) (B0 m c t) (B1 m c t d1) (B2 m c t d2) (ix2 r g)
      = (Finset.univ.sup fun q : Fin 128 => lgm m c r (t.val * 4096 + (g.val * 128 + q.val)) : EReal) := by
  rw [pay7_apply]
  exact congrArg _ (funext fun q => pay6_tile m c t d1 d2 r _)

theorem pay8_eq : k0_pay8 (F := Ideal) (grid0.coords t) (B0 m c t) (B1 m c t d1) (B2 m c t d2) = gmBlk m c t.val := by
  funext i
  rw [show i = ix3 (0 : Fin 1) (i 1) (i 2) from by
    refine (eq_ix3 i).trans ?_
    congr 1
    exact Subsingleton.elim (α := Fin 1) _ _]
  exact (pay8_apply _ _ _ _ _ _).trans (pay7_tile m c t d1 d2 _ _)

/-- The maximum of the block is the maximum of its groups' maxima. -/
theorem blockMax (r : Fin 16) :
    (Finset.univ.sup fun g : Fin 32 => (k0_pay7 (F := Ideal) (grid0.coords t) (B0 m c t) (B1 m c t d1) (B2 m c t d2) (ix2 r g) : EReal))
      = (Finset.range 4096).sup fun j => lgm m c r (t.val * 4096 + j) := by
  rw [← sup_groups (fun j => lgm m c r (t.val * 4096 + j)) 32 128]
  exact congrArg _ (funext fun g => pay7_tile m c t d1 d2 r g)

variable {M S : Vec Ideal S16x1 .f32}

theorem mIn_eq (hM : t.val ≠ 0 → M = Mv m c t.val) : mIn (F := Ideal) (grid0.coords t) M = Mv m c t.val := by
  unfold mIn
  by_cases h : t.val = 0
  · rw [if_pos ((isFirst_iff t).2 h), h]
    exact ext_col fun r => (pay4_apply r).trans (by show _ = (top _ (0 * 4096) : EReal); rw [Nat.zero_mul, top_zero])
  · rw [if_neg (mt (isFirst_iff t).1 h), hM h]

theorem sIn_eq (hS : t.val ≠ 0 → S = Sv m c t.val) : sIn (F := Ideal) (grid0.coords t) S = Sv m c t.val := by
  unfold sIn
  by_cases h : t.val = 0
  · rw [if_pos ((isFirst_iff t).2 h), h]
    exact ext_col fun r => (pay5_apply r).trans (by show _ = (mass _ (0 * 4096) : EReal); rw [Nat.zero_mul, mass_zero])
  · rw [if_neg (mt (isFirst_iff t).1 h), hS h]

theorem pay2_apply (X : FVec Ideal S16x1 .f32) (r : Fin 16) : k0_pay2 (F := Ideal) X (ix2 r 0) = X (ix2 r 0) := by
  unfold k0_pay2
  pointwise

theorem pay9_tile (r : Fin 16) :
    k0_pay9 (F := Ideal) (grid0.coords t) (B0 m c t) (B1 m c t d1) (B2 m c t d2) (Mv m c t.val) (ix2 r 0)
      = (top (lgm m c r) ((t.val + 1) * 4096) : EReal) := by
  have h := pay9_apply (grid0.coords t) (B0 m c t) (B1 m c t d1) (B2 m c t d2) (Mv m c t.val) r
  rw [blockMax, pay2_apply] at h
  rw [show (t.val + 1) * 4096 = t.val * 4096 + 4096 by omega, top_add]
  exact h

theorem mOut_eq (hM : t.val ≠ 0 → M = Mv m c t.val) :
    mOut (F := Ideal) (grid0.coords t) (B0 m c t) (B1 m c t d1) (B2 m c t d2) M = Mv m c (t.val + 1) := by
  unfold mOut
  rw [mIn_eq m c t hM]
  exact ext_col fun r => (pay2_apply _ r).trans (pay9_tile m c t d1 d2 r)

theorem sOut_eq (hM : t.val ≠ 0 → M = Mv m c t.val) (hS : t.val ≠ 0 → S = Sv m c t.val) :
    sOut (F := Ideal) (grid0.coords t) (B0 m c t) (B1 m c t d1) (B2 m c t d2) M S = Sv m c (t.val + 1) := by
  unfold sOut
  rw [mIn_eq m c t hM, sIn_eq m c t hS]
  refine ext_col fun r => ?_
  rw [pay1_apply, pay10_apply, pay9_tile]
  show _ = (mass (lgm m c r) ((t.val + 1) * 4096) : EReal)
  rw [show (t.val + 1) * 4096 = t.val * 4096 + 4096 by omega, mass_add]
  refine congrArg₂ (fun a b : EReal => a + b) rfl ?_
  rw [← Fin.sum_univ_eq_sum_range (fun j => Ideal.exp (lgm m c r (t.val * 4096 + j) - top (lgm m c r) (t.val * 4096 + 4096))) 4096]
  exact Finset.sum_congr rfl fun j _ => by rw [pay6_tile]

theorem pay3_eq : k0_pay3 (F := Ideal) (Mv m c 25) (Sv m c 25) = lseV m c :=
  ext_col fun r => pay3_apply _ _ r

end Tile

end Cert.KernelAIdeal.Point

end
-- ==== Proof.ARun.lean ====
/- The run of the logits kernel over the extended reals: what its three result arrays end holding. -/
module

public import proofs.«01_k».proof.Proof.AStep

@[expose] public section

set_option maxRecDepth 16384

noncomputable section

namespace Cert.KernelAIdeal.Point

open Cert.KernelAIdeal Cert.KernelAIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The invariant between grid points: past the first, the two scratch buffers hold the running maximum and sum. -/
def Phi (c : Dev nD) (t : ℕ) : sProp 𝕄 :=
  iprop((∃ M S, ⌜t ≠ 0 → M = Mv m c t ∧ S = Sv m c t⌝
      ∗ owns (c : Thread nD τ) (Memref.whole cc0_scratch0) fullShare M
      ∗ owns (c : Thread nD τ) (Memref.whole cc0_scratch1) fullShare S) ∗ ∃ r, prngReg c r)

def afterV (c : Dev nD) (w : Fin cfg0.W) (t : Fin cfg0.N) : (cfg0.win w).block.Idx → Elt Ideal (cfg0.win w).elt :=
  match w with
  | 0 => iblk m c 0 t
  | 1 => win0_1.fill (grid0.coords t) (fun _ => (0 : EReal)) (iblk m c 1 t)
  | 2 => win0_2.fill (grid0.coords t) (fun _ => (0 : EReal)) (iblk m c 2 t)
  | 3 => lgBlk m c t.val
  | 4 => gmBlk m c t.val
  | 5 => lseV m c
  | ⟨_ + 6, h⟩ => absurd h (Nat.not_lt.2 (Nat.le_add_left _ _))

def dats (_ : Fin 1) (c : Dev nD) : Dat τ (Elt Ideal) Unit ℕ (UR sig nD τ) ℕ cfg0 c where
  A w := V m c (Pipeline.arrRef spec0 w)
  after w t := afterV m c w t
  Φ t := Phi m c t.val
  q _ := fullShare
  owed _ := 0

theorem A_eq (c : Dev nD) (w : Fin cfg0.W) : (dats m 0 c).A w = V m c (Pipeline.arrRef spec0 w) := by dsimp only [dats]

theorem PhiA_eq (c : Dev nD) : (Pipeline.ΦA (Val := Elt Ideal) (U := UR sig nD τ) spec0 c : sProp 𝕄)
    = iprop(((∃ f, owns (c : Thread nD τ) (Memref.whole cc0_scratch0) fullShare f)
        ∗ (∃ f, owns (c : Thread nD τ) (Memref.whole cc0_scratch1) fullShare f)) ∗ ∃ r, prngReg c r) := by
  unfold Pipeline.ΦA; rw [scopedRest0_eq]
  simp only [owns_whole]

theorem hin (c : Dev nD) : Pipeline.ΦA (Val := Elt Ideal) (U := UR sig nD τ) spec0 c ⊢ (dats m 0 c).Φ 0 := by
  rw [PhiA_eq]
  show _ ⊢ Phi m c 0
  unfold Phi
  iintro ⟨⟨⟨%M, HM⟩, ⟨%S, HS⟩⟩, Hr⟩
  isplitr [Hr]
  · iexists M, S
    isplitr; · ipureintro; exact fun h => absurd rfl h
    isplitl [HM]; · iexact HM
    iexact HS
  · iexact Hr

theorem hout (c : Dev nD) : (dats m 0 c).Φ (Fin.last cfg0.N) ⊢ Pipeline.ΦA (Val := Elt Ideal) (U := UR sig nD τ) spec0 c := by
  rw [PhiA_eq]
  show Phi m c _ ⊢ _
  unfold Phi
  iintro ⟨⟨%M, %S, %h, HM, HS⟩, Hr⟩
  isplitr [Hr]
  · isplitl [HM]
    · iexists M; iexact HM
    · iexists S; iexact HS
  · iexact Hr

theorem before_0 (c : Dev nD) (t : Fin cfg0.N) (d) : (dats m 0 c).before 0 t d = B0 m c t :=
  before0_0_of m (dats m 0 c) (A_eq m c 0) (fun _ => rfl) t d
theorem before_1 (c : Dev nD) (t : Fin cfg0.N) (d) : (dats m 0 c).before 1 t d = B1 m c t d := by
  unfold Dat.before; rw [if_pos (fetch0_1 t)]; rfl
theorem before_2 (c : Dev nD) (t : Fin cfg0.N) (d) : (dats m 0 c).before 2 t d = B2 m c t d := by
  unfold Dat.before; rw [if_pos (fetch0_2 t)]; rfl

/-- The third result's buffer after a point: written at the last point, otherwise as the point found it. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem post5_of (c : Dev nD) (t : Fin cfg0.N) (d) :
    owns (c : Thread nD τ) (st0_5 t) fullShare
        (lOut (F := Ideal) (grid0.coords t) (Mv m c (t.val + 1)) (Sv m c (t.val + 1)) ((dats m 0 c).before 5 t d))
      ⊢ post5 m c t := by
  unfold post5 lOut
  by_cases h : k0_cond2 (grid0.coords t) = 1#1
  · have e : cfg0.idle 5 (cfg0.grid.coords t) = false := by
      show (!(k0_cond2 (grid0.coords t) == 1#1)) = false
      rw [h]; rfl
    rw [e, if_pos h, (cond2_iff t).1 h, pay3_eq]
    exact .rfl
  · have e : cfg0.idle 5 (cfg0.grid.coords t) = true := by
      show (!(k0_cond2 (grid0.coords t) == 1#1)) = true
      simp [h]
    have hf : (cfg0.win 5).flush t = false := by
      rw [Bool.eq_false_iff]
      intro hf
      have h1 := (flush0_5 t).1 hf
      have h2 : t.val < 25 := t.isLt
      exact h ((cond2_iff t).2 (by omega))
    rw [e, hf, if_neg h]
    iintro H
    iexists d
    iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ post5 m c t)

theorem cut1 (c : Dev nD) (t : Fin cfg0.N) : win0_1.cut (grid0.coords t) ((dats m 0 c).after 1 t) = iblk m c 1 t :=
  win0_1.cut_fill _ _ _
theorem cut2 (c : Dev nD) (t : Fin cfg0.N) : win0_2.cut (grid0.coords t) ((dats m 0 c).after 2 t) = iblk m c 2 t :=
  win0_2.cut_fill _ _ _

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl, cut1, cut2]
  unfold Phi
  iintro ⟨⟨⟨%M, %S, %h, HM, HS⟩, Hr⟩, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2]
  iapply (sound_kernel (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (Memref.whole cc0_scratch0) (Memref.isWhole_whole _)
    (Memref.whole cc0_scratch1) (Memref.isWhole_whole _) (B0 m c t) (B1 m c t d1) (B2 m c t d2)
    ((dats m 0 c).before 3 t d3) ((dats m 0 c).before 4 t d4) ((dats m 0 c).before 5 t d5) M S _)
  rw [mOut_eq m c t d1 d2 fun e => (h e).1, sOut_eq m c t d1 d2 (fun e => (h e).1) fun e => (h e).2, pay6_eq, pay8_eq]
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HS]; · iexact HS
  iintro ⟨H0, H1, H2, H3, H4, H5, HM, HS⟩
  isplitl [HM HS Hr]
  · isplitl [HM HS]
    · iexists _, _
      isplitr; · ipureintro; exact fun _ => ⟨rfl, rfl⟩
      isplitl [HM]; · iexact HM
      iexact HS
    · iexact Hr
  isplitl [Ho]; · iexact Ho
  isplitl [H0]; · iexact H0
  isplitl [H1]; · iexists d1; iexact H1
  isplitl [H2]; · iexists d2; iexact H2
  isplitl [H3]; · iexact H3
  isplitl [H4]; · iexact H4
  iapply (post5_of m c t d5)
  iexact H5

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelAIdeal.Point

end
-- ==== Proof.AFinal.lean ====
/- The logits kernel's three result arrays after the run, each as one array. -/
module

public import proofs.«01_k».proof.Proof.ARun

@[expose] public section

set_option maxRecDepth 16384

noncomputable section

namespace Cert.KernelAIdeal.Point

open Cert.KernelAIdeal Cert.KernelAIdeal.Gen Cert.Online
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The logits, with minus infinity past the vocabulary. -/
def lgArr (c : Dev nD) : Vec Ideal S16x102400 .f32 := fun i => (lgm m c (i 0) (i 1).val : EReal)
/-- The maxima of the groups. -/
def gmArr (c : Dev nD) : Vec Ideal S25x16x32 .f32 := fun i =>
  (Finset.univ.sup fun q : Fin 128 => lgm m c (i 1) ((i 0).val * 4096 + ((i 2).val * 128 + q.val)) : EReal)

theorem idx3 : ∀ t : Fin grid0.N, win0_3.index t = ![0, t.val] := by decide +kernel
theorem idx4 : ∀ t : Fin grid0.N, win0_4.index t = ![t.val, 0, 0] := by decide +kernel

theorem lg_congr (c : Dev nD) {r r' : Fin 16} {n n' : ℕ} (hr : r = r') (hn : n = n') : lgm m c r n = lgm m c r' n' := by
  subst hr; subst hn; rfl

theorem final3 (c : Dev nD) : (dats m 0 c).arrAt 3 cfg0.N = lgArr m c := by
  refine (dats m 0 c).arrAt_eq_of_covers 3 _ (by decide +kernel) fun t hf y => ?_
  blk_simp
  show lgBlk m c t.val _ = lgArr m c _
  unfold lgBlk lgArr
  refine lg_congr m c (Fin.ext ?_) ?_
  · blk_simp [idx3 t]
  · blk_simp [idx3 t]

theorem final4 (c : Dev nD) : (dats m 0 c).arrAt 4 cfg0.N = gmArr m c := by
  refine (dats m 0 c).arrAt_eq_of_covers 4 _ (by decide +kernel) fun t hf y => ?_
  blk_simp
  show gmBlk m c t.val _ = gmArr m c _
  unfold gmBlk gmArr
  refine congrArg _ (funext fun q => lg_congr m c (Fin.ext ?_) ?_)
  · blk_simp [idx4 t]
  · blk_simp [idx4 t]

/-- The last grid point. -/
abbrev tLast : Fin cfg0.N := ⟨24, by decide⟩

theorem final5 (c : Dev nD) : (dats m 0 c).arrAt 5 cfg0.N = lseV m c := by
  refine (dats m 0 c).arrAt_eq_of_after_last 5 tLast (by decide +kernel) _ fun j => ?_
  blk_simp
  rfl

/-- The kernel's run: its three results, its arguments unchanged, every counter at zero. -/
theorem run_value : θ_run defs (onTc (τ := τ) (main (F := Ideal))) ⟨m, fun _ => 0, ρ⟩ (fun r => (∀ c : Dev nD,
      r.2.mem ((c.tc : Thread nD τ).loc main_v1_0) = lgArr m c
      ∧ r.2.mem ((c.tc : Thread nD τ).loc main_v1_1) = gmArr m c
      ∧ r.2.mem ((c.tc : Thread nD τ).loc main_v1_2) = lseV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.out_eq c 3).trans (final3 m c), (h.1.out_eq c 4).trans (final4 m c),
      (h.1.out_eq c 5).trans (final5 m c), (h.1.in_eq c 0 rfl).trans (V_main_arg0 m c), (h.1.in_eq c 1 rfl).trans (V_main_arg1 m c),
      ((h.1 c).2 main_arg2 (Pipeline.mem_restRefs_of main_arg2 (by decide) (by decide))).trans (V_main_arg2 m c)⟩, h.2⟩) (run_main m ρ)

end Cert.KernelAIdeal.Point

end
-- ==== Proof.AEqual.lean ====
/- The logits reference's three results, entry by entry, are the kernel's. -/
module

public import proofs.«01_k».proof.Proof.AData
public import proofs.«01_k».proof.Proof.Gen.ReferenceAIdeal

@[expose] public section

set_option maxRecDepth 16384

noncomputable section

namespace Cert.KernelAIdeal.Point

open Cert.ReferenceAIdeal Cert.ReferenceAIdeal.Gen Cert.Online
open Idealize.ShloMosaic Idealize.ShloMosaic.TcCoe Idealize.ShloMosaic.Tactic Idealize.SL.Sem

variable (x0 : FVec Ideal S16x1024 .f32) (x1 : FVec Ideal S1024x100000 .f32) (x2 : FVec Ideal S100000 .f32)

theorem ext_col' {X Y : FVec Ideal S16x1 .f32} (h : ∀ r : Fin 16, X (ix2 r 0) = Y (ix2 r 0)) : X = Y := by
  funext i
  rw [show i = ix2 (i 0) (0 : Fin 1) from by
    refine (eq_ix2 i).trans ?_
    congr 1
    exact Subsingleton.elim (α := Fin 1) _ _]
  exact h _

/-- The reference's logits. -/
abbrev refLogits : FVec Ideal S16x100000 .f32 :=
  addf (F := Ideal) (φ := .f32) (Host.dotGeneral (F := Ideal) dot_S16x1024_S1024x100000_S16x100000_1_0_0_1_n_n none x0 x1)
    (broadcastInDim S16x100000 ![0, 1] bcast_S1x100000_S16x100000_0_1 (broadcastInDim S1x100000 ![1] bcast_S100000_S1x100000_1 x2))

/-- The reference's padded logits. -/
abbrev refPadded : FVec Ideal S16x102400 .f32 :=
  pad S16x102400 ![0, 0] ![0, 2400] ![0, 0] (refLogits x0 x1 x2) (id (constant (F := Ideal) S_ .f32 0xFF800000#32)) pads_S16x100000_S16x102400_000_024000 h_S_

theorem refLogits_apply (r : Fin 16) (n : Fin 100000) : refLogits x0 x1 x2 (ix2 r n) = (lg x0 x1 x2 r n.val : EReal) := by
  unfold refLogits lg
  rw [dif_pos n.isLt]
  pointwise

theorem refPadded_apply (r : Fin 16) (n : Fin 102400) : refPadded x0 x1 x2 (ix2 r n) = (lg x0 x1 x2 r n.val : EReal) := by
  by_cases h : n.val < 100000
  · rw [← refLogits_apply x0 x1 x2 r ⟨n.val, h⟩]
    unfold refPadded
    pointwise
    rw [dif_pos h]
  · unfold refPadded lg
    rw [dif_neg h]
    pointwise
    rw [dif_neg h]
    exact negInf

theorem logits_eq : refPadded x0 x1 x2 = fun i => (lg x0 x1 x2 (i 0) (i 1).val : EReal) := by
  funext i
  rw [eq_ix2 i]
  exact refPadded_apply x0 x1 x2 _ _

theorem gmax_eq : transpose S25x16x32 [1, 0, 2] (Host.reduce (FloatOps.maximumf (F := Ideal) (φ := .f32))
      (shapeCast S16x25x32x128 (refPadded x0 x1 x2) shapeCasts_S16x102400_S16x25x32x128)
      (constant (F := Ideal) S_ .f32 0xFF800000#32) reducesTo_S16x25x32x128_S16x25x32_d3 h_S_) transposes_S16x25x32_S25x16x32_1_0_2
    = fun i => (Finset.univ.sup fun q : Fin 128 => lg x0 x1 x2 (i 1) ((i 0).val * 4096 + ((i 2).val * 128 + q.val)) : EReal) := by
  rw [logits_eq]
  funext i
  obtain ⟨a, b, d, rfl⟩ : ∃ a b d, i = ix3 a b d := ⟨_, _, _, eq_ix3 i⟩
  pointwise
  refine (foldMax _ _).trans (congrArg _ (funext fun q => ?_))
  rw [Nat.add_assoc]

/-- The padding changes neither a row's maximum nor its sum of exponentials. -/
theorem lse_rows (r : Fin 16) :
    (Finset.fold max (Ideal.ofBits FTy.f32 0xFF800000#32) (fun x : Fin 100000 => lg x0 x1 x2 r x.val) Finset.univ
      + Ideal.log (∑ x : Fin 100000, Ideal.exp (lg x0 x1 x2 r x.val
          - Finset.fold max (Ideal.ofBits FTy.f32 0xFF800000#32) (fun x : Fin 100000 => lg x0 x1 x2 r x.val) Finset.univ)) : EReal)
      = top (lg x0 x1 x2 r) 102400 + Ideal.log (mass (lg x0 x1 x2 r) 102400) := by
  have hpad : ∀ n, 100000 ≤ n → lg x0 x1 x2 r n = ⊥ := fun n hn => by
    unfold lg; rw [dif_neg (Nat.not_lt.2 hn)]
  have e1 : Finset.fold max (Ideal.ofBits FTy.f32 0xFF800000#32) (fun x : Fin 100000 => lg x0 x1 x2 r x.val) Finset.univ
      = top (lg x0 x1 x2 r) 100000 := (foldMax _ _).trans (sup_fin (lg x0 x1 x2 r) 100000)
  rw [e1, top_pad (lg x0 x1 x2 r) 100000 2400 hpad, mass_pad (lg x0 x1 x2 r) 100000 2400 hpad]
  unfold mass
  rw [Fin.sum_univ_eq_sum_range (fun n => Ideal.exp (lg x0 x1 x2 r n - top (lg x0 x1 x2 r) 100000)) 100000]

theorem lse_eq : addf (F := Ideal) (φ := .f32) (broadcastInDim S16x1 ![0] bcast_S16_S16x1_0
      (Host.reduce (FloatOps.maximumf (F := Ideal) (φ := .f32)) (refLogits x0 x1 x2) (constant (F := Ideal) S_ .f32 0xFF800000#32) reducesTo_S16x100000_S16_d1 h_S_))
    (Host.log (F := Ideal) (broadcastInDim S16x1 ![0] bcast_S16_S16x1_0 (Host.reduceAdd (F := Ideal) (Host.exp (F := Ideal) (subf (refLogits x0 x1 x2)
      (broadcastInDim S16x100000 ![0, 1] bcast_S16x1_S16x100000_0_1 (broadcastInDim S16x1 ![0] bcast_S16_S16x1_0
        (Host.reduce (FloatOps.maximumf (F := Ideal) (φ := .f32)) (refLogits x0 x1 x2) (constant (F := Ideal) S_ .f32 0xFF800000#32) reducesTo_S16x100000_S16_d1 h_S_)))))
      (constant (F := Ideal) S_ .f32 0x00000000#32) reducesTo_S16x100000_S16_d1 h_S_)))
    = fun i => (top (lg x0 x1 x2 (i 0)) 102400 + Ideal.log (mass (lg x0 x1 x2 (i 0)) 102400) : EReal) := by
  have e : refLogits x0 x1 x2 = fun i => (lg x0 x1 x2 (i 0) (i 1).val : EReal) := by
    funext i
    rw [eq_ix2 i]
    exact refLogits_apply x0 x1 x2 _ _
  rw [e]
  refine ext_col' fun r => ?_
  pointwise
  exact lse_rows x0 x1 x2 r

end Cert.KernelAIdeal.Point

end
-- ==== Proof.BBody.lean ====
/- The body of the selection kernel as rounds: the values each round carries, and the body's memory operations over
them. -/
module

public import proofs.«01_k».proof.Proof.Gen.KernelBIdeal
public import Idealize.ShloMosaic.Lib.Pipeline.Value

@[expose] public section

set_option maxRecDepth 16384

noncomputable section

namespace Cert.KernelBIdeal.Point

open Cert.KernelBIdeal Cert.KernelBIdeal.Gen
open Idealize.ShloMosaic Idealize.ShloMosaic.TcCoe
open Idealize.SL Idealize.SL.Sem

variable {F : FTy → Type} [FloatOps F]

/-- The column numbers of the groups' buffer. -/
def gio : IVec S16x896 32 := iota .tc S16x896 32 [1] iota_S16x896_d1_w32

/-- The slots of the sixteen rows. -/
def slo : IVec S16x16 32 := iota .tc S16x16 32 [1] iota_S16x16_d1_w32

/-- The flat positions of the last selection. -/
def fio : IVec S16x16 32 := addi (muli (iota .tc S16x16 32 [0] iota_S16x16_d0_w32) (broadcast S16x16 16#32)) slo

/-- The slots of a result row. -/
def row1 : IVec S1x16 32 := iota .tc S1x16 32 [1] iota_S1x16_d1_w32

/-- The first group of the greatest maximum, per row. -/
def gMin (A : FVec F S16x896 .f32) : IVec S16x1 32 :=
  shapeCast S16x1 (multiReductionI .minsi [1] S16 (select (cmpf .oeq A (broadcastTo S16x896 (shapeCast S16x1 (multiReduction .maximumf [1] S16 A 0xFF800000#32 reduces_S16x896_S16 (.inl rfl) rfl) shapeCasts_S16_S16x1) broadcasts_S16x1_S16x896)) gio (broadcast S16x896 1073741824#32)) 2147483647#32 reduces_S16x896_S16 rfl) shapeCasts_S16_S16x1

/-- The row maxima without the groups just taken. -/
def gStep (A : FVec F S16x896 .f32) : FVec F S16x896 .f32 :=
  select (cmpi .eq gio (broadcastTo S16x896 (gMin A) broadcasts_S16x1_S16x896)) (broadcast S16x896 (Scalar.ofBits .f32 0xFF800000#32)) A

/-- The maxima after some rounds. -/
def gA (gm : FVec F S16x896 .f32) : Nat → FVec F S16x896 .f32
  | 0 => shapeCast S16x896 gm shapeCasts_S16x896_S16x896
  | n + 1 => gStep (gA gm n)

/-- The groups taken after some rounds. -/
def gS (gm : FVec F S16x896 .f32) : Nat → IVec S16x16 32
  | 0 => broadcast S16x16 0#32
  | n + 1 => select (cmpi .eq slo (broadcast S16x16 (BitVec.ofNat 32 n))) (broadcastTo S16x16 (shapeCast S16x1 (gMin (gA gm n)) shapeCasts_S16x1_S16x1) broadcasts_S16x1_S16x16) (gS gm n)

/-- The groups' one-hot rows. -/
def ohOf (S : IVec S16x16 32) : FVec F S16x16x800 .f32 :=
  sitofp .f32 (extui 32 (cmpi .eq (broadcastTo S16x16x800 (shapeCast S16x16x1 S shapeCasts_S16x16_S16x16x1) broadcasts_S16x16x1_S16x16x800) (iota .tc S16x16x800 32 [2] iota_S16x16x800_d2_w32)) natLt_1_32)

/-- One row of candidates: the groups its one-hot rows name. -/
def rowOf (oh : FVec F S16x16x800 .f32) (l : Vec F S1x800x128 .f32) (off : Fin 3 → Nat) (h : S16x16x800.Slices off S1x16x800) :
    FVec F S1x2048 .f32 :=
  shapeCast S1x2048 (matmul dot_S16x800_S800x128_S16x128_1_0_0_1_n_n (some .fp32) (shapeCast S16x800 (extractStridedSlice S1x16x800 off oh h) shapeCasts_S1x16x800_S16x800) (shapeCast S800x128 l shapeCasts_S1x800x128_S800x128) (constant S16x128 .f32 0x00000000#32)) shapeCasts_S16x128_S1x2048

/-- The candidates of every row. -/
def candOf (S : IVec S16x16 32) (v281 v287 v293 v299 v305 v311 v317 v323 v329 v335 v341 v347 v353 v359 v365 v371 : Vec F S1x800x128 .f32) : FVec F S16x2048 .f32 :=
  concatenate S16x2048 0 [⟨S1x2048, (rowOf (ohOf S) v281 ![0, 0, 0] slices_S16x16x800_o0_0_0_S1x16x800)⟩, ⟨S1x2048, (rowOf (ohOf S) v287 ![1, 0, 0] slices_S16x16x800_o1_0_0_S1x16x800)⟩, ⟨S1x2048, (rowOf (ohOf S) v293 ![2, 0, 0] slices_S16x16x800_o2_0_0_S1x16x800)⟩, ⟨S1x2048, (rowOf (ohOf S) v299 ![3, 0, 0] slices_S16x16x800_o3_0_0_S1x16x800)⟩, ⟨S1x2048, (rowOf (ohOf S) v305 ![4, 0, 0] slices_S16x16x800_o4_0_0_S1x16x800)⟩, ⟨S1x2048, (rowOf (ohOf S) v311 ![5, 0, 0] slices_S16x16x800_o5_0_0_S1x16x800)⟩, ⟨S1x2048, (rowOf (ohOf S) v317 ![6, 0, 0] slices_S16x16x800_o6_0_0_S1x16x800)⟩, ⟨S1x2048, (rowOf (ohOf S) v323 ![7, 0, 0] slices_S16x16x800_o7_0_0_S1x16x800)⟩, ⟨S1x2048, (rowOf (ohOf S) v329 ![8, 0, 0] slices_S16x16x800_o8_0_0_S1x16x800)⟩, ⟨S1x2048, (rowOf (ohOf S) v335 ![9, 0, 0] slices_S16x16x800_o9_0_0_S1x16x800)⟩, ⟨S1x2048, (rowOf (ohOf S) v341 ![10, 0, 0] slices_S16x16x800_o10_0_0_S1x16x800)⟩, ⟨S1x2048, (rowOf (ohOf S) v347 ![11, 0, 0] slices_S16x16x800_o11_0_0_S1x16x800)⟩, ⟨S1x2048, (rowOf (ohOf S) v353 ![12, 0, 0] slices_S16x16x800_o12_0_0_S1x16x800)⟩, ⟨S1x2048, (rowOf (ohOf S) v359 ![13, 0, 0] slices_S16x16x800_o13_0_0_S1x16x800)⟩, ⟨S1x2048, (rowOf (ohOf S) v365 ![14, 0, 0] slices_S16x16x800_o14_0_0_S1x16x800)⟩, ⟨S1x2048, (rowOf (ohOf S) v371 ![15, 0, 0] slices_S16x16x800_o15_0_0_S1x16x800)⟩] concatenates_S1x2048_S1x2048_S1x2048_S1x2048_S1x2048_S1x2048_S1x2048_S1x2048_S1x2048_S1x2048_S1x2048_S1x2048_S1x2048_S1x2048_S1x2048_S1x2048_S16x2048_d0

/-- The candidates' numbers. -/
def vidOf (S : IVec S16x16 32) : IVec S16x2048 32 :=
  shapeCast S16x2048 (addi (broadcastTo S16x16x128 (muli (shapeCast S16x16x1 S shapeCasts_S16x16_S16x16x1) (broadcast S16x16x1 128#32)) broadcasts_S16x16x1_S16x16x128) (iota .tc S16x16x128 32 [2] iota_S16x16x128_d2_w32)) shapeCasts_S16x16x128_S16x2048

/-- The greatest candidate of each row. -/
def cMax (C : FVec F S16x2048 .f32) : FVec F S16x1 .f32 :=
  shapeCast S16x1 (multiReduction .maximumf [1] S16 C 0xFF800000#32 reduces_S16x2048_S16 (.inl rfl) rfl) shapeCasts_S16_S16x1

/-- The least number of a greatest candidate. -/
def cMin (C : FVec F S16x2048 .f32) (K : IVec S16x2048 32) : IVec S16x1 32 :=
  shapeCast S16x1 (multiReductionI .minsi [1] S16 (select (cmpf .oeq C (broadcastTo S16x2048 (cMax C) broadcasts_S16x1_S16x2048)) K (broadcast S16x2048 1073741824#32)) 2147483647#32 reduces_S16x2048_S16 rfl) shapeCasts_S16_S16x1

/-- The candidates without those just taken. -/
def cStep (C : FVec F S16x2048 .f32) (K : IVec S16x2048 32) : FVec F S16x2048 .f32 :=
  select (cmpi .eq K (broadcastTo S16x2048 (cMin C K) broadcasts_S16x1_S16x2048)) (broadcast S16x2048 (Scalar.ofBits .f32 0xFF800000#32)) C

def cC (C0 : FVec F S16x2048 .f32) (K : IVec S16x2048 32) : Nat → FVec F S16x2048 .f32
  | 0 => C0
  | n + 1 => cStep (cC C0 K n) K

/-- The values taken after some rounds. -/
def cTV (C0 : FVec F S16x2048 .f32) (K : IVec S16x2048 32) : Nat → FVec F S16x16 .f32
  | 0 => broadcast S16x16 (Scalar.ofBits .f32 0xFF800000#32)
  | n + 1 => select (cmpi .eq slo (broadcast S16x16 (BitVec.ofNat 32 n))) (broadcastTo S16x16 (shapeCast S16x1 (cMax (cC C0 K n)) shapeCasts_S16x1_S16x1) broadcasts_S16x1_S16x16) (cTV C0 K n)

/-- The numbers taken after some rounds. -/
def cTI (C0 : FVec F S16x2048 .f32) (K : IVec S16x2048 32) : Nat → IVec S16x16 32
  | 0 => broadcast S16x16 1073741824#32
  | n + 1 => select (cmpi .eq slo (broadcast S16x16 (BitVec.ofNat 32 n))) (broadcastTo S16x16 (shapeCast S16x1 (cMin (cC C0 K n) K) shapeCasts_S16x1_S16x1) broadcasts_S16x1_S16x16) (cTI C0 K n)

/-- The beams' sums with the candidates' logarithms. -/
def dIn (v736 : Vec F S16x1 .f32) (ys : FVec F S16x16 .f32) : FVec F S16x16 .f32 :=
  addf (broadcastTo S16x16 (shapeCast S16x1 v736 shapeCasts_S16x1_S16x1) broadcasts_S16x1_S16x16) ys

/-- The greatest sum. -/
def pMax (D : FVec F S16x16 .f32) : F .f32 :=
  extractAt ![0, 0, 0] (shapeCast S1x1x1 (multiReduction .maximumf [1, 2] S1 (shapeCast S1x16x16 D shapeCasts_S16x16_S1x16x16) 0xFF800000#32 reduces_S1x16x16_S1 (.inl rfl) rfl) shapeCasts_S1_S1x1x1) inpos_S1x1x1_p0_0_0

/-- Its first position. -/
def pIdx (D : FVec F S16x16 .f32) : BitVec 32 :=
  extractAt ![0, 0, 0] (shapeCast S1x1x1 (multiReductionI .minsi [1, 2] S1 (shapeCast S1x16x16 (select (cmpf .oeq D (broadcast S16x16 (pMax D))) fio (broadcast S16x16 1073741824#32)) shapeCasts_S16x16_S1x16x16) 2147483647#32 reduces_S1x16x16_S1 rfl) shapeCasts_S1_S1x1x1) inpos_S1x1x1_p0_0_0

/-- The token at a position. -/
def pTok (ti : IVec S16x16 32) (i : BitVec 32) : BitVec 32 :=
  extractAt ![0, 0, 0] (shapeCast S1x1x1 (multiReductionI .add [1, 2] S1 (shapeCast S1x16x16 (select (cmpi .eq fio (broadcast S16x16 i)) ti (broadcast S16x16 0#32)) shapeCasts_S16x16_S1x16x16) 0#32 reduces_S1x16x16_S1 rfl) shapeCasts_S1_S1x1x1) inpos_S1x1x1_p0_0_0

/-- The logarithm at a position. -/
def pLr (ys : FVec F S16x16 .f32) (i : BitVec 32) : F .f32 :=
  extractAt ![0, 0, 0] (shapeCast S1x1x1 (multiReduction .add [1, 2] S1 (shapeCast S1x16x16 (select (cmpi .eq fio (broadcast S16x16 i)) ys (broadcast S16x16 (Scalar.ofBits .f32 0x00000000#32))) shapeCasts_S16x16_S1x16x16) 0x00000000#32 reduces_S1x16x16_S1 (.inl rfl) rfl) shapeCasts_S1_S1x1x1) inpos_S1x1x1_p0_0_0

/-- The beam of a position: the quotient by sixteen, rounded down. -/
def qOf (i : BitVec 32) : BitVec 32 :=
  Scalar.select (Scalar.andi (Scalar.cmpi .ne (Scalar.subi (Scalar.extui (Scalar.cmpi .sgt i 0#32)) (Scalar.extui (Scalar.cmpi .slt i 0#32))) (Scalar.subi (Scalar.extui (Scalar.cmpi .sgt 16#32 0#32)) (Scalar.extui (Scalar.cmpi .slt 16#32 0#32)))) (Scalar.cmpi .ne (Scalar.remsi i 16#32) 0#32)) (Scalar.subi (Scalar.divsi i 16#32) 1#32) (Scalar.divsi i 16#32)

/-- The sums without the one just taken. -/
def dStep (D : FVec F S16x16 .f32) : FVec F S16x16 .f32 :=
  select (cmpi .eq fio (broadcast S16x16 (pIdx D))) (broadcast S16x16 (Scalar.ofBits .f32 0xFF800000#32)) D

def dD (D0 : FVec F S16x16 .f32) : Nat → FVec F S16x16 .f32
  | 0 => D0
  | n + 1 => dStep (dD D0 n)

def rTok (D0 : FVec F S16x16 .f32) (ti : IVec S16x16 32) : Nat → IVec S1x16 32
  | 0 => broadcast S1x16 0#32
  | n + 1 => select (cmpi .eq row1 (broadcast S1x16 (BitVec.ofNat 32 n))) (broadcast S1x16 (pTok ti (pIdx (dD D0 n)))) (rTok D0 ti n)

def rQ (D0 : FVec F S16x16 .f32) : Nat → IVec S1x16 32
  | 0 => broadcast S1x16 0#32
  | n + 1 => select (cmpi .eq row1 (broadcast S1x16 (BitVec.ofNat 32 n))) (broadcast S1x16 (qOf (pIdx (dD D0 n)))) (rQ D0 n)

def rP (D0 : FVec F S16x16 .f32) : Nat → FVec F S1x16 .f32
  | 0 => broadcast S1x16 (Scalar.ofBits .f32 0x00000000#32)
  | n + 1 => select (cmpi .eq row1 (broadcast S1x16 (BitVec.ofNat 32 n))) (broadcast S1x16 (pMax (dD D0 n))) (rP D0 n)

def rL (D0 ys : FVec F S16x16 .f32) : Nat → FVec F S1x16 .f32
  | 0 => broadcast S1x16 (Scalar.ofBits .f32 0x00000000#32)
  | n + 1 => select (cmpi .eq row1 (broadcast S1x16 (BitVec.ofNat 32 n))) (broadcast S1x16 (pLr ys (pIdx (dD D0 n)))) (rL D0 ys n)

/-- The logarithms of the candidates taken. -/
def ysOf (S : IVec S16x16 32) (v281 v287 v293 v299 v305 v311 v317 v323 v329 v335 v341 v347 v353 v359 v365 v371 : Vec F S1x800x128 .f32) (v733 : Vec F S16x1 .f32) : FVec F S16x16 .f32 :=
  subf (cTV (candOf S v281 v287 v293 v299 v305 v311 v317 v323 v329 v335 v341 v347 v353 v359 v365 v371) (vidOf S) 16) (broadcastTo S16x16 v733 broadcasts_S16x1_S16x16)

theorem fin_v1665 (D0 : FVec F S16x16 .f32) (ti : IVec S16x16 32) :
    select (cmpi .eq row1 (broadcast S1x16 15#32)) (broadcast S1x16 (pTok ti (pIdx (dD D0 15)))) (rTok D0 ti 15) = rTok D0 ti 16 := rfl

theorem fin_v1684 (D0 : FVec F S16x16 .f32) :
    select (cmpi .eq row1 (broadcast S1x16 15#32)) (broadcast S1x16 (Scalar.select (Scalar.andi (Scalar.cmpi .ne (Scalar.subi (Scalar.extui (Scalar.cmpi .sgt (pIdx (dD D0 15)) 0#32)) (Scalar.extui (Scalar.cmpi .slt (pIdx (dD D0 15)) 0#32))) (Scalar.subi (Scalar.extui (Scalar.cmpi .sgt 16#32 0#32)) (Scalar.extui (Scalar.cmpi .slt 16#32 0#32)))) (Scalar.cmpi .ne (Scalar.remsi (pIdx (dD D0 15)) 16#32) 0#32)) (Scalar.subi (Scalar.divsi (pIdx (dD D0 15)) 16#32) 1#32) (Scalar.divsi (pIdx (dD D0 15)) 16#32))) (rQ D0 15) = rQ D0 16 := rfl

theorem fin_v1686 (D0 : FVec F S16x16 .f32) :
    select (cmpi .eq row1 (broadcast S1x16 15#32)) (broadcast S1x16 (pMax (dD D0 15))) (rP D0 15) = rP D0 16 := rfl

theorem fin_v1688 (D0 : FVec F S16x16 .f32) (ys : FVec F S16x16 .f32) :
    select (cmpi .eq row1 (broadcast S1x16 15#32)) (broadcast S1x16 (extractAt ![0, 0, 0] (shapeCast S1x1x1 (multiReduction .add [1, 2] S1 (shapeCast S1x16x16 (select (cmpi .eq fio (broadcast S16x16 (pIdx (dD D0 15)))) ys (broadcast S16x16 (Scalar.ofBits .f32 0x00000000#32))) shapeCasts_S16x16_S1x16x16) 0x00000000#32 reduces_S1x16x16_S1 (.inl rfl) rfl) shapeCasts_S1_S1x1x1) inpos_S1x1x1_p0_0_0)) (rL D0 ys 15) = rL D0 ys 16 := rfl

theorem ys_fold (S : IVec S16x16 32) (v281 v287 v293 v299 v305 v311 v317 v323 v329 v335 v341 v347 v353 v359 v365 v371 : Vec F S1x800x128 .f32) (v733 : Vec F S16x1 .f32) :
    subf (cTV (candOf S v281 v287 v293 v299 v305 v311 v317 v323 v329 v335 v341 v347 v353 v359 v365 v371) (vidOf S) 16) (broadcastTo S16x16 v733 broadcasts_S16x1_S16x16) = ysOf S v281 v287 v293 v299 v305 v311 v317 v323 v329 v335 v341 v347 v353 v359 v365 v371 v733 := rfl

variable (arg0 : Memref sig .tc .vmem S16x896 .f32) (harg0 : arg0.IsWhole) (arg1 : Memref sig .tc .vmem S16x800x128 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S1x16 .i32) (harg4 : arg4.IsWhole) (arg5 : Memref sig .tc .vmem S1x16 .i32) (harg5 : arg5.IsWhole) (arg6 : Memref sig .tc .vmem S1x16 .f32) (harg6 : arg6.IsWhole) (arg7 : Memref sig .tc .vmem S1x16 .f32) (harg7 : arg7.IsWhole) (arg8 : Memref sig .tc .vmem S16x16 .f32) (harg8 : arg8.IsWhole)

theorem part1_eq  :
    k0_part1 (F := F) arg0 harg0 arg1 harg1 arg2 harg2 arg3 harg3 arg4 harg4 arg5 harg5 arg6 harg6 arg7 harg7 arg8 harg8  = (do
    let gm : Vec F S16x896 .f32 ← Prog.lift (.load arg0 (Rect.unit (s := S16x896) ![0, 0] S16x896.size inb_S16x896_S16x896_0_0).toLoadRect (View.loadsAt_vmem h_S16x896))
    pure ⟨gio, slo, gS gm 2, gA gm 2, select (cmpf .oeq (gA gm 2) (broadcastTo S16x896 (shapeCast S16x1 (multiReduction .maximumf [1] S16 (gA gm 2) 0xFF800000#32 reduces_S16x896_S16 (.inl rfl) rfl) shapeCasts_S16_S16x1) broadcasts_S16x1_S16x896)) gio (broadcast S16x896 1073741824#32)⟩ : Prog (TpuEff nD τ sig (Elt F) Λ₀ .tc) (Σ' (v2 : IVec S16x896 32) (v3 : IVec S16x16 32) (v34 : IVec S16x16 32) (v38 : FVec F S16x896 .f32), IVec S16x896 32)) := rfl

theorem part2_eq (gm : FVec F S16x896 .f32) :
    k0_part2 (F := F) arg0 harg0 arg1 harg1 arg2 harg2 arg3 harg3 arg4 harg4 arg5 harg5 arg6 harg6 arg7 harg7 arg8 harg8 gio slo (gS gm 2) (gA gm 2) (select (cmpf .oeq (gA gm 2) (broadcastTo S16x896 (shapeCast S16x1 (multiReduction .maximumf [1] S16 (gA gm 2) 0xFF800000#32 reduces_S16x896_S16 (.inl rfl) rfl) shapeCasts_S16_S16x1) broadcasts_S16x1_S16x896)) gio (broadcast S16x896 1073741824#32)) = (do
    pure ⟨gS gm 5, gA gm 5, multiReduction .maximumf [1] S16 (gA gm 5) 0xFF800000#32 reduces_S16x896_S16 (.inl rfl) rfl⟩ : Prog (TpuEff nD τ sig (Elt F) Λ₀ .tc) (Σ' (v85 : IVec S16x16 32) (v89 : FVec F S16x896 .f32), FVec F S16 .f32)) := rfl

theorem part3_eq (gm : FVec F S16x896 .f32) :
    k0_part3 (F := F) arg0 harg0 arg1 harg1 arg2 harg2 arg3 harg3 arg4 harg4 arg5 harg5 arg6 harg6 arg7 harg7 arg8 harg8 gio slo (gS gm 5) (gA gm 5) (multiReduction .maximumf [1] S16 (gA gm 5) 0xFF800000#32 reduces_S16x896_S16 (.inl rfl) rfl) = (do
    pure ⟨gA gm 7, gS gm 8, broadcastTo S16x896 (gMin (gA gm 7)) broadcasts_S16x1_S16x896⟩ : Prog (TpuEff nD τ sig (Elt F) Λ₀ .tc) (Σ' (v123 : FVec F S16x896 .f32) (v136 : IVec S16x16 32), IVec S16x896 32)) := rfl

theorem part4_eq (gm : FVec F S16x896 .f32) :
    k0_part4 (F := F) arg0 harg0 arg1 harg1 arg2 harg2 arg3 harg3 arg4 harg4 arg5 harg5 arg6 harg6 arg7 harg7 arg8 harg8 gio slo (gA gm 7) (gS gm 8) (broadcastTo S16x896 (gMin (gA gm 7)) broadcasts_S16x1_S16x896) = (do
    pure ⟨gS gm 10, gA gm 10, gMin (gA gm 10), 10#32⟩ : Prog (TpuEff nD τ sig (Elt F) Λ₀ .tc) (Σ' (v170 : IVec S16x16 32) (v174 : FVec F S16x896 .f32) (v182 : IVec S16x1 32), BitVec 32)) := rfl

theorem part5_eq (gm : FVec F S16x896 .f32) :
    k0_part5 (F := F) arg0 harg0 arg1 harg1 arg2 harg2 arg3 harg3 arg4 harg4 arg5 harg5 arg6 harg6 arg7 harg7 arg8 harg8 gio slo (gS gm 10) (gA gm 10) (gMin (gA gm 10)) 10#32 = (do
    pure ⟨gS gm 13, gA gm 13, cmpf .oeq (gA gm 13) (broadcastTo S16x896 (shapeCast S16x1 (multiReduction .maximumf [1] S16 (gA gm 13) 0xFF800000#32 reduces_S16x896_S16 (.inl rfl) rfl) shapeCasts_S16_S16x1) broadcasts_S16x1_S16x896), 1073741824#32⟩ : Prog (TpuEff nD τ sig (Elt F) Λ₀ .tc) (Σ' (v221 : IVec S16x16 32) (v225 : FVec F S16x896 .f32) (v229 : IVec S16x896 1), BitVec 32)) := rfl

theorem part6_eq (gm : FVec F S16x896 .f32) :
    k0_part6 (F := F) arg0 harg0 arg1 harg1 arg2 harg2 arg3 harg3 arg4 harg4 arg5 harg5 arg6 harg6 arg7 harg7 arg8 harg8 gio slo (gS gm 13) (gA gm 13) (cmpf .oeq (gA gm 13) (broadcastTo S16x896 (shapeCast S16x1 (multiReduction .maximumf [1] S16 (gA gm 13) 0xFF800000#32 reduces_S16x896_S16 (.inl rfl) rfl) shapeCasts_S16_S16x1) broadcasts_S16x1_S16x896)) 1073741824#32 = (do
    pure ⟨gS gm 16, extui 32 (cmpi .eq (broadcastTo S16x16x800 (shapeCast S16x16x1 (gS gm 16) shapeCasts_S16x16_S16x16x1) broadcasts_S16x16x1_S16x16x800) (iota .tc S16x16x800 32 [2] iota_S16x16x800_d2_w32)) natLt_1_32⟩ : Prog (TpuEff nD τ sig (Elt F) Λ₀ .tc) (Σ' (v272 : IVec S16x16 32), IVec S16x16x800 32)) := rfl

theorem part7_eq (S : IVec S16x16 32) :
    k0_part7 (F := F) arg0 harg0 arg1 harg1 arg2 harg2 arg3 harg3 arg4 harg4 arg5 harg5 arg6 harg6 arg7 harg7 arg8 harg8 (extui 32 (cmpi .eq (broadcastTo S16x16x800 (shapeCast S16x16x1 S shapeCasts_S16x16_S16x16x1) broadcasts_S16x16x1_S16x16x800) (iota .tc S16x16x800 32 [2] iota_S16x16x800_d2_w32)) natLt_1_32) = (do
    let v281 : Vec F S1x800x128 .f32 ← Prog.lift (.load arg1 (Rect.unit (s := S16x800x128) ![0, 0, 0] S1x800x128.size inb_S16x800x128_S1x800x128_0_0_0).toLoadRect (View.loadsAt_vmem h_S1x800x128))
    let v287 : Vec F S1x800x128 .f32 ← Prog.lift (.load arg1 (Rect.unit (s := S16x800x128) ![1, 0, 0] S1x800x128.size inb_S16x800x128_S1x800x128_1_0_0).toLoadRect (View.loadsAt_vmem h_S1x800x128))
    let v293 : Vec F S1x800x128 .f32 ← Prog.lift (.load arg1 (Rect.unit (s := S16x800x128) ![2, 0, 0] S1x800x128.size inb_S16x800x128_S1x800x128_2_0_0).toLoadRect (View.loadsAt_vmem h_S1x800x128))
    let v299 : Vec F S1x800x128 .f32 ← Prog.lift (.load arg1 (Rect.unit (s := S16x800x128) ![3, 0, 0] S1x800x128.size inb_S16x800x128_S1x800x128_3_0_0).toLoadRect (View.loadsAt_vmem h_S1x800x128))
    let v305 : Vec F S1x800x128 .f32 ← Prog.lift (.load arg1 (Rect.unit (s := S16x800x128) ![4, 0, 0] S1x800x128.size inb_S16x800x128_S1x800x128_4_0_0).toLoadRect (View.loadsAt_vmem h_S1x800x128))
    let v311 : Vec F S1x800x128 .f32 ← Prog.lift (.load arg1 (Rect.unit (s := S16x800x128) ![5, 0, 0] S1x800x128.size inb_S16x800x128_S1x800x128_5_0_0).toLoadRect (View.loadsAt_vmem h_S1x800x128))
    pure ⟨ohOf S, rowOf (ohOf S) v281 ![0, 0, 0] slices_S16x16x800_o0_0_0_S1x16x800, rowOf (ohOf S) v287 ![1, 0, 0] slices_S16x16x800_o1_0_0_S1x16x800, rowOf (ohOf S) v293 ![2, 0, 0] slices_S16x16x800_o2_0_0_S1x16x800, rowOf (ohOf S) v299 ![3, 0, 0] slices_S16x16x800_o3_0_0_S1x16x800, rowOf (ohOf S) v305 ![4, 0, 0] slices_S16x16x800_o4_0_0_S1x16x800, matmul dot_S16x800_S800x128_S16x128_1_0_0_1_n_n (some .fp32) (shapeCast S16x800 (extractStridedSlice S1x16x800 ![5, 0, 0] (ohOf S) slices_S16x16x800_o5_0_0_S1x16x800) shapeCasts_S1x16x800_S16x800) (shapeCast S800x128 v311 shapeCasts_S1x800x128_S800x128) (constant S16x128 .f32 0x00000000#32)⟩ : Prog (TpuEff nD τ sig (Elt F) Λ₀ .tc) (Σ' (v278 : FVec F S16x16x800 .f32) (v284 : FVec F S1x2048 .f32) (v290 : FVec F S1x2048 .f32) (v296 : FVec F S1x2048 .f32) (v302 : FVec F S1x2048 .f32) (v308 : FVec F S1x2048 .f32), FVec F S16x128 .f32)) := rfl

theorem part8_eq (S : IVec S16x16 32) (v311 : Vec F S1x800x128 .f32) :
    k0_part8 (F := F) arg0 harg0 arg1 harg1 arg2 harg2 arg3 harg3 arg4 harg4 arg5 harg5 arg6 harg6 arg7 harg7 arg8 harg8 (ohOf S) (matmul dot_S16x800_S800x128_S16x128_1_0_0_1_n_n (some .fp32) (shapeCast S16x800 (extractStridedSlice S1x16x800 ![5, 0, 0] (ohOf S) slices_S16x16x800_o5_0_0_S1x16x800) shapeCasts_S1x16x800_S16x800) (shapeCast S800x128 v311 shapeCasts_S1x800x128_S800x128) (constant S16x128 .f32 0x00000000#32)) = (do
    let v317 : Vec F S1x800x128 .f32 ← Prog.lift (.load arg1 (Rect.unit (s := S16x800x128) ![6, 0, 0] S1x800x128.size inb_S16x800x128_S1x800x128_6_0_0).toLoadRect (View.loadsAt_vmem h_S1x800x128))
    let v323 : Vec F S1x800x128 .f32 ← Prog.lift (.load arg1 (Rect.unit (s := S16x800x128) ![7, 0, 0] S1x800x128.size inb_S16x800x128_S1x800x128_7_0_0).toLoadRect (View.loadsAt_vmem h_S1x800x128))
    let v329 : Vec F S1x800x128 .f32 ← Prog.lift (.load arg1 (Rect.unit (s := S16x800x128) ![8, 0, 0] S1x800x128.size inb_S16x800x128_S1x800x128_8_0_0).toLoadRect (View.loadsAt_vmem h_S1x800x128))
    let v335 : Vec F S1x800x128 .f32 ← Prog.lift (.load arg1 (Rect.unit (s := S16x800x128) ![9, 0, 0] S1x800x128.size inb_S16x800x128_S1x800x128_9_0_0).toLoadRect (View.loadsAt_vmem h_S1x800x128))
    let v341 : Vec F S1x800x128 .f32 ← Prog.lift (.load arg1 (Rect.unit (s := S16x800x128) ![10, 0, 0] S1x800x128.size inb_S16x800x128_S1x800x128_10_0_0).toLoadRect (View.loadsAt_vmem h_S1x800x128))
    let v347 : Vec F S1x800x128 .f32 ← Prog.lift (.load arg1 (Rect.unit (s := S16x800x128) ![11, 0, 0] S1x800x128.size inb_S16x800x128_S1x800x128_11_0_0).toLoadRect (View.loadsAt_vmem h_S1x800x128))
    pure ⟨rowOf (ohOf S) v311 ![5, 0, 0] slices_S16x16x800_o5_0_0_S1x16x800, rowOf (ohOf S) v317 ![6, 0, 0] slices_S16x16x800_o6_0_0_S1x16x800, rowOf (ohOf S) v323 ![7, 0, 0] slices_S16x16x800_o7_0_0_S1x16x800, rowOf (ohOf S) v329 ![8, 0, 0] slices_S16x16x800_o8_0_0_S1x16x800, rowOf (ohOf S) v335 ![9, 0, 0] slices_S16x16x800_o9_0_0_S1x16x800, rowOf (ohOf S) v341 ![10, 0, 0] slices_S16x16x800_o10_0_0_S1x16x800, matmul dot_S16x800_S800x128_S16x128_1_0_0_1_n_n (some .fp32) (shapeCast S16x800 (extractStridedSlice S1x16x800 ![11, 0, 0] (ohOf S) slices_S16x16x800_o11_0_0_S1x16x800) shapeCasts_S1x16x800_S16x800) (shapeCast S800x128 v347 shapeCasts_S1x800x128_S800x128) (constant S16x128 .f32 0x00000000#32)⟩ : Prog (TpuEff nD τ sig (Elt F) Λ₀ .tc) (Σ' (v314 : FVec F S1x2048 .f32) (v320 : FVec F S1x2048 .f32) (v326 : FVec F S1x2048 .f32) (v332 : FVec F S1x2048 .f32) (v338 : FVec F S1x2048 .f32) (v344 : FVec F S1x2048 .f32), FVec F S16x128 .f32)) := rfl

theorem part9_eq (S : IVec S16x16 32) (v281 : Vec F S1x800x128 .f32) (v287 : Vec F S1x800x128 .f32) (v293 : Vec F S1x800x128 .f32) (v299 : Vec F S1x800x128 .f32) (v305 : Vec F S1x800x128 .f32) (v311 : Vec F S1x800x128 .f32) (v317 : Vec F S1x800x128 .f32) (v323 : Vec F S1x800x128 .f32) (v329 : Vec F S1x800x128 .f32) (v335 : Vec F S1x800x128 .f32) (v341 : Vec F S1x800x128 .f32) (v347 : Vec F S1x800x128 .f32) :
    k0_part9 (F := F) arg0 harg0 arg1 harg1 arg2 harg2 arg3 harg3 arg4 harg4 arg5 harg5 arg6 harg6 arg7 harg7 arg8 harg8 S (ohOf S) (rowOf (ohOf S) v281 ![0, 0, 0] slices_S16x16x800_o0_0_0_S1x16x800) (rowOf (ohOf S) v287 ![1, 0, 0] slices_S16x16x800_o1_0_0_S1x16x800) (rowOf (ohOf S) v293 ![2, 0, 0] slices_S16x16x800_o2_0_0_S1x16x800) (rowOf (ohOf S) v299 ![3, 0, 0] slices_S16x16x800_o3_0_0_S1x16x800) (rowOf (ohOf S) v305 ![4, 0, 0] slices_S16x16x800_o4_0_0_S1x16x800) (rowOf (ohOf S) v311 ![5, 0, 0] slices_S16x16x800_o5_0_0_S1x16x800) (rowOf (ohOf S) v317 ![6, 0, 0] slices_S16x16x800_o6_0_0_S1x16x800) (rowOf (ohOf S) v323 ![7, 0, 0] slices_S16x16x800_o7_0_0_S1x16x800) (rowOf (ohOf S) v329 ![8, 0, 0] slices_S16x16x800_o8_0_0_S1x16x800) (rowOf (ohOf S) v335 ![9, 0, 0] slices_S16x16x800_o9_0_0_S1x16x800) (rowOf (ohOf S) v341 ![10, 0, 0] slices_S16x16x800_o10_0_0_S1x16x800) (matmul dot_S16x800_S800x128_S16x128_1_0_0_1_n_n (some .fp32) (shapeCast S16x800 (extractStridedSlice S1x16x800 ![11, 0, 0] (ohOf S) slices_S16x16x800_o11_0_0_S1x16x800) shapeCasts_S1x16x800_S16x800) (shapeCast S800x128 v347 shapeCasts_S1x800x128_S800x128) (constant S16x128 .f32 0x00000000#32)) = (do
    let v353 : Vec F S1x800x128 .f32 ← Prog.lift (.load arg1 (Rect.unit (s := S16x800x128) ![12, 0, 0] S1x800x128.size inb_S16x800x128_S1x800x128_12_0_0).toLoadRect (View.loadsAt_vmem h_S1x800x128))
    let v359 : Vec F S1x800x128 .f32 ← Prog.lift (.load arg1 (Rect.unit (s := S16x800x128) ![13, 0, 0] S1x800x128.size inb_S16x800x128_S1x800x128_13_0_0).toLoadRect (View.loadsAt_vmem h_S1x800x128))
    let v365 : Vec F S1x800x128 .f32 ← Prog.lift (.load arg1 (Rect.unit (s := S16x800x128) ![14, 0, 0] S1x800x128.size inb_S16x800x128_S1x800x128_14_0_0).toLoadRect (View.loadsAt_vmem h_S1x800x128))
    let v371 : Vec F S1x800x128 .f32 ← Prog.lift (.load arg1 (Rect.unit (s := S16x800x128) ![15, 0, 0] S1x800x128.size inb_S16x800x128_S1x800x128_15_0_0).toLoadRect (View.loadsAt_vmem h_S1x800x128))
    pure ⟨candOf S v281 v287 v293 v299 v305 v311 v317 v323 v329 v335 v341 v347 v353 v359 v365 v371, vidOf S, broadcast S16x16 (Scalar.ofBits .f32 0xFF800000#32), broadcast S16x16 1073741824#32, cMax ((candOf S v281 v287 v293 v299 v305 v311 v317 v323 v329 v335 v341 v347 v353 v359 v365 v371)), cmpf .oeq (candOf S v281 v287 v293 v299 v305 v311 v317 v323 v329 v335 v341 v347 v353 v359 v365 v371) (broadcastTo S16x2048 (cMax ((candOf S v281 v287 v293 v299 v305 v311 v317 v323 v329 v335 v341 v347 v353 v359 v365 v371))) broadcasts_S16x1_S16x2048), 1073741824#32⟩ : Prog (TpuEff nD τ sig (Elt F) Λ₀ .tc) (Σ' (v375 : FVec F S16x2048 .f32) (v382 : IVec S16x2048 32) (v383 : FVec F S16x16 .f32) (v384 : IVec S16x16 32) (v386 : FVec F S16x1 .f32) (v388 : IVec S16x2048 1), BitVec 32)) := rfl

theorem part10_eq (C0 : FVec F S16x2048 .f32) (K : IVec S16x2048 32) :
    k0_part10 (F := F) arg0 harg0 arg1 harg1 arg2 harg2 arg3 harg3 arg4 harg4 arg5 harg5 arg6 harg6 arg7 harg7 arg8 harg8 slo C0 K (broadcast S16x16 (Scalar.ofBits .f32 0xFF800000#32)) (broadcast S16x16 1073741824#32) (cMax (C0)) (cmpf .oeq C0 (broadcastTo S16x2048 (cMax (C0)) broadcasts_S16x1_S16x2048)) 1073741824#32 = (do
    pure ⟨cTV C0 K 2, cTI C0 K 2, cC C0 K 2, cMax (cC C0 K 2), multiReductionI .minsi [1] S16 (select (cmpf .oeq (cC C0 K 2) (broadcastTo S16x2048 (cMax (cC C0 K 2)) broadcasts_S16x1_S16x2048)) K (broadcast S16x2048 1073741824#32)) 2147483647#32 reduces_S16x2048_S16 rfl⟩ : Prog (TpuEff nD τ sig (Elt F) Λ₀ .tc) (Σ' (v419 : FVec F S16x16 .f32) (v424 : IVec S16x16 32) (v428 : FVec F S16x2048 .f32) (v430 : FVec F S16x1 .f32), IVec S16 32)) := rfl

theorem part11_eq (C0 : FVec F S16x2048 .f32) (K : IVec S16x2048 32) :
    k0_part11 (F := F) arg0 harg0 arg1 harg1 arg2 harg2 arg3 harg3 arg4 harg4 arg5 harg5 arg6 harg6 arg7 harg7 arg8 harg8 slo K (cTV C0 K 2) (cTI C0 K 2) (cC C0 K 2) (cMax (cC C0 K 2)) (multiReductionI .minsi [1] S16 (select (cmpf .oeq (cC C0 K 2) (broadcastTo S16x2048 (cMax (cC C0 K 2)) broadcasts_S16x1_S16x2048)) K (broadcast S16x2048 1073741824#32)) 2147483647#32 reduces_S16x2048_S16 rfl) = (do
    pure ⟨cTV C0 K 4, cTI C0 K 4, cC C0 K 4, cMax (cC C0 K 4), cMin (cC C0 K 4) K, cmpi .eq slo (broadcast S16x16 4#32)⟩ : Prog (TpuEff nD τ sig (Elt F) Λ₀ .tc) (Σ' (v463 : FVec F S16x16 .f32) (v468 : IVec S16x16 32) (v472 : FVec F S16x2048 .f32) (v474 : FVec F S16x1 .f32) (v480 : IVec S16x1 32), IVec S16x16 1)) := rfl

theorem part12_eq (C0 : FVec F S16x2048 .f32) (K : IVec S16x2048 32) :
    k0_part12 (F := F) arg0 harg0 arg1 harg1 arg2 harg2 arg3 harg3 arg4 harg4 arg5 harg5 arg6 harg6 arg7 harg7 arg8 harg8 slo K (cTV C0 K 4) (cTI C0 K 4) (cC C0 K 4) (cMax (cC C0 K 4)) (cMin (cC C0 K 4) K) (cmpi .eq slo (broadcast S16x16 4#32)) = (do
    pure ⟨cTI C0 K 6, cC C0 K 6, cMin (cC C0 K 6) K, cTV C0 K 7, 6#32⟩ : Prog (TpuEff nD τ sig (Elt F) Λ₀ .tc) (Σ' (v512 : IVec S16x16 32) (v516 : FVec F S16x2048 .f32) (v524 : IVec S16x1 32) (v529 : FVec F S16x16 .f32), BitVec 32)) := rfl

theorem part13_eq (C0 : FVec F S16x2048 .f32) (K : IVec S16x2048 32) :
    k0_part13 (F := F) arg0 harg0 arg1 harg1 arg2 harg2 arg3 harg3 arg4 harg4 arg5 harg5 arg6 harg6 arg7 harg7 arg8 harg8 slo K (cTI C0 K 6) (cC C0 K 6) (cMin (cC C0 K 6) K) (cTV C0 K 7) 6#32 = (do
    pure ⟨cTI C0 K 8, cC C0 K 8, cMin (cC C0 K 8) K, cTV C0 K 9, cmpi .eq slo (broadcast S16x16 8#32), broadcastTo S16x16 (shapeCast S16x1 (cMin (cC C0 K 8) K) shapeCasts_S16x1_S16x1) broadcasts_S16x1_S16x16⟩ : Prog (TpuEff nD τ sig (Elt F) Λ₀ .tc) (Σ' (v556 : IVec S16x16 32) (v560 : FVec F S16x2048 .f32) (v568 : IVec S16x1 32) (v573 : FVec F S16x16 .f32) (v575 : IVec S16x16 1), IVec S16x16 32)) := rfl

theorem part14_eq (C0 : FVec F S16x2048 .f32) (K : IVec S16x2048 32) :
    k0_part14 (F := F) arg0 harg0 arg1 harg1 arg2 harg2 arg3 harg3 arg4 harg4 arg5 harg5 arg6 harg6 arg7 harg7 arg8 harg8 slo K (cTI C0 K 8) (cC C0 K 8) (cMin (cC C0 K 8) K) (cTV C0 K 9) (cmpi .eq slo (broadcast S16x16 8#32)) (broadcastTo S16x16 (shapeCast S16x1 (cMin (cC C0 K 8) K) shapeCasts_S16x1_S16x1) broadcasts_S16x1_S16x16) = (do
    pure ⟨cC C0 K 10, cTV C0 K 11, cTI C0 K 11, cmpi .eq K (broadcastTo S16x2048 (cMin (cC C0 K 10) K) broadcasts_S16x1_S16x2048), Scalar.ofBits .f32 0xFF800000#32⟩ : Prog (TpuEff nD τ sig (Elt F) Λ₀ .tc) (Σ' (v604 : FVec F S16x2048 .f32) (v617 : FVec F S16x16 .f32) (v622 : IVec S16x16 32) (v624 : IVec S16x2048 1), F .f32)) := rfl

theorem part15_eq (C0 : FVec F S16x2048 .f32) (K : IVec S16x2048 32) :
    k0_part15 (F := F) arg0 harg0 arg1 harg1 arg2 harg2 arg3 harg3 arg4 harg4 arg5 harg5 arg6 harg6 arg7 harg7 arg8 harg8 slo K (cC C0 K 10) (cTV C0 K 11) (cTI C0 K 11) (cmpi .eq K (broadcastTo S16x2048 (cMin (cC C0 K 10) K) broadcasts_S16x1_S16x2048)) (Scalar.ofBits .f32 0xFF800000#32) = (do
    pure ⟨cTV C0 K 13, cTI C0 K 13, cC C0 K 13, multiReduction .maximumf [1] S16 (cC C0 K 13) 0xFF800000#32 reduces_S16x2048_S16 (.inl rfl) rfl⟩ : Prog (TpuEff nD τ sig (Elt F) Λ₀ .tc) (Σ' (v661 : FVec F S16x16 .f32) (v666 : IVec S16x16 32) (v670 : FVec F S16x2048 .f32), FVec F S16 .f32)) := rfl

theorem part16_eq (C0 : FVec F S16x2048 .f32) (K : IVec S16x2048 32) :
    k0_part16 (F := F) arg0 harg0 arg1 harg1 arg2 harg2 arg3 harg3 arg4 harg4 arg5 harg5 arg6 harg6 arg7 harg7 arg8 harg8 slo K (cTV C0 K 13) (cTI C0 K 13) (cC C0 K 13) (multiReduction .maximumf [1] S16 (cC C0 K 13) 0xFF800000#32 reduces_S16x2048_S16 (.inl rfl) rfl) = (do
    pure ⟨cTV C0 K 15, cTI C0 K 15, cMax (cC C0 K 15), cmpf .oeq (cC C0 K 15) (broadcastTo S16x2048 (cMax (cC C0 K 15)) broadcasts_S16x1_S16x2048), 1073741824#32⟩ : Prog (TpuEff nD τ sig (Elt F) Λ₀ .tc) (Σ' (v705 : FVec F S16x16 .f32) (v710 : IVec S16x16 32) (v716 : FVec F S16x1 .f32) (v718 : IVec S16x2048 1), BitVec 32)) := rfl

theorem part17_eq (C0 : FVec F S16x2048 .f32) (K : IVec S16x2048 32) :
    k0_part17 (F := F) arg0 harg0 arg1 harg1 arg2 harg2 arg3 harg3 arg4 harg4 arg5 harg5 arg6 harg6 arg7 harg7 arg8 harg8 slo K (cTV C0 K 15) (cTI C0 K 15) (cMax (cC C0 K 15)) (cmpf .oeq (cC C0 K 15) (broadcastTo S16x2048 (cMax (cC C0 K 15)) broadcasts_S16x1_S16x2048)) 1073741824#32 = (do
    let v733 : Vec F S16x1 .f32 ← Prog.lift (.load arg2 (Rect.unit (s := S16x1) ![0, 0] S16x1.size inb_S16x1_S16x1_0_0).toLoadRect (View.loadsAt_vmem h_S16x1))
    let v736 : Vec F S16x1 .f32 ← Prog.lift (.load arg3 (Rect.unit (s := S16x1) ![0, 0] S16x1.size inb_S16x1_S16x1_0_0).toLoadRect (View.loadsAt_vmem h_S16x1))
    pure ⟨cTI C0 K 16, subf (cTV C0 K 16) (broadcastTo S16x16 v733 broadcasts_S16x1_S16x16), dIn v736 (subf (cTV C0 K 16) (broadcastTo S16x16 v733 broadcasts_S16x1_S16x16)), fio, row1, broadcast S1x16 0#32, broadcast S1x16 0#32, broadcast S1x16 (Scalar.ofBits .f32 0x00000000#32), broadcast S1x16 (Scalar.ofBits .f32 0x00000000#32), pMax ((dIn v736 (subf (cTV C0 K 16) (broadcastTo S16x16 v733 broadcasts_S16x1_S16x16)))), pIdx ((dIn v736 (subf (cTV C0 K 16) (broadcastTo S16x16 v733 broadcasts_S16x1_S16x16)))), cmpi .eq fio (broadcast S16x16 (pIdx ((dIn v736 (subf (cTV C0 K 16) (broadcastTo S16x16 v733 broadcasts_S16x1_S16x16)))))), 0#32⟩ : Prog (TpuEff nD τ sig (Elt F) Λ₀ .tc) (Σ' (v732 : IVec S16x16 32) (v735 : FVec F S16x16 .f32) (v739 : FVec F S16x16 .f32) (v743 : IVec S16x16 32) (v744 : IVec S1x16 32) (v745 : IVec S1x16 32) (v746 : IVec S1x16 32) (v747 : FVec F S1x16 .f32) (v748 : FVec F S1x16 .f32) (v752 : F .f32) (v760 : BitVec 32) (v762 : IVec S16x16 1), BitVec 32)) := rfl

theorem part18_eq (D0 : FVec F S16x16 .f32) (ys : FVec F S16x16 .f32) (ti : IVec S16x16 32) :
    k0_part18 (F := F) arg0 harg0 arg1 harg1 arg2 harg2 arg3 harg3 arg4 harg4 arg5 harg5 arg6 harg6 arg7 harg7 arg8 harg8 ti ys D0 fio row1 (broadcast S1x16 0#32) (broadcast S1x16 0#32) (broadcast S1x16 (Scalar.ofBits .f32 0x00000000#32)) (broadcast S1x16 (Scalar.ofBits .f32 0x00000000#32)) (pMax (D0)) (pIdx (D0)) (cmpi .eq fio (broadcast S16x16 (pIdx (D0)))) 0#32 = (do
    pure ⟨rTok D0 ti 1, rQ D0 1, rP D0 1, rL D0 ys 1, dD D0 1, multiReduction .maximumf [1, 2] S1 (shapeCast S1x16x16 (dD D0 1) shapeCasts_S16x16_S1x16x16) 0xFF800000#32 reduces_S1x16x16_S1 (.inl rfl) rfl⟩ : Prog (TpuEff nD τ sig (Elt F) Λ₀ .tc) (Σ' (v780 : IVec S1x16 32) (v799 : IVec S1x16 32) (v801 : FVec F S1x16 .f32) (v803 : FVec F S1x16 .f32) (v807 : FVec F S16x16 .f32), FVec F S1 .f32)) := rfl

theorem part19_eq (D0 : FVec F S16x16 .f32) (ys : FVec F S16x16 .f32) (ti : IVec S16x16 32) :
    k0_part19 (F := F) arg0 harg0 arg1 harg1 arg2 harg2 arg3 harg3 arg4 harg4 arg5 harg5 arg6 harg6 arg7 harg7 arg8 harg8 ti ys fio row1 (rTok D0 ti 1) (dD D0 1) (multiReduction .maximumf [1, 2] S1 (shapeCast S1x16x16 (dD D0 1) shapeCasts_S16x16_S1x16x16) 0xFF800000#32 reduces_S1x16x16_S1 (.inl rfl) rfl) = (do
    pure ⟨pMax (dD D0 1), pIdx (dD D0 1), pLr ys (pIdx (dD D0 1)), cmpi .eq row1 (broadcast S1x16 1#32), rTok D0 ti 2, Scalar.divsi (pIdx (dD D0 1)) 16#32, Scalar.andi (Scalar.cmpi .ne (Scalar.subi (Scalar.extui (Scalar.cmpi .sgt (pIdx (dD D0 1)) 0#32)) (Scalar.extui (Scalar.cmpi .slt (pIdx (dD D0 1)) 0#32))) (Scalar.subi (Scalar.extui (Scalar.cmpi .sgt 16#32 0#32)) (Scalar.extui (Scalar.cmpi .slt 16#32 0#32)))) (Scalar.cmpi .ne (Scalar.remsi (pIdx (dD D0 1)) 16#32) 0#32), Scalar.subi (Scalar.divsi (pIdx (dD D0 1)) 16#32) 1#32⟩ : Prog (TpuEff nD τ sig (Elt F) Λ₀ .tc) (Σ' (v811 : F .f32) (v819 : BitVec 32) (v835 : F .f32) (v837 : IVec S1x16 1) (v839 : IVec S1x16 32) (v840 : BitVec 32) (v854 : BitVec 1), BitVec 32)) := rfl

theorem part20_eq (D0 : FVec F S16x16 .f32) (ys : FVec F S16x16 .f32) (ti : IVec S16x16 32) :
    k0_part20 (F := F) arg0 harg0 arg1 harg1 arg2 harg2 arg3 harg3 arg4 harg4 arg5 harg5 arg6 harg6 arg7 harg7 arg8 harg8 ti ys fio row1 (rQ D0 1) (rP D0 1) (rL D0 ys 1) (dD D0 1) (pMax (dD D0 1)) (pIdx (dD D0 1)) (pLr ys (pIdx (dD D0 1))) (cmpi .eq row1 (broadcast S1x16 1#32)) (rTok D0 ti 2) (Scalar.divsi (pIdx (dD D0 1)) 16#32) (Scalar.andi (Scalar.cmpi .ne (Scalar.subi (Scalar.extui (Scalar.cmpi .sgt (pIdx (dD D0 1)) 0#32)) (Scalar.extui (Scalar.cmpi .slt (pIdx (dD D0 1)) 0#32))) (Scalar.subi (Scalar.extui (Scalar.cmpi .sgt 16#32 0#32)) (Scalar.extui (Scalar.cmpi .slt 16#32 0#32)))) (Scalar.cmpi .ne (Scalar.remsi (pIdx (dD D0 1)) 16#32) 0#32)) (Scalar.subi (Scalar.divsi (pIdx (dD D0 1)) 16#32) 1#32) = (do
    pure ⟨rQ D0 2, rP D0 2, rL D0 ys 2, dD D0 2, pMax (dD D0 2), pIdx (dD D0 2), pLr ys (pIdx (dD D0 2)), cmpi .eq row1 (broadcast S1x16 2#32), rTok D0 ti 3, 16#32, Scalar.divsi (pIdx (dD D0 2)) 16#32, Scalar.extui (Scalar.cmpi .sgt (pIdx (dD D0 2)) 0#32), Scalar.extui (Scalar.cmpi .slt (pIdx (dD D0 2)) 0#32)⟩ : Prog (TpuEff nD τ sig (Elt F) Λ₀ .tc) (Σ' (v858 : IVec S1x16 32) (v860 : FVec F S1x16 .f32) (v862 : FVec F S1x16 .f32) (v866 : FVec F S16x16 .f32) (v870 : F .f32) (v878 : BitVec 32) (v894 : F .f32) (v896 : IVec S1x16 1) (v898 : IVec S1x16 32) (c16_i32_257 : BitVec 32) (v899 : BitVec 32) (v901 : BitVec 32), BitVec 32)) := rfl

theorem part21_eq (D0 : FVec F S16x16 .f32) (ys : FVec F S16x16 .f32) (ti : IVec S16x16 32) :
    k0_part21 (F := F) arg0 harg0 arg1 harg1 arg2 harg2 arg3 harg3 arg4 harg4 arg5 harg5 arg6 harg6 arg7 harg7 arg8 harg8 ti ys fio (rQ D0 2) (rP D0 2) (rL D0 ys 2) (dD D0 2) (pMax (dD D0 2)) (pIdx (dD D0 2)) (pLr ys (pIdx (dD D0 2))) (cmpi .eq row1 (broadcast S1x16 2#32)) 16#32 (Scalar.divsi (pIdx (dD D0 2)) 16#32) (Scalar.extui (Scalar.cmpi .sgt (pIdx (dD D0 2)) 0#32)) (Scalar.extui (Scalar.cmpi .slt (pIdx (dD D0 2)) 0#32)) = (do
    pure ⟨rQ D0 3, rP D0 3, rL D0 ys 3, dD D0 3, pMax (dD D0 3), pIdx (dD D0 3), pTok ti (pIdx (dD D0 3)), multiReduction .add [1, 2] S1 (shapeCast S1x16x16 (select (cmpi .eq fio (broadcast S16x16 (pIdx (dD D0 3)))) ys (broadcast S16x16 (Scalar.ofBits .f32 0x00000000#32))) shapeCasts_S16x16_S1x16x16) 0x00000000#32 reduces_S1x16x16_S1 (.inl rfl) rfl⟩ : Prog (TpuEff nD τ sig (Elt F) Λ₀ .tc) (Σ' (v917 : IVec S1x16 32) (v919 : FVec F S1x16 .f32) (v921 : FVec F S1x16 .f32) (v925 : FVec F S16x16 .f32) (v929 : F .f32) (v937 : BitVec 32) (v945 : BitVec 32), FVec F S1 .f32)) := rfl

theorem part22_eq (D0 : FVec F S16x16 .f32) (ys : FVec F S16x16 .f32) (ti : IVec S16x16 32) :
    k0_part22 (F := F) arg0 harg0 arg1 harg1 arg2 harg2 arg3 harg3 arg4 harg4 arg5 harg5 arg6 harg6 arg7 harg7 arg8 harg8 fio row1 (rTok D0 ti 3) (rQ D0 3) (rP D0 3) (rL D0 ys 3) (dD D0 3) (pMax (dD D0 3)) (pIdx (dD D0 3)) (pTok ti (pIdx (dD D0 3))) (multiReduction .add [1, 2] S1 (shapeCast S1x16x16 (select (cmpi .eq fio (broadcast S16x16 (pIdx (dD D0 3)))) ys (broadcast S16x16 (Scalar.ofBits .f32 0x00000000#32))) shapeCasts_S16x16_S1x16x16) 0x00000000#32 reduces_S1x16x16_S1 (.inl rfl) rfl) = (do
    pure ⟨rTok D0 ti 4, rQ D0 4, rP D0 4, rL D0 ys 4, dD D0 4, pMax (dD D0 4), pIdx (dD D0 4), cmpi .eq fio (broadcast S16x16 (pIdx (dD D0 4))), 0#32⟩ : Prog (TpuEff nD τ sig (Elt F) Λ₀ .tc) (Σ' (v957 : IVec S1x16 32) (v976 : IVec S1x16 32) (v978 : FVec F S1x16 .f32) (v980 : FVec F S1x16 .f32) (v984 : FVec F S16x16 .f32) (v988 : F .f32) (v996 : BitVec 32) (v998 : IVec S16x16 1), BitVec 32)) := rfl

theorem part23_eq (D0 : FVec F S16x16 .f32) (ys : FVec F S16x16 .f32) (ti : IVec S16x16 32) :
    k0_part23 (F := F) arg0 harg0 arg1 harg1 arg2 harg2 arg3 harg3 arg4 harg4 arg5 harg5 arg6 harg6 arg7 harg7 arg8 harg8 ti ys fio row1 (rTok D0 ti 4) (rQ D0 4) (rP D0 4) (rL D0 ys 4) (dD D0 4) (pMax (dD D0 4)) (pIdx (dD D0 4)) (cmpi .eq fio (broadcast S16x16 (pIdx (dD D0 4)))) 0#32 = (do
    pure ⟨rTok D0 ti 5, rQ D0 5, rP D0 5, rL D0 ys 5, dD D0 5, multiReduction .maximumf [1, 2] S1 (shapeCast S1x16x16 (dD D0 5) shapeCasts_S16x16_S1x16x16) 0xFF800000#32 reduces_S1x16x16_S1 (.inl rfl) rfl⟩ : Prog (TpuEff nD τ sig (Elt F) Λ₀ .tc) (Σ' (v1016 : IVec S1x16 32) (v1035 : IVec S1x16 32) (v1037 : FVec F S1x16 .f32) (v1039 : FVec F S1x16 .f32) (v1043 : FVec F S16x16 .f32), FVec F S1 .f32)) := rfl

theorem part24_eq (D0 : FVec F S16x16 .f32) (ys : FVec F S16x16 .f32) (ti : IVec S16x16 32) :
    k0_part24 (F := F) arg0 harg0 arg1 harg1 arg2 harg2 arg3 harg3 arg4 harg4 arg5 harg5 arg6 harg6 arg7 harg7 arg8 harg8 ti ys fio row1 (rTok D0 ti 5) (dD D0 5) (multiReduction .maximumf [1, 2] S1 (shapeCast S1x16x16 (dD D0 5) shapeCasts_S16x16_S1x16x16) 0xFF800000#32 reduces_S1x16x16_S1 (.inl rfl) rfl) = (do
    pure ⟨pMax (dD D0 5), pIdx (dD D0 5), pLr ys (pIdx (dD D0 5)), cmpi .eq row1 (broadcast S1x16 5#32), rTok D0 ti 6, Scalar.divsi (pIdx (dD D0 5)) 16#32, Scalar.andi (Scalar.cmpi .ne (Scalar.subi (Scalar.extui (Scalar.cmpi .sgt (pIdx (dD D0 5)) 0#32)) (Scalar.extui (Scalar.cmpi .slt (pIdx (dD D0 5)) 0#32))) (Scalar.subi (Scalar.extui (Scalar.cmpi .sgt 16#32 0#32)) (Scalar.extui (Scalar.cmpi .slt 16#32 0#32)))) (Scalar.cmpi .ne (Scalar.remsi (pIdx (dD D0 5)) 16#32) 0#32), Scalar.subi (Scalar.divsi (pIdx (dD D0 5)) 16#32) 1#32⟩ : Prog (TpuEff nD τ sig (Elt F) Λ₀ .tc) (Σ' (v1047 : F .f32) (v1055 : BitVec 32) (v1071 : F .f32) (v1073 : IVec S1x16 1) (v1075 : IVec S1x16 32) (v1076 : BitVec 32) (v1090 : BitVec 1), BitVec 32)) := rfl

theorem part25_eq (D0 : FVec F S16x16 .f32) (ys : FVec F S16x16 .f32) (ti : IVec S16x16 32) :
    k0_part25 (F := F) arg0 harg0 arg1 harg1 arg2 harg2 arg3 harg3 arg4 harg4 arg5 harg5 arg6 harg6 arg7 harg7 arg8 harg8 ti ys fio row1 (rQ D0 5) (rP D0 5) (rL D0 ys 5) (dD D0 5) (pMax (dD D0 5)) (pIdx (dD D0 5)) (pLr ys (pIdx (dD D0 5))) (cmpi .eq row1 (broadcast S1x16 5#32)) (rTok D0 ti 6) (Scalar.divsi (pIdx (dD D0 5)) 16#32) (Scalar.andi (Scalar.cmpi .ne (Scalar.subi (Scalar.extui (Scalar.cmpi .sgt (pIdx (dD D0 5)) 0#32)) (Scalar.extui (Scalar.cmpi .slt (pIdx (dD D0 5)) 0#32))) (Scalar.subi (Scalar.extui (Scalar.cmpi .sgt 16#32 0#32)) (Scalar.extui (Scalar.cmpi .slt 16#32 0#32)))) (Scalar.cmpi .ne (Scalar.remsi (pIdx (dD D0 5)) 16#32) 0#32)) (Scalar.subi (Scalar.divsi (pIdx (dD D0 5)) 16#32) 1#32) = (do
    pure ⟨rQ D0 6, rP D0 6, rL D0 ys 6, dD D0 6, pMax (dD D0 6), pIdx (dD D0 6), pLr ys (pIdx (dD D0 6)), cmpi .eq row1 (broadcast S1x16 6#32), rTok D0 ti 7, 16#32, Scalar.divsi (pIdx (dD D0 6)) 16#32, Scalar.extui (Scalar.cmpi .sgt (pIdx (dD D0 6)) 0#32), Scalar.extui (Scalar.cmpi .slt (pIdx (dD D0 6)) 0#32)⟩ : Prog (TpuEff nD τ sig (Elt F) Λ₀ .tc) (Σ' (v1094 : IVec S1x16 32) (v1096 : FVec F S1x16 .f32) (v1098 : FVec F S1x16 .f32) (v1102 : FVec F S16x16 .f32) (v1106 : F .f32) (v1114 : BitVec 32) (v1130 : F .f32) (v1132 : IVec S1x16 1) (v1134 : IVec S1x16 32) (c16_i32_321 : BitVec 32) (v1135 : BitVec 32) (v1137 : BitVec 32), BitVec 32)) := rfl

theorem part26_eq (D0 : FVec F S16x16 .f32) (ys : FVec F S16x16 .f32) (ti : IVec S16x16 32) :
    k0_part26 (F := F) arg0 harg0 arg1 harg1 arg2 harg2 arg3 harg3 arg4 harg4 arg5 harg5 arg6 harg6 arg7 harg7 arg8 harg8 ti ys fio (rQ D0 6) (rP D0 6) (rL D0 ys 6) (dD D0 6) (pMax (dD D0 6)) (pIdx (dD D0 6)) (pLr ys (pIdx (dD D0 6))) (cmpi .eq row1 (broadcast S1x16 6#32)) 16#32 (Scalar.divsi (pIdx (dD D0 6)) 16#32) (Scalar.extui (Scalar.cmpi .sgt (pIdx (dD D0 6)) 0#32)) (Scalar.extui (Scalar.cmpi .slt (pIdx (dD D0 6)) 0#32)) = (do
    pure ⟨rQ D0 7, rP D0 7, rL D0 ys 7, dD D0 7, pMax (dD D0 7), pIdx (dD D0 7), pTok ti (pIdx (dD D0 7)), multiReduction .add [1, 2] S1 (shapeCast S1x16x16 (select (cmpi .eq fio (broadcast S16x16 (pIdx (dD D0 7)))) ys (broadcast S16x16 (Scalar.ofBits .f32 0x00000000#32))) shapeCasts_S16x16_S1x16x16) 0x00000000#32 reduces_S1x16x16_S1 (.inl rfl) rfl⟩ : Prog (TpuEff nD τ sig (Elt F) Λ₀ .tc) (Σ' (v1153 : IVec S1x16 32) (v1155 : FVec F S1x16 .f32) (v1157 : FVec F S1x16 .f32) (v1161 : FVec F S16x16 .f32) (v1165 : F .f32) (v1173 : BitVec 32) (v1181 : BitVec 32), FVec F S1 .f32)) := rfl

theorem part27_eq (D0 : FVec F S16x16 .f32) (ys : FVec F S16x16 .f32) (ti : IVec S16x16 32) :
    k0_part27 (F := F) arg0 harg0 arg1 harg1 arg2 harg2 arg3 harg3 arg4 harg4 arg5 harg5 arg6 harg6 arg7 harg7 arg8 harg8 fio row1 (rTok D0 ti 7) (rQ D0 7) (rP D0 7) (rL D0 ys 7) (dD D0 7) (pMax (dD D0 7)) (pIdx (dD D0 7)) (pTok ti (pIdx (dD D0 7))) (multiReduction .add [1, 2] S1 (shapeCast S1x16x16 (select (cmpi .eq fio (broadcast S16x16 (pIdx (dD D0 7)))) ys (broadcast S16x16 (Scalar.ofBits .f32 0x00000000#32))) shapeCasts_S16x16_S1x16x16) 0x00000000#32 reduces_S1x16x16_S1 (.inl rfl) rfl) = (do
    pure ⟨rTok D0 ti 8, rQ D0 8, rP D0 8, rL D0 ys 8, dD D0 8, pMax (dD D0 8), pIdx (dD D0 8), cmpi .eq fio (broadcast S16x16 (pIdx (dD D0 8))), 0#32⟩ : Prog (TpuEff nD τ sig (Elt F) Λ₀ .tc) (Σ' (v1193 : IVec S1x16 32) (v1212 : IVec S1x16 32) (v1214 : FVec F S1x16 .f32) (v1216 : FVec F S1x16 .f32) (v1220 : FVec F S16x16 .f32) (v1224 : F .f32) (v1232 : BitVec 32) (v1234 : IVec S16x16 1), BitVec 32)) := rfl

theorem part28_eq (D0 : FVec F S16x16 .f32) (ys : FVec F S16x16 .f32) (ti : IVec S16x16 32) :
    k0_part28 (F := F) arg0 harg0 arg1 harg1 arg2 harg2 arg3 harg3 arg4 harg4 arg5 harg5 arg6 harg6 arg7 harg7 arg8 harg8 ti ys fio row1 (rTok D0 ti 8) (rQ D0 8) (rP D0 8) (rL D0 ys 8) (dD D0 8) (pMax (dD D0 8)) (pIdx (dD D0 8)) (cmpi .eq fio (broadcast S16x16 (pIdx (dD D0 8)))) 0#32 = (do
    pure ⟨rTok D0 ti 9, rQ D0 9, rP D0 9, rL D0 ys 9, dD D0 9, multiReduction .maximumf [1, 2] S1 (shapeCast S1x16x16 (dD D0 9) shapeCasts_S16x16_S1x16x16) 0xFF800000#32 reduces_S1x16x16_S1 (.inl rfl) rfl⟩ : Prog (TpuEff nD τ sig (Elt F) Λ₀ .tc) (Σ' (v1252 : IVec S1x16 32) (v1271 : IVec S1x16 32) (v1273 : FVec F S1x16 .f32) (v1275 : FVec F S1x16 .f32) (v1279 : FVec F S16x16 .f32), FVec F S1 .f32)) := rfl

theorem part29_eq (D0 : FVec F S16x16 .f32) (ys : FVec F S16x16 .f32) (ti : IVec S16x16 32) :
    k0_part29 (F := F) arg0 harg0 arg1 harg1 arg2 harg2 arg3 harg3 arg4 harg4 arg5 harg5 arg6 harg6 arg7 harg7 arg8 harg8 ti ys fio row1 (rTok D0 ti 9) (dD D0 9) (multiReduction .maximumf [1, 2] S1 (shapeCast S1x16x16 (dD D0 9) shapeCasts_S16x16_S1x16x16) 0xFF800000#32 reduces_S1x16x16_S1 (.inl rfl) rfl) = (do
    pure ⟨pMax (dD D0 9), pIdx (dD D0 9), pLr ys (pIdx (dD D0 9)), cmpi .eq row1 (broadcast S1x16 9#32), rTok D0 ti 10, Scalar.divsi (pIdx (dD D0 9)) 16#32, Scalar.andi (Scalar.cmpi .ne (Scalar.subi (Scalar.extui (Scalar.cmpi .sgt (pIdx (dD D0 9)) 0#32)) (Scalar.extui (Scalar.cmpi .slt (pIdx (dD D0 9)) 0#32))) (Scalar.subi (Scalar.extui (Scalar.cmpi .sgt 16#32 0#32)) (Scalar.extui (Scalar.cmpi .slt 16#32 0#32)))) (Scalar.cmpi .ne (Scalar.remsi (pIdx (dD D0 9)) 16#32) 0#32), Scalar.subi (Scalar.divsi (pIdx (dD D0 9)) 16#32) 1#32⟩ : Prog (TpuEff nD τ sig (Elt F) Λ₀ .tc) (Σ' (v1283 : F .f32) (v1291 : BitVec 32) (v1307 : F .f32) (v1309 : IVec S1x16 1) (v1311 : IVec S1x16 32) (v1312 : BitVec 32) (v1326 : BitVec 1), BitVec 32)) := rfl

theorem part30_eq (D0 : FVec F S16x16 .f32) (ys : FVec F S16x16 .f32) (ti : IVec S16x16 32) :
    k0_part30 (F := F) arg0 harg0 arg1 harg1 arg2 harg2 arg3 harg3 arg4 harg4 arg5 harg5 arg6 harg6 arg7 harg7 arg8 harg8 ti ys fio row1 (rQ D0 9) (rP D0 9) (rL D0 ys 9) (dD D0 9) (pMax (dD D0 9)) (pIdx (dD D0 9)) (pLr ys (pIdx (dD D0 9))) (cmpi .eq row1 (broadcast S1x16 9#32)) (rTok D0 ti 10) (Scalar.divsi (pIdx (dD D0 9)) 16#32) (Scalar.andi (Scalar.cmpi .ne (Scalar.subi (Scalar.extui (Scalar.cmpi .sgt (pIdx (dD D0 9)) 0#32)) (Scalar.extui (Scalar.cmpi .slt (pIdx (dD D0 9)) 0#32))) (Scalar.subi (Scalar.extui (Scalar.cmpi .sgt 16#32 0#32)) (Scalar.extui (Scalar.cmpi .slt 16#32 0#32)))) (Scalar.cmpi .ne (Scalar.remsi (pIdx (dD D0 9)) 16#32) 0#32)) (Scalar.subi (Scalar.divsi (pIdx (dD D0 9)) 16#32) 1#32) = (do
    pure ⟨rQ D0 10, rP D0 10, rL D0 ys 10, dD D0 10, pMax (dD D0 10), pIdx (dD D0 10), pLr ys (pIdx (dD D0 10)), cmpi .eq row1 (broadcast S1x16 10#32), rTok D0 ti 11, 16#32, Scalar.divsi (pIdx (dD D0 10)) 16#32, Scalar.extui (Scalar.cmpi .sgt (pIdx (dD D0 10)) 0#32), Scalar.extui (Scalar.cmpi .slt (pIdx (dD D0 10)) 0#32)⟩ : Prog (TpuEff nD τ sig (Elt F) Λ₀ .tc) (Σ' (v1330 : IVec S1x16 32) (v1332 : FVec F S1x16 .f32) (v1334 : FVec F S1x16 .f32) (v1338 : FVec F S16x16 .f32) (v1342 : F .f32) (v1350 : BitVec 32) (v1366 : F .f32) (v1368 : IVec S1x16 1) (v1370 : IVec S1x16 32) (c16_i32_385 : BitVec 32) (v1371 : BitVec 32) (v1373 : BitVec 32), BitVec 32)) := rfl

theorem part31_eq (D0 : FVec F S16x16 .f32) (ys : FVec F S16x16 .f32) (ti : IVec S16x16 32) :
    k0_part31 (F := F) arg0 harg0 arg1 harg1 arg2 harg2 arg3 harg3 arg4 harg4 arg5 harg5 arg6 harg6 arg7 harg7 arg8 harg8 ti ys fio (rQ D0 10) (rP D0 10) (rL D0 ys 10) (dD D0 10) (pMax (dD D0 10)) (pIdx (dD D0 10)) (pLr ys (pIdx (dD D0 10))) (cmpi .eq row1 (broadcast S1x16 10#32)) 16#32 (Scalar.divsi (pIdx (dD D0 10)) 16#32) (Scalar.extui (Scalar.cmpi .sgt (pIdx (dD D0 10)) 0#32)) (Scalar.extui (Scalar.cmpi .slt (pIdx (dD D0 10)) 0#32)) = (do
    pure ⟨rQ D0 11, rP D0 11, rL D0 ys 11, dD D0 11, pMax (dD D0 11), pIdx (dD D0 11), pTok ti (pIdx (dD D0 11)), multiReduction .add [1, 2] S1 (shapeCast S1x16x16 (select (cmpi .eq fio (broadcast S16x16 (pIdx (dD D0 11)))) ys (broadcast S16x16 (Scalar.ofBits .f32 0x00000000#32))) shapeCasts_S16x16_S1x16x16) 0x00000000#32 reduces_S1x16x16_S1 (.inl rfl) rfl⟩ : Prog (TpuEff nD τ sig (Elt F) Λ₀ .tc) (Σ' (v1389 : IVec S1x16 32) (v1391 : FVec F S1x16 .f32) (v1393 : FVec F S1x16 .f32) (v1397 : FVec F S16x16 .f32) (v1401 : F .f32) (v1409 : BitVec 32) (v1417 : BitVec 32), FVec F S1 .f32)) := rfl

theorem part32_eq (D0 : FVec F S16x16 .f32) (ys : FVec F S16x16 .f32) (ti : IVec S16x16 32) :
    k0_part32 (F := F) arg0 harg0 arg1 harg1 arg2 harg2 arg3 harg3 arg4 harg4 arg5 harg5 arg6 harg6 arg7 harg7 arg8 harg8 fio row1 (rTok D0 ti 11) (rQ D0 11) (rP D0 11) (rL D0 ys 11) (dD D0 11) (pMax (dD D0 11)) (pIdx (dD D0 11)) (pTok ti (pIdx (dD D0 11))) (multiReduction .add [1, 2] S1 (shapeCast S1x16x16 (select (cmpi .eq fio (broadcast S16x16 (pIdx (dD D0 11)))) ys (broadcast S16x16 (Scalar.ofBits .f32 0x00000000#32))) shapeCasts_S16x16_S1x16x16) 0x00000000#32 reduces_S1x16x16_S1 (.inl rfl) rfl) = (do
    pure ⟨rTok D0 ti 12, rQ D0 12, rP D0 12, rL D0 ys 12, dD D0 12, pMax (dD D0 12), pIdx (dD D0 12), cmpi .eq fio (broadcast S16x16 (pIdx (dD D0 12))), 0#32⟩ : Prog (TpuEff nD τ sig (Elt F) Λ₀ .tc) (Σ' (v1429 : IVec S1x16 32) (v1448 : IVec S1x16 32) (v1450 : FVec F S1x16 .f32) (v1452 : FVec F S1x16 .f32) (v1456 : FVec F S16x16 .f32) (v1460 : F .f32) (v1468 : BitVec 32) (v1470 : IVec S16x16 1), BitVec 32)) := rfl

theorem part33_eq (D0 : FVec F S16x16 .f32) (ys : FVec F S16x16 .f32) (ti : IVec S16x16 32) :
    k0_part33 (F := F) arg0 harg0 arg1 harg1 arg2 harg2 arg3 harg3 arg4 harg4 arg5 harg5 arg6 harg6 arg7 harg7 arg8 harg8 ti ys fio row1 (rTok D0 ti 12) (rQ D0 12) (rP D0 12) (rL D0 ys 12) (dD D0 12) (pMax (dD D0 12)) (pIdx (dD D0 12)) (cmpi .eq fio (broadcast S16x16 (pIdx (dD D0 12)))) 0#32 = (do
    pure ⟨rTok D0 ti 13, rQ D0 13, rP D0 13, rL D0 ys 13, dD D0 13, multiReduction .maximumf [1, 2] S1 (shapeCast S1x16x16 (dD D0 13) shapeCasts_S16x16_S1x16x16) 0xFF800000#32 reduces_S1x16x16_S1 (.inl rfl) rfl⟩ : Prog (TpuEff nD τ sig (Elt F) Λ₀ .tc) (Σ' (v1488 : IVec S1x16 32) (v1507 : IVec S1x16 32) (v1509 : FVec F S1x16 .f32) (v1511 : FVec F S1x16 .f32) (v1515 : FVec F S16x16 .f32), FVec F S1 .f32)) := rfl

theorem part34_eq (D0 : FVec F S16x16 .f32) (ys : FVec F S16x16 .f32) (ti : IVec S16x16 32) :
    k0_part34 (F := F) arg0 harg0 arg1 harg1 arg2 harg2 arg3 harg3 arg4 harg4 arg5 harg5 arg6 harg6 arg7 harg7 arg8 harg8 ti ys fio row1 (rTok D0 ti 13) (dD D0 13) (multiReduction .maximumf [1, 2] S1 (shapeCast S1x16x16 (dD D0 13) shapeCasts_S16x16_S1x16x16) 0xFF800000#32 reduces_S1x16x16_S1 (.inl rfl) rfl) = (do
    pure ⟨pMax (dD D0 13), pIdx (dD D0 13), pLr ys (pIdx (dD D0 13)), cmpi .eq row1 (broadcast S1x16 13#32), rTok D0 ti 14, Scalar.divsi (pIdx (dD D0 13)) 16#32, Scalar.andi (Scalar.cmpi .ne (Scalar.subi (Scalar.extui (Scalar.cmpi .sgt (pIdx (dD D0 13)) 0#32)) (Scalar.extui (Scalar.cmpi .slt (pIdx (dD D0 13)) 0#32))) (Scalar.subi (Scalar.extui (Scalar.cmpi .sgt 16#32 0#32)) (Scalar.extui (Scalar.cmpi .slt 16#32 0#32)))) (Scalar.cmpi .ne (Scalar.remsi (pIdx (dD D0 13)) 16#32) 0#32), Scalar.subi (Scalar.divsi (pIdx (dD D0 13)) 16#32) 1#32⟩ : Prog (TpuEff nD τ sig (Elt F) Λ₀ .tc) (Σ' (v1519 : F .f32) (v1527 : BitVec 32) (v1543 : F .f32) (v1545 : IVec S1x16 1) (v1547 : IVec S1x16 32) (v1548 : BitVec 32) (v1562 : BitVec 1), BitVec 32)) := rfl

theorem part35_eq (D0 : FVec F S16x16 .f32) (ys : FVec F S16x16 .f32) (ti : IVec S16x16 32) :
    k0_part35 (F := F) arg0 harg0 arg1 harg1 arg2 harg2 arg3 harg3 arg4 harg4 arg5 harg5 arg6 harg6 arg7 harg7 arg8 harg8 ti ys fio row1 (rQ D0 13) (rP D0 13) (rL D0 ys 13) (dD D0 13) (pMax (dD D0 13)) (pIdx (dD D0 13)) (pLr ys (pIdx (dD D0 13))) (cmpi .eq row1 (broadcast S1x16 13#32)) (rTok D0 ti 14) (Scalar.divsi (pIdx (dD D0 13)) 16#32) (Scalar.andi (Scalar.cmpi .ne (Scalar.subi (Scalar.extui (Scalar.cmpi .sgt (pIdx (dD D0 13)) 0#32)) (Scalar.extui (Scalar.cmpi .slt (pIdx (dD D0 13)) 0#32))) (Scalar.subi (Scalar.extui (Scalar.cmpi .sgt 16#32 0#32)) (Scalar.extui (Scalar.cmpi .slt 16#32 0#32)))) (Scalar.cmpi .ne (Scalar.remsi (pIdx (dD D0 13)) 16#32) 0#32)) (Scalar.subi (Scalar.divsi (pIdx (dD D0 13)) 16#32) 1#32) = (do
    pure ⟨rQ D0 14, rP D0 14, rL D0 ys 14, dD D0 14, pMax (dD D0 14), pIdx (dD D0 14), pLr ys (pIdx (dD D0 14)), cmpi .eq row1 (broadcast S1x16 14#32), rTok D0 ti 15, 16#32, Scalar.divsi (pIdx (dD D0 14)) 16#32, Scalar.extui (Scalar.cmpi .sgt (pIdx (dD D0 14)) 0#32), Scalar.extui (Scalar.cmpi .slt (pIdx (dD D0 14)) 0#32)⟩ : Prog (TpuEff nD τ sig (Elt F) Λ₀ .tc) (Σ' (v1566 : IVec S1x16 32) (v1568 : FVec F S1x16 .f32) (v1570 : FVec F S1x16 .f32) (v1574 : FVec F S16x16 .f32) (v1578 : F .f32) (v1586 : BitVec 32) (v1602 : F .f32) (v1604 : IVec S1x16 1) (v1606 : IVec S1x16 32) (c16_i32_449 : BitVec 32) (v1607 : BitVec 32) (v1609 : BitVec 32), BitVec 32)) := rfl

theorem part36_eq (D0 : FVec F S16x16 .f32) (ys : FVec F S16x16 .f32) (ti : IVec S16x16 32) :
    k0_part36 (F := F) arg0 harg0 arg1 harg1 arg2 harg2 arg3 harg3 arg4 harg4 arg5 harg5 arg6 harg6 arg7 harg7 arg8 harg8 ti ys fio (rQ D0 14) (rP D0 14) (rL D0 ys 14) (dD D0 14) (pMax (dD D0 14)) (pIdx (dD D0 14)) (pLr ys (pIdx (dD D0 14))) (cmpi .eq row1 (broadcast S1x16 14#32)) 16#32 (Scalar.divsi (pIdx (dD D0 14)) 16#32) (Scalar.extui (Scalar.cmpi .sgt (pIdx (dD D0 14)) 0#32)) (Scalar.extui (Scalar.cmpi .slt (pIdx (dD D0 14)) 0#32)) = (do
    pure ⟨rQ D0 15, rP D0 15, rL D0 ys 15, pMax (dD D0 15), pIdx (dD D0 15), pTok ti (pIdx (dD D0 15)), multiReduction .add [1, 2] S1 (shapeCast S1x16x16 (select (cmpi .eq fio (broadcast S16x16 (pIdx (dD D0 15)))) ys (broadcast S16x16 (Scalar.ofBits .f32 0x00000000#32))) shapeCasts_S16x16_S1x16x16) 0x00000000#32 reduces_S1x16x16_S1 (.inl rfl) rfl⟩ : Prog (TpuEff nD τ sig (Elt F) Λ₀ .tc) (Σ' (v1625 : IVec S1x16 32) (v1627 : FVec F S1x16 .f32) (v1629 : FVec F S1x16 .f32) (v1637 : F .f32) (v1645 : BitVec 32) (v1653 : BitVec 32), FVec F S1 .f32)) := rfl

theorem body_eq :
    cc0__phase_b (F := F) arg0 harg0 arg1 harg1 arg2 harg2 arg3 harg3 arg4 harg4 arg5 harg5 arg6 harg6 arg7 harg7 arg8 harg8 = (do
    let gm : Vec F S16x896 .f32 ← Prog.lift (.load arg0 (Rect.unit (s := S16x896) ![0, 0] S16x896.size inb_S16x896_S16x896_0_0).toLoadRect (View.loadsAt_vmem h_S16x896))
    let v281 : Vec F S1x800x128 .f32 ← Prog.lift (.load arg1 (Rect.unit (s := S16x800x128) ![0, 0, 0] S1x800x128.size inb_S16x800x128_S1x800x128_0_0_0).toLoadRect (View.loadsAt_vmem h_S1x800x128))
    let v287 : Vec F S1x800x128 .f32 ← Prog.lift (.load arg1 (Rect.unit (s := S16x800x128) ![1, 0, 0] S1x800x128.size inb_S16x800x128_S1x800x128_1_0_0).toLoadRect (View.loadsAt_vmem h_S1x800x128))
    let v293 : Vec F S1x800x128 .f32 ← Prog.lift (.load arg1 (Rect.unit (s := S16x800x128) ![2, 0, 0] S1x800x128.size inb_S16x800x128_S1x800x128_2_0_0).toLoadRect (View.loadsAt_vmem h_S1x800x128))
    let v299 : Vec F S1x800x128 .f32 ← Prog.lift (.load arg1 (Rect.unit (s := S16x800x128) ![3, 0, 0] S1x800x128.size inb_S16x800x128_S1x800x128_3_0_0).toLoadRect (View.loadsAt_vmem h_S1x800x128))
    let v305 : Vec F S1x800x128 .f32 ← Prog.lift (.load arg1 (Rect.unit (s := S16x800x128) ![4, 0, 0] S1x800x128.size inb_S16x800x128_S1x800x128_4_0_0).toLoadRect (View.loadsAt_vmem h_S1x800x128))
    let v311 : Vec F S1x800x128 .f32 ← Prog.lift (.load arg1 (Rect.unit (s := S16x800x128) ![5, 0, 0] S1x800x128.size inb_S16x800x128_S1x800x128_5_0_0).toLoadRect (View.loadsAt_vmem h_S1x800x128))
    let v317 : Vec F S1x800x128 .f32 ← Prog.lift (.load arg1 (Rect.unit (s := S16x800x128) ![6, 0, 0] S1x800x128.size inb_S16x800x128_S1x800x128_6_0_0).toLoadRect (View.loadsAt_vmem h_S1x800x128))
    let v323 : Vec F S1x800x128 .f32 ← Prog.lift (.load arg1 (Rect.unit (s := S16x800x128) ![7, 0, 0] S1x800x128.size inb_S16x800x128_S1x800x128_7_0_0).toLoadRect (View.loadsAt_vmem h_S1x800x128))
    let v329 : Vec F S1x800x128 .f32 ← Prog.lift (.load arg1 (Rect.unit (s := S16x800x128) ![8, 0, 0] S1x800x128.size inb_S16x800x128_S1x800x128_8_0_0).toLoadRect (View.loadsAt_vmem h_S1x800x128))
    let v335 : Vec F S1x800x128 .f32 ← Prog.lift (.load arg1 (Rect.unit (s := S16x800x128) ![9, 0, 0] S1x800x128.size inb_S16x800x128_S1x800x128_9_0_0).toLoadRect (View.loadsAt_vmem h_S1x800x128))
    let v341 : Vec F S1x800x128 .f32 ← Prog.lift (.load arg1 (Rect.unit (s := S16x800x128) ![10, 0, 0] S1x800x128.size inb_S16x800x128_S1x800x128_10_0_0).toLoadRect (View.loadsAt_vmem h_S1x800x128))
    let v347 : Vec F S1x800x128 .f32 ← Prog.lift (.load arg1 (Rect.unit (s := S16x800x128) ![11, 0, 0] S1x800x128.size inb_S16x800x128_S1x800x128_11_0_0).toLoadRect (View.loadsAt_vmem h_S1x800x128))
    let v353 : Vec F S1x800x128 .f32 ← Prog.lift (.load arg1 (Rect.unit (s := S16x800x128) ![12, 0, 0] S1x800x128.size inb_S16x800x128_S1x800x128_12_0_0).toLoadRect (View.loadsAt_vmem h_S1x800x128))
    let v359 : Vec F S1x800x128 .f32 ← Prog.lift (.load arg1 (Rect.unit (s := S16x800x128) ![13, 0, 0] S1x800x128.size inb_S16x800x128_S1x800x128_13_0_0).toLoadRect (View.loadsAt_vmem h_S1x800x128))
    let v365 : Vec F S1x800x128 .f32 ← Prog.lift (.load arg1 (Rect.unit (s := S16x800x128) ![14, 0, 0] S1x800x128.size inb_S16x800x128_S1x800x128_14_0_0).toLoadRect (View.loadsAt_vmem h_S1x800x128))
    let v371 : Vec F S1x800x128 .f32 ← Prog.lift (.load arg1 (Rect.unit (s := S16x800x128) ![15, 0, 0] S1x800x128.size inb_S16x800x128_S1x800x128_15_0_0).toLoadRect (View.loadsAt_vmem h_S1x800x128))
    let v733 : Vec F S16x1 .f32 ← Prog.lift (.load arg2 (Rect.unit (s := S16x1) ![0, 0] S16x1.size inb_S16x1_S16x1_0_0).toLoadRect (View.loadsAt_vmem h_S16x1))
    let v736 : Vec F S16x1 .f32 ← Prog.lift (.load arg3 (Rect.unit (s := S16x1) ![0, 0] S16x1.size inb_S16x1_S16x1_0_0).toLoadRect (View.loadsAt_vmem h_S16x1))
    let _ : Vec F S1x16 .i32 ← Prog.lift (.load arg4 (Rect.unit (s := S1x16) ![0, 0] S1x16.size inb_S1x16_S1x16_0_0).toLoadRect (View.loadsAt_vmem h_S1x16))
    Prog.lift (.store arg4 (Rect.unit (s := S1x16) ![0, 0] S1x16.size inb_S1x16_S1x16_0_0) (rTok (dIn v736 (ysOf (gS gm 16) v281 v287 v293 v299 v305 v311 v317 v323 v329 v335 v341 v347 v353 v359 v365 v371 v733)) (cTI (candOf (gS gm 16) v281 v287 v293 v299 v305 v311 v317 v323 v329 v335 v341 v347 v353 v359 v365 v371) (vidOf (gS gm 16)) 16) 16) Finset.univ (View.stores_vmem_bits_univ h_S1x16 rfl) (.inl rfl))
    let _ : Vec F S1x16 .i32 ← Prog.lift (.load arg5 (Rect.unit (s := S1x16) ![0, 0] S1x16.size inb_S1x16_S1x16_0_0).toLoadRect (View.loadsAt_vmem h_S1x16))
    Prog.lift (.store arg5 (Rect.unit (s := S1x16) ![0, 0] S1x16.size inb_S1x16_S1x16_0_0) (rQ (dIn v736 (ysOf (gS gm 16) v281 v287 v293 v299 v305 v311 v317 v323 v329 v335 v341 v347 v353 v359 v365 v371 v733)) 16) Finset.univ (View.stores_vmem_bits_univ h_S1x16 rfl) (.inl rfl))
    let _ : Vec F S1x16 .f32 ← Prog.lift (.load arg6 (Rect.unit (s := S1x16) ![0, 0] S1x16.size inb_S1x16_S1x16_0_0).toLoadRect (View.loadsAt_vmem h_S1x16))
    Prog.lift (.store arg6 (Rect.unit (s := S1x16) ![0, 0] S1x16.size inb_S1x16_S1x16_0_0) (rP (dIn v736 (ysOf (gS gm 16) v281 v287 v293 v299 v305 v311 v317 v323 v329 v335 v341 v347 v353 v359 v365 v371 v733)) 16) Finset.univ (View.stores_vmem_bits_univ h_S1x16 rfl) (.inl rfl))
    let _ : Vec F S1x16 .f32 ← Prog.lift (.load arg7 (Rect.unit (s := S1x16) ![0, 0] S1x16.size inb_S1x16_S1x16_0_0).toLoadRect (View.loadsAt_vmem h_S1x16))
    Prog.lift (.store arg7 (Rect.unit (s := S1x16) ![0, 0] S1x16.size inb_S1x16_S1x16_0_0) (rL (dIn v736 (ysOf (gS gm 16) v281 v287 v293 v299 v305 v311 v317 v323 v329 v335 v341 v347 v353 v359 v365 v371 v733)) (ysOf (gS gm 16) v281 v287 v293 v299 v305 v311 v317 v323 v329 v335 v341 v347 v353 v359 v365 v371 v733) 16) Finset.univ (View.stores_vmem_bits_univ h_S1x16 rfl) (.inl rfl))
    pure ⟨⟩ : Prog (TpuEff nD τ sig (Elt F) Λ₀ .tc) PUnit) := by
  unfold cc0__phase_b k0_part37
  rw [part1_eq]
  simp only [bind_assoc, pure_bind]
  refine bind_congr fun gm => ?_
  rw [part2_eq]
  simp only [bind_assoc, pure_bind]
  rw [part3_eq]
  simp only [bind_assoc, pure_bind]
  rw [part4_eq]
  simp only [bind_assoc, pure_bind]
  rw [part5_eq]
  simp only [bind_assoc, pure_bind]
  rw [part6_eq]
  simp only [bind_assoc, pure_bind]
  rw [part7_eq]
  simp only [bind_assoc, pure_bind]
  refine bind_congr fun v281 => ?_
  refine bind_congr fun v287 => ?_
  refine bind_congr fun v293 => ?_
  refine bind_congr fun v299 => ?_
  refine bind_congr fun v305 => ?_
  refine bind_congr fun v311 => ?_
  rw [part8_eq]
  simp only [bind_assoc, pure_bind]
  refine bind_congr fun v317 => ?_
  refine bind_congr fun v323 => ?_
  refine bind_congr fun v329 => ?_
  refine bind_congr fun v335 => ?_
  refine bind_congr fun v341 => ?_
  refine bind_congr fun v347 => ?_
  rw [part9_eq]
  simp only [bind_assoc, pure_bind]
  refine bind_congr fun v353 => ?_
  refine bind_congr fun v359 => ?_
  refine bind_congr fun v365 => ?_
  refine bind_congr fun v371 => ?_
  rw [part10_eq]
  simp only [bind_assoc, pure_bind]
  rw [part11_eq]
  simp only [bind_assoc, pure_bind]
  rw [part12_eq]
  simp only [bind_assoc, pure_bind]
  rw [part13_eq]
  simp only [bind_assoc, pure_bind]
  rw [part14_eq]
  simp only [bind_assoc, pure_bind]
  rw [part15_eq]
  simp only [bind_assoc, pure_bind]
  rw [part16_eq]
  simp only [bind_assoc, pure_bind]
  rw [part17_eq]
  simp only [bind_assoc, pure_bind]
  refine bind_congr fun v733 => ?_
  refine bind_congr fun v736 => ?_
  rw [part18_eq]
  simp only [bind_assoc, pure_bind]
  rw [part19_eq]
  simp only [bind_assoc, pure_bind]
  rw [part20_eq]
  simp only [bind_assoc, pure_bind]
  rw [part21_eq]
  simp only [bind_assoc, pure_bind]
  rw [part22_eq]
  simp only [bind_assoc, pure_bind]
  rw [part23_eq]
  simp only [bind_assoc, pure_bind]
  rw [part24_eq]
  simp only [bind_assoc, pure_bind]
  rw [part25_eq]
  simp only [bind_assoc, pure_bind]
  rw [part26_eq]
  simp only [bind_assoc, pure_bind]
  rw [part27_eq]
  simp only [bind_assoc, pure_bind]
  rw [part28_eq]
  simp only [bind_assoc, pure_bind]
  rw [part29_eq]
  simp only [bind_assoc, pure_bind]
  rw [part30_eq]
  simp only [bind_assoc, pure_bind]
  rw [part31_eq]
  simp only [bind_assoc, pure_bind]
  rw [part32_eq]
  simp only [bind_assoc, pure_bind]
  rw [part33_eq]
  simp only [bind_assoc, pure_bind]
  rw [part34_eq]
  simp only [bind_assoc, pure_bind]
  rw [part35_eq]
  simp only [bind_assoc, pure_bind]
  rw [part36_eq]
  simp only [bind_assoc, pure_bind]
  simp only [fin_v1665, fin_v1684, fin_v1686, fin_v1688, ys_fold]
  rfl

end Cert.KernelBIdeal.Point

end
-- ==== Proof.BTriple.lean ====
/- The selection kernel's body: what it leaves in the buffers it is called on. -/
module

public import proofs.«01_k».proof.Proof.BBody
public import proofs.«01_k».proof.Proof.Gen.KernelBIdeal.Frame

@[expose] public section

set_option maxRecDepth 16384

noncomputable section

namespace Cert.KernelBIdeal.Point

open Cert.KernelBIdeal Cert.KernelBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One row of the logits, as the body loads it. -/
def lrow (x1 : Vec F S16x800x128 .f32) (off : Fin 3 → Nat) (h : ∀ a, off a + S1x800x128.size a ≤ S16x800x128.size a) : Vec F S1x800x128 .f32 :=
  View.ld (Val := Elt F) (e' := .f32) x1 (Rect.unit (s := S16x800x128) off S1x800x128.size h)

/-- The candidates and what follows of them, of the four buffers' contents. -/
def candX (x0 : Vec F S16x896 .f32) (x1 : Vec F S16x800x128 .f32) : FVec F S16x2048 .f32 :=
  candOf (gS x0 16) (lrow x1 ![0, 0, 0] inb_S16x800x128_S1x800x128_0_0_0) (lrow x1 ![1, 0, 0] inb_S16x800x128_S1x800x128_1_0_0) (lrow x1 ![2, 0, 0] inb_S16x800x128_S1x800x128_2_0_0) (lrow x1 ![3, 0, 0] inb_S16x800x128_S1x800x128_3_0_0) (lrow x1 ![4, 0, 0] inb_S16x800x128_S1x800x128_4_0_0) (lrow x1 ![5, 0, 0] inb_S16x800x128_S1x800x128_5_0_0) (lrow x1 ![6, 0, 0] inb_S16x800x128_S1x800x128_6_0_0) (lrow x1 ![7, 0, 0] inb_S16x800x128_S1x800x128_7_0_0) (lrow x1 ![8, 0, 0] inb_S16x800x128_S1x800x128_8_0_0) (lrow x1 ![9, 0, 0] inb_S16x800x128_S1x800x128_9_0_0) (lrow x1 ![10, 0, 0] inb_S16x800x128_S1x800x128_10_0_0) (lrow x1 ![11, 0, 0] inb_S16x800x128_S1x800x128_11_0_0) (lrow x1 ![12, 0, 0] inb_S16x800x128_S1x800x128_12_0_0) (lrow x1 ![13, 0, 0] inb_S16x800x128_S1x800x128_13_0_0) (lrow x1 ![14, 0, 0] inb_S16x800x128_S1x800x128_14_0_0) (lrow x1 ![15, 0, 0] inb_S16x800x128_S1x800x128_15_0_0)
def ysX (x0 : Vec F S16x896 .f32) (x1 : Vec F S16x800x128 .f32) (x2 : Vec F S16x1 .f32) : FVec F S16x16 .f32 :=
  ysOf (gS x0 16) (lrow x1 ![0, 0, 0] inb_S16x800x128_S1x800x128_0_0_0) (lrow x1 ![1, 0, 0] inb_S16x800x128_S1x800x128_1_0_0) (lrow x1 ![2, 0, 0] inb_S16x800x128_S1x800x128_2_0_0) (lrow x1 ![3, 0, 0] inb_S16x800x128_S1x800x128_3_0_0) (lrow x1 ![4, 0, 0] inb_S16x800x128_S1x800x128_4_0_0) (lrow x1 ![5, 0, 0] inb_S16x800x128_S1x800x128_5_0_0) (lrow x1 ![6, 0, 0] inb_S16x800x128_S1x800x128_6_0_0) (lrow x1 ![7, 0, 0] inb_S16x800x128_S1x800x128_7_0_0) (lrow x1 ![8, 0, 0] inb_S16x800x128_S1x800x128_8_0_0) (lrow x1 ![9, 0, 0] inb_S16x800x128_S1x800x128_9_0_0) (lrow x1 ![10, 0, 0] inb_S16x800x128_S1x800x128_10_0_0) (lrow x1 ![11, 0, 0] inb_S16x800x128_S1x800x128_11_0_0) (lrow x1 ![12, 0, 0] inb_S16x800x128_S1x800x128_12_0_0) (lrow x1 ![13, 0, 0] inb_S16x800x128_S1x800x128_13_0_0) (lrow x1 ![14, 0, 0] inb_S16x800x128_S1x800x128_14_0_0) (lrow x1 ![15, 0, 0] inb_S16x800x128_S1x800x128_15_0_0) x2
def tiX (x0 : Vec F S16x896 .f32) (x1 : Vec F S16x800x128 .f32) : IVec S16x16 32 :=
  cTI (candX x0 x1) (vidOf (gS x0 16)) 16
def dX (x0 : Vec F S16x896 .f32) (x1 : Vec F S16x800x128 .f32) (x2 x3 : Vec F S16x1 .f32) : FVec F S16x16 .f32 :=
  dIn x3 (ysX x0 x1 x2)

theorem ysX_eq (x0 : Vec F S16x896 .f32) (x1 : Vec F S16x800x128 .f32) (x2 : Vec F S16x1 .f32) :
    ysX x0 x1 x2 = subf (cTV (candX x0 x1) (vidOf (gS x0 16)) 16) (broadcastTo S16x16 x2 broadcasts_S16x1_S16x16) := rfl

theorem z2 : (![0, 0] : Fin 2 → Nat) = fun _ => 0 := funext fun a => by fin_cases a <;> rfl

section Whole

variable {sig' : RefSig} {κ' : Kind} {sp : Space} {T : Shape} {e : EltTy} {Val : EltTy → Type}

theorem readAt_full (v : View sig' κ' sp T e) {off : Fin T.rank → Nat} (h : off = fun _ => 0) (inb : ∀ a, off a + T.size a ≤ T.size a)
    (f : v.ty.Contents Val) : v.readAt Val (Rect.unit off T.size inb).toLoadRect f = v.read Val f := by
  exact View.ld_unit_zero h inb (v.read Val f)

theorem read_full [∀ e, Nonempty (Val e)] (v : View sig' κ' sp T e) {off : Fin T.rank → Nat} (h : off = fun _ => 0)
    (inb : ∀ a, off a + T.size a ≤ T.size a) (f : v.ty.Contents Val) (w : T.Idx → Val e) (L : List (View.Piece Val T e)) :
    v.read Val (v.writes Val f ((⟨Rect.unit off T.size inb, w⟩ : View.Piece Val T e) :: L)) = w := by
  rw [View.read_writes_eq_canon v f _ (fun y => ⟨_, List.mem_cons_self, View.mem_set_unit_zero h inb y⟩),
    View.canon_cons_unit_zero h]

end Whole

theorem readAt_row {sig' : RefSig} {κ' : Kind} {sp : Space} (v : View sig' κ' sp S16x800x128 .f32) (off : Fin 3 → Nat)
    (h : ∀ a, off a + S1x800x128.size a ≤ S16x800x128.size a) (f : v.ty.Contents (Elt F)) :
    v.readAt (Elt F) (Rect.unit (s := S16x800x128) off S1x800x128.size h).toLoadRect f = lrow (v.read (Elt F) f) off h := rfl

set_option maxHeartbeats 4000000 in
theorem sound_kernel (c : Dev nD) (E : Set ℕ)
    (arg0 : Memref sig .tc .vmem S16x896 .f32) (harg0 : arg0.IsWhole) (arg1 : Memref sig .tc .vmem S16x800x128 .f32) (harg1 : arg1.IsWhole)
    (arg2 : Memref sig .tc .vmem S16x1 .f32) (harg2 : arg2.IsWhole) (arg3 : Memref sig .tc .vmem S16x1 .f32) (harg3 : arg3.IsWhole)
    (arg4 : Memref sig .tc .vmem S1x16 .i32) (harg4 : arg4.IsWhole) (arg5 : Memref sig .tc .vmem S1x16 .i32) (harg5 : arg5.IsWhole)
    (arg6 : Memref sig .tc .vmem S1x16 .f32) (harg6 : arg6.IsWhole) (arg7 : Memref sig .tc .vmem S1x16 .f32) (harg7 : arg7.IsWhole)
    (arg8 : Memref sig .tc .vmem S16x16 .f32) (harg8 : arg8.IsWhole)
    (x0 : Vec F S16x896 .f32) (x1 : Vec F S16x800x128 .f32) (x2 x3 : Vec F S16x1 .f32) (x4 x5 : Vec F S1x16 .i32) (x6 x7 : Vec F S1x16 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (rTok (dX x0 x1 x2 x3) (tiX x0 x1) 16)
            ∗ owns (c : Thread nD τ) arg5 fullShare (rQ (dX x0 x1 x2 x3) 16)
            ∗ owns (c : Thread nD τ) arg6 fullShare (rP (dX x0 x1 x2 x3) 16)
            ∗ owns (c : Thread nD τ) arg7 fullShare (rL (dX x0 x1 x2 x3) (ysX x0 x1 x2) 16)) -∗ K ⟨⟩))
      ⊢ wp frame (wpE (defs₀ (F := F)) Variants.none c none) E
          (cc0__phase_b arg0 harg0 arg1 harg1 arg2 harg2 arg3 harg3 arg4 harg4 arg5 harg5 arg6 harg6 arg7 harg7 arg8 harg8) K := by
  rw [body_eq]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, Hk⟩
  sl_exec
  sl_step
  iapply Hk
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]
  · iexists _; isplitr; swap; · iexact H4
    ipureintro; sl_unfold_run_names
    rw [read_full (T := S1x16) _ z2]
    unfold dX ysX
    try unfold tiX candX
    rw [readAt_full (T := S16x896) _ z2, readAt_full (T := S16x1) _ z2, readAt_full (T := S16x1) _ z2, h0, h2, h3, ← h1]
    rfl
  isplitl [H5]
  · iexists _; isplitr; swap; · iexact H5
    ipureintro; sl_unfold_run_names
    rw [read_full (T := S1x16) _ z2]
    unfold dX ysX
    try unfold tiX candX
    rw [readAt_full (T := S16x896) _ z2, readAt_full (T := S16x1) _ z2, readAt_full (T := S16x1) _ z2, h0, h2, h3, ← h1]
    rfl
  isplitl [H6]
  · iexists _; isplitr; swap; · iexact H6
    ipureintro; sl_unfold_run_names
    rw [read_full (T := S1x16) _ z2]
    unfold dX ysX
    try unfold tiX candX
    rw [readAt_full (T := S16x896) _ z2, readAt_full (T := S16x1) _ z2, readAt_full (T := S16x1) _ z2, h0, h2, h3, ← h1]
    rfl
  · iexists _; isplitr; swap; · iexact H7
    ipureintro; sl_unfold_run_names
    rw [read_full (T := S1x16) _ z2]
    unfold dX ysX
    try unfold tiX candX
    rw [readAt_full (T := S16x896) _ z2, readAt_full (T := S16x1) _ z2, readAt_full (T := S16x1) _ z2, h0, h2, h3, ← h1]
    rfl

end Cert.KernelBIdeal.Point

end
-- ==== Proof.BMath.lean ====
/- The greatest elements of a finite family, largest first and equal ones by a key: taken one at a time by masking the one
   just taken, read off a stable sort, and found in two levels, groups first and then the chosen groups' elements. -/
module

public import Idealize.ShloMosaic.PureOps.Ideal
public import Idealize.ShloMosaic.PureOps.Reduce
public import Idealize.ShloMosaic.Lib.SortPrefix

@[expose] public section

noncomputable section

namespace Cert.Rank

open Idealize.ShloMosaic

variable {ι : Type}

/-- `i` comes before `j`: it is greater, or equal with the smaller key. -/
def Bef (x : ι → EReal) (key : ι → ℕ) (i j : ι) : Prop := x j < x i ∨ (x i = x j ∧ key i < key j)

theorem Bef.le {x : ι → EReal} {key : ι → ℕ} {i j : ι} (h : Bef x key i j) : x j ≤ x i := by
  rcases h with h | h
  · exact h.le
  · exact h.1.ge

theorem Bef.not_rev {x : ι → EReal} {key : ι → ℕ} {i j : ι} (h : Bef x key i j) : ¬ Bef x key j i := by
  rintro (h' | h')
  · exact absurd h' (not_lt.2 h.le)
  · rcases h with h | h
    · exact absurd h (by rw [h'.1]; exact lt_irrefl _)
    · omega

/-- `p 0, p 1, …, p (T - 1)` are the `T` first elements in that order. -/
def Order (x : ι → EReal) (key : ι → ℕ) (p : ℕ → ι) (T : ℕ) : Prop :=
  ∀ t < T, (∀ a < t, p t ≠ p a) ∧ ∀ i, (∀ a < t, i ≠ p a) → i = p t ∨ Bef x key (p t) i

theorem Order.mono {x : ι → EReal} {key : ι → ℕ} {p : ℕ → ι} {T T' : ℕ} (h : Order x key p T) (hT : T' ≤ T) :
    Order x key p T' := fun t ht => h t (by omega)

theorem Order.inj {x : ι → EReal} {key : ι → ℕ} {p : ℕ → ι} {T : ℕ} (h : Order x key p T) {a b : ℕ} (ha : a < T) (hb : b < T)
    (hab : p a = p b) : a = b := by
  rcases Nat.lt_trichotomy a b with h' | h' | h'
  · exact absurd hab.symm ((h b hb).1 a h')
  · exact h'
  · exact absurd hab ((h a ha).1 b h')

/-- The order of a family and of the same family under an order-keeping map are one. -/
theorem Order.map {x y : ι → EReal} {key : ι → ℕ} {p : ℕ → ι} {T : ℕ} (h : Order x key p T)
    (hlt : ∀ i j, x i < x j → y i < y j) (heq : ∀ i j, x i = x j → y i = y j) : Order y key p T := fun t ht =>
  ⟨(h t ht).1, fun i hi => ((h t ht).2 i hi).imp id fun hb => hb.imp (hlt _ _) fun e => ⟨heq _ _ e.1, e.2⟩⟩

/-- With more than `t` elements above a bound, the element of rank `t` is above it. -/
theorem Order.above [DecidableEq ι] {x : ι → EReal} {key : ι → ℕ} {p : ℕ → ι} {T : ℕ} (h : Order x key p T) (m : EReal) (K : ℕ)
    (w : Fin K → ι) (hw : Function.Injective w) (hm : ∀ k, m < x (w k)) {t : ℕ} (ht : t < T) (hK : t < K) : m < x (p t) := by
  by_contra hc
  have hc : x (p t) ≤ m := not_lt.1 hc
  have hsub : (Finset.univ.image w) ⊆ (Finset.range t).image p := by
    intro i hi
    obtain ⟨k, -, rfl⟩ := Finset.mem_image.1 hi
    by_contra hn
    have hn' : ∀ a < t, w k ≠ p a := fun a ha e => hn (Finset.mem_image.2 ⟨a, Finset.mem_range.2 ha, e.symm⟩)
    rcases (h t ht).2 _ hn' with e | hb
    · exact absurd (hm k) (not_lt.2 (e ▸ hc))
    · exact absurd (hm k) (not_lt.2 (hb.le.trans hc))
  have h1 := Finset.card_le_card hsub
  rw [Finset.card_image_of_injective _ hw, Finset.card_univ, Fintype.card_fin] at h1
  have h2 : ((Finset.range t).image p).card ≤ t := by simpa using Finset.card_image_le (s := Finset.range t) (f := p)
  omega

/-- The family with its first `t` elements masked. -/
def masked [DecidableEq ι] (x : ι → EReal) (p : ℕ → ι) (t : ℕ) (i : ι) : EReal := if ∃ a ∈ Finset.range t, i = p a then ⊥ else x i

theorem masked_zero [DecidableEq ι] (x : ι → EReal) (p : ℕ → ι) : masked x p 0 = x := by
  funext i; simp [masked]

theorem masked_succ [DecidableEq ι] (x : ι → EReal) (p : ℕ → ι) (t : ℕ) (i : ι) :
    masked x p (t + 1) i = if i = p t then ⊥ else masked x p t i := by
  unfold masked
  by_cases h : i = p t
  · rw [if_pos h, if_pos ⟨t, Finset.mem_range.2 (by omega), h⟩]
  · rw [if_neg h]
    congr 1
    apply propext
    constructor
    · rintro ⟨a, ha, e⟩
      refine ⟨a, Finset.mem_range.2 ?_, e⟩
      have := Finset.mem_range.1 ha
      rcases Nat.lt_or_ge a t with h' | h'
      · exact h'
      · exact absurd (by rw [e]; congr 1; omega) h
    · rintro ⟨a, ha, e⟩
      exact ⟨a, Finset.mem_range.2 (by have := Finset.mem_range.1 ha; omega), e⟩

section pick
variable [DecidableEq ι] {x : ι → EReal} {key : ι → ℕ} {p : ℕ → ι} {T : ℕ} (h : Order x key p T)
include h

theorem masked_at {t : ℕ} (ht : t < T) : masked x p t (p t) = x (p t) := by
  unfold masked
  rw [if_neg]
  rintro ⟨a, ha, e⟩
  exact (h t ht).1 a (Finset.mem_range.1 ha) e

theorem masked_le {t : ℕ} (ht : t < T) (i : ι) : masked x p t i ≤ x (p t) := by
  unfold masked
  split
  · exact bot_le
  · rename_i hn
    rcases (h t ht).2 i fun a ha e => hn ⟨a, Finset.mem_range.2 ha, e⟩ with e | hb
    · exact (congrArg x e).le
    · exact hb.le

theorem masked_sup [Fintype ι] {t : ℕ} (ht : t < T) : Finset.univ.sup (masked x p t) = x (p t) :=
  le_antisymm (Finset.sup_le fun i _ => masked_le h ht i)
    ((masked_at h ht).symm.le.trans (Finset.le_sup (f := masked x p t) (Finset.mem_univ _)))

theorem masked_key {t : ℕ} (ht : t < T) (hb : ⊥ < x (p t)) (i : ι) (hi : masked x p t i = x (p t)) : key (p t) ≤ key i := by
  unfold masked at hi
  split at hi
  · exact absurd hi hb.ne
  · rename_i hn
    rcases (h t ht).2 i fun a ha e => hn ⟨a, Finset.mem_range.2 ha, e⟩ with e | hb'
    · exact (congrArg key e).ge
    · rcases hb' with hb' | hb'
      · exact absurd hi hb'.ne
      · exact hb'.2.le

end pick

theorem minsi_toInt (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- A least signed word over a set is no less than a bound of its members. -/
theorem fold_minsi_le (s : Finset ι) (f : ι → BitVec 32) (m : ℕ) (init : BitVec 32) (h0 : (m : ℤ) ≤ init.toInt)
    (hf : ∀ i ∈ s, (m : ℤ) ≤ (f i).toInt) : (m : ℤ) ≤ (Finset.fold IntOp.minsi init f s).toInt := by
  classical
  induction s using Finset.induction_on with
  | empty => simpa using h0
  | insert a s ha ih =>
    rw [Finset.fold_insert ha, minsi_toInt]
    exact le_min (hf a (Finset.mem_insert_self _ _)) (ih fun i hi => hf i (Finset.mem_insert_of_mem hi))

theorem fold_minsi_ge (s : Finset ι) (f : ι → BitVec 32) (init : BitVec 32) (i : ι) (hi : i ∈ s) :
    (Finset.fold IntOp.minsi init f s).toInt ≤ (f i).toInt := by
  classical
  induction s using Finset.induction_on with
  | empty => simp at hi
  | insert a s ha ih =>
    rw [Finset.fold_insert ha, minsi_toInt]
    rcases Finset.mem_insert.1 hi with rfl | hi'
    · exact min_le_left _ _
    · exact (min_le_right _ _).trans (ih hi')

/-- The least key among the elements equal to the maximum is the key of the element of rank `t`. -/
theorem fold_pick [Fintype ι] [DecidableEq ι] {x : ι → EReal} {key : ι → ℕ} {p : ℕ → ι} {T : ℕ} (h : Order x key p T)
    (hk : ∀ i, key i < 2 ^ 30) {t : ℕ} (ht : t < T) (hb : ⊥ < x (p t)) :
    Finset.fold IntOp.minsi (2147483647#32)
      (fun i => if masked x p t i = x (p t) then BitVec.ofNat 32 (key i) else 1073741824#32) Finset.univ = BitVec.ofNat 32 (key (p t)) := by
  have hi : ∀ n : ℕ, n < 2 ^ 30 → (BitVec.ofNat 32 n).toInt = n := fun n hn => by
    rw [BitVec.toInt_eq_toNat_of_lt (by rw [BitVec.toNat_ofNat]; omega), BitVec.toNat_ofNat]; omega
  apply BitVec.eq_of_toInt_eq
  rw [hi _ (hk _)]
  apply le_antisymm
  · refine (fold_minsi_ge _ _ _ (p t) (Finset.mem_univ _)).trans ?_
    rw [if_pos (masked_at h ht), hi _ (hk _)]
  · refine fold_minsi_le _ _ _ _ ?_ fun i _ => ?_
    · have := hk (p t); rw [show (2147483647#32).toInt = 2147483647 from by decide]; omega
    · split
      · rename_i he
        have := masked_key h ht hb i he
        rw [hi _ (hk _)]; omega
      · have := hk (p t); rw [show (1073741824#32).toInt = 1073741824 from by decide]; omega

/-! ## The order as a stable sort leaves it -/

theorem stableSort_congr_lt {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.1 hb))

theorem sortedFrom_congr_lt {n : ℕ} (R R' : Fin n → Fin n → Bool) (h : ∀ a b, a < b → R b a = R' b a) :
    sortedFrom R = sortedFrom R' := by
  have e : sortPositions n R = sortPositions n R' := stableSort_congr_lt R R' h _ (List.pairwise_lt_finRange n)
  funext k
  unfold sortedFrom
  simp only [List.get_eq_getElem, e, Fin.val_cast]

/-- The source positions of a descending stable sort are the elements in order. -/
theorem order_sort {n : ℕ} (x : Fin n → EReal) (hn : 0 < n) (B : Fin n → Fin n → Bool) (hB : ∀ k k', B k k' = decide (x k' < x k)) :
    Order x Fin.val (fun t => sortedFrom B ⟨t % n, Nat.mod_lt _ hn⟩) n := by
  classical
  let R : Fin n → Fin n → Bool := fun k k' => decide (x k' < x k) || (decide (x k = x k') && decide (k < k'))
  have hR : StrictTotalBefore R := StrictTotalBefore.of_key_then_position (fun a b : EReal => decide (b < a)) x
    (fun a => by simp) (fun a b c h1 h2 => by
      simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  have e : sortedFrom B = sortedFrom R := sortedFrom_congr_lt B R fun a b hab => by
    rw [hB]
    show _ = (decide (x a < x b) || (decide (x b = x a) && decide (b < a)))
    rw [decide_eq_false (p := b < a) (by exact not_lt.2 hab.le), Bool.and_false, Bool.or_false]
  intro t ht
  refine ⟨fun a ha hc => ?_, fun i hi => ?_⟩
  · have := congrArg Fin.val (sortedFrom_injective B hc)
    simp only [Nat.mod_eq_of_lt ht, Nat.mod_eq_of_lt (lt_trans ha ht)] at this
    omega
  · obtain ⟨k, rfl⟩ := sortedFrom_surjective B i
    by_cases hkt : k.val = t
    · left; congr 1; exact Fin.ext (by rw [hkt]; exact (Nat.mod_eq_of_lt ht).symm)
    · have hlt : t < k.val := by
        rcases Nat.lt_or_ge k.val t with h | h
        · refine absurd ?_ (hi k.val h)
          show sortedFrom B k = sortedFrom B _
          congr 1; exact Fin.ext (Nat.mod_eq_of_lt k.isLt).symm
        · omega
      right
      have hne : sortedFrom B ⟨t % n, Nat.mod_lt _ hn⟩ ≠ sortedFrom B k := fun hc => by
        have := congrArg Fin.val (sortedFrom_injective B hc)
        simp only [Nat.mod_eq_of_lt ht] at this
        omega
      have h1 := sortedFrom_noInversion R R (fun a b => hR.asymm a b) (fun _ _ h => h) hR.negTrans ⟨t % n, Nat.mod_lt _ hn⟩ k
        (by show t % n < k.val; rw [Nat.mod_eq_of_lt ht]; exact hlt)
      rw [← e] at h1
      have h2 := (hR.total _ _ hne).resolve_right (by rw [h1]; decide)
      have h2 : (decide (x (sortedFrom B k) < x (sortedFrom B ⟨t % n, Nat.mod_lt _ hn⟩)) ||
        (decide (x (sortedFrom B ⟨t % n, Nat.mod_lt _ hn⟩) = x (sortedFrom B k)) &&
          decide (sortedFrom B ⟨t % n, Nat.mod_lt _ hn⟩ < sortedFrom B k))) = true := h2
      simp only [Bool.or_eq_true, Bool.and_eq_true, decide_eq_true_eq] at h2
      exact h2

/-- Of every family some order. -/
theorem exists_order {n : ℕ} (x : Fin n → EReal) (hn : 0 < n) : ∃ p : ℕ → Fin n, Order x Fin.val p n := by
  classical
  exact ⟨_, order_sort x hn (fun k k' => decide (x k' < x k)) fun _ _ => rfl⟩

/-! ## Groups first, then elements -/

/-- The first `T` elements lie in the first `T` groups, groups ordered by their greatest element. -/
theorem group_mem {N G : ℕ} (W : ℕ) (x : Fin N → EReal) (grp : Fin N → Fin G) (hgrp : ∀ i, (grp i).val = i.val / W)
    (y : Fin G → EReal) (p : ℕ → Fin N) (pg : ℕ → Fin G) (T : ℕ)
    (hp : Order x Fin.val p T) (hpg : Order y Fin.val pg T)
    (hle : ∀ i, x i ≤ y (grp i)) (hat : ∀ s < T, ∃ i, grp i = pg s ∧ x i = y (pg s)) (t : ℕ) (ht : t < T) :
    ∃ s < T, pg s = grp (p t) := by
  classical
  by_contra hc
  push Not at hc
  have hbef : ∀ s < T, Bef y Fin.val (pg s) (grp (p t)) := fun s hs =>
    ((hpg s hs).2 _ fun a ha e => hc a (by omega) e.symm).resolve_left fun e => hc s hs e.symm
  haveI : Nonempty (Fin N) := ⟨p 0⟩
  choose! h h1 h2 using hat
  have hb : ∀ s < T, Bef x Fin.val (h s) (p t) := fun s hs => by
    rcases hbef s hs with hb | ⟨he, hk⟩
    · left; rw [h2 s hs]; exact lt_of_le_of_lt (hle _) hb
    · rcases lt_or_eq_of_le (hle (p t)) with hl | hl
      · left; rw [h2 s hs, he]; exact hl
      · right
        refine ⟨by rw [h2 s hs, he, hl], ?_⟩
        rw [← h1 s hs, hgrp, hgrp] at hk
        by_contra hn
        exact absurd (Nat.div_le_div_right (c := W) (not_lt.1 hn)) (not_le.2 hk)
  have hmem : ∀ s < T, ∃ a < t, h s = p a := fun s hs => by
    by_contra hn
    push Not at hn
    rcases (hp t ht).2 (h s) hn with e | hb'
    · exact hc s hs (by rw [← e, h1 s hs])
    · exact (hb s hs).not_rev hb'
  have hinj : Set.InjOn h (Finset.range T : Set ℕ) := fun a ha b hb e => by
    have ha := Finset.mem_range.1 ha
    have hb := Finset.mem_range.1 hb
    exact hpg.inj ha hb (by rw [← h1 a ha, ← h1 b hb, e])
  have hcard : ((Finset.range T).image h).card = T := by rw [Finset.card_image_of_injOn hinj, Finset.card_range]
  have hsub : (Finset.range T).image h ⊆ (Finset.range t).image p := fun i hi => by
    obtain ⟨s, hs, rfl⟩ := Finset.mem_image.1 hi
    obtain ⟨a, ha, e⟩ := hmem s (Finset.mem_range.1 hs)
    exact Finset.mem_image.2 ⟨a, Finset.mem_range.2 ha, e.symm⟩
  have h3 := Finset.card_le_card hsub
  have h4 : ((Finset.range t).image p).card ≤ t := by simpa using Finset.card_image_le (s := Finset.range t) (f := p)
  omega

/-- The order of a family, on a subfamily that holds its first elements. -/
theorem Order.pull {N : ℕ} {κ : Type} {x : Fin N → EReal} {p : ℕ → Fin N} {T : ℕ} (h : Order x Fin.val p T) (e : κ → Fin N)
    (pc : ℕ → κ) (he : Function.Injective e) (hpc : ∀ t < T, e (pc t) = p t) :
    Order (fun j => x (e j)) (fun j => (e j).val) pc T := fun t ht => by
  refine ⟨fun a ha hc => (h t ht).1 a ha ?_, fun j hj => ?_⟩
  · rw [← hpc t ht, ← hpc a (by omega), hc]
  · rcases (h t ht).2 (e j) (fun a ha hc => hj a ha (he (by rw [hc, hpc a (by omega)]))) with e1 | hb
    · left; exact he (by rw [e1, hpc t ht])
    · right
      show x (e j) < x (e (pc t)) ∨ (x (e (pc t)) = x (e j) ∧ (e (pc t)).val < (e j).val)
      rw [hpc t ht]; exact hb

end Cert.Rank

end
-- ==== Proof.BValue.lean ====
/- The rounds of the selections at the extended reals: each takes the elements of a family in order. -/
module

public import proofs.«01_k».proof.Proof.BBody
public import proofs.«01_k».proof.Proof.BMath
public import Idealize.ShloMosaic.Lib.Pointwise
public import Idealize.ShloMosaic.Lib.ValueIdx

@[expose] public section

set_option maxRecDepth 16384

noncomputable section

namespace Cert.KernelBIdeal.Point

open Cert.KernelBIdeal Cert.KernelBIdeal.Gen Cert.Rank
open Idealize.ShloMosaic Idealize.ShloMosaic.TcCoe Idealize.ShloMosaic.Tactic Idealize.SL.Sem

theorem negInf : Ideal.ofBits FTy.f32 0xFF800000#32 = (⊥ : EReal) := by
  simp [Ideal.ofBits, Ideal.ieee]

theorem foldMax {ι : Type} (s : Finset ι) (f : ι → EReal) : Finset.fold max (Ideal.ofBits FTy.f32 0xFF800000#32) f s = s.sup f := by
  rw [negInf]; rfl

theorem cmpi_eq (a b : BitVec 32) : IntOp.cmpi .eq a b = if a = b then 1#1 else 0#1 := by
  unfold IntOp.cmpi
  by_cases h : a = b
  · rw [if_pos h, h]; simp
  · rw [if_neg h]
    show BitVec.ofBool (a == b) = _
    rw [beq_eq_false_iff_ne.2 h]; rfl

theorem sel_eq {α : Type} (a b : BitVec 32) (x y : α) : Scalar.select (IntOp.cmpi .eq a b) x y = if a = b then x else y := by
  unfold Scalar.select
  rw [cmpi_eq]
  by_cases h : a = b <;> simp [h]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-! ## The groups -/

section groups
variable (gm : FVec Ideal S16x896 .f32) (r : Fin 16) (pg : ℕ → Fin 896)
  (hp : Order (fun g : Fin 896 => (gm (ix2 r g) : EReal)) Fin.val pg 16) (hb : ∀ t < 16, (⊥ : EReal) < gm (ix2 r (pg t)))
include hp hb

theorem gMin_of (A : FVec Ideal S16x896 .f32) (t : ℕ) (ht : t < 16)
    (hA : ∀ g, (A (ix2 r g) : EReal) = masked (fun g : Fin 896 => (gm (ix2 r g) : EReal)) pg t g) :
    gMin A (ix2 r 0) = BitVec.ofNat 32 (pg t).val := by
  unfold gMin gio
  pointwise
  rw [foldMax]
  have e1 : (fun x => A (ix2 r x)) = masked (fun g : Fin 896 => (gm (ix2 r g) : EReal)) pg t := funext hA
  rw [e1, masked_sup hp ht]
  simp only [hA]
  exact fold_pick hp (fun i => by have := i.isLt; show i.val < _; omega) ht (hb t ht)

theorem gA_apply (n : ℕ) (hn : n ≤ 16) : ∀ g, (gA gm n (ix2 r g) : EReal) = masked (fun g : Fin 896 => (gm (ix2 r g) : EReal)) pg n g := by
  induction n with
  | zero =>
    intro g
    rw [masked_zero]
    unfold gA
    pointwise
  | succ n ih =>
    intro g
    have hA := ih (by omega)
    rw [masked_succ, ← hA g]
    show gStep (gA gm n) (ix2 r g) = _
    unfold gStep gio
    pointwise
    rw [gMin_of gm r pg hp hb _ n (by omega) hA, sel_eq, negInf]
    have := g.isLt
    have := (pg n).isLt
    by_cases h : g = pg n
    · rw [if_pos h, if_pos (by rw [h])]
    · rw [if_neg h, if_neg fun e => h (Fin.ext ((ofNat_inj (by omega) (by omega)).1 e))]

theorem gS_apply (n : ℕ) (hn : n ≤ 16) (s : Fin 16) :
    gS gm n (ix2 r s) = if s.val < n then BitVec.ofNat 32 (pg s.val).val else 0#32 := by
  induction n with
  | zero =>
    unfold gS
    rw [if_neg (by omega)]
    pointwise
  | succ n ih =>
    unfold gS slo
    pointwise
    rw [gMin_of gm r pg hp hb _ n (by omega) (gA_apply gm r pg hp hb n (by omega)), sel_eq, ih (by omega)]
    have := s.isLt
    by_cases h : s.val = n
    · rw [if_pos (by rw [h]), if_pos (by omega), h]
    · rw [if_neg fun e => h ((ofNat_inj (by omega) (by omega)).1 e)]
      by_cases h' : s.val < n
      · rw [if_pos h', if_pos (by omega)]
      · rw [if_neg h', if_neg (by omega)]

end groups

/-! ## The candidates of a row -/

section cands
variable (C0 : FVec Ideal S16x2048 .f32) (K : IVec S16x2048 32) (r : Fin 16) (key : Fin 2048 → ℕ) (pc : ℕ → Fin 2048)
  (hK : ∀ j, K (ix2 r j) = BitVec.ofNat 32 (key j)) (hk : ∀ j, key j < 2 ^ 30) (hinj : Function.Injective key)
  (hp : Order (fun j : Fin 2048 => (C0 (ix2 r j) : EReal)) key pc 16) (hb : ∀ t < 16, (⊥ : EReal) < C0 (ix2 r (pc t)))

include hp in
theorem cMax_of (A : FVec Ideal S16x2048 .f32) (t : ℕ) (ht : t < 16)
    (hA : ∀ j, (A (ix2 r j) : EReal) = masked (fun j : Fin 2048 => (C0 (ix2 r j) : EReal)) pc t j) :
    (cMax A (ix2 r 0) : EReal) = C0 (ix2 r (pc t)) := by
  unfold cMax
  pointwise
  rw [foldMax]
  have e1 : (fun x => A (ix2 r x)) = masked (fun j : Fin 2048 => (C0 (ix2 r j) : EReal)) pc t := funext hA
  rw [e1, masked_sup hp ht]

include hK hk hp hb in
theorem cMin_of (A : FVec Ideal S16x2048 .f32) (t : ℕ) (ht : t < 16)
    (hA : ∀ j, (A (ix2 r j) : EReal) = masked (fun j : Fin 2048 => (C0 (ix2 r j) : EReal)) pc t j) :
    cMin A K (ix2 r 0) = BitVec.ofNat 32 (key (pc t)) := by
  unfold cMin
  pointwise
  rw [cMax_of C0 r key pc hp A t ht hA]
  simp only [hA, hK]
  exact fold_pick hp hk ht (hb t ht)

include hK hk hinj hp hb

theorem cC_apply (n : ℕ) (hn : n ≤ 16) : ∀ j, (cC C0 K n (ix2 r j) : EReal) = masked (fun j : Fin 2048 => (C0 (ix2 r j) : EReal)) pc n j := by
  induction n with
  | zero =>
    intro j
    rw [masked_zero]
    rfl
  | succ n ih =>
    intro j
    have hA := ih (by omega)
    rw [masked_succ, ← hA j]
    show cStep (cC C0 K n) K (ix2 r j) = _
    unfold cStep
    pointwise
    rw [cMin_of C0 K r key pc hK hk hp hb _ n (by omega) hA, hK, sel_eq, negInf]
    have := hk j
    have := hk (pc n)
    by_cases h : j = pc n
    · rw [if_pos h, if_pos (by rw [h])]
    · rw [if_neg h, if_neg fun e => h (hinj ((ofNat_inj (by omega) (by omega)).1 e))]

theorem cTV_apply (n : ℕ) (hn : n ≤ 16) (s : Fin 16) (hs : s.val < n) : (cTV C0 K n (ix2 r s) : EReal) = C0 (ix2 r (pc s.val)) := by
  induction n with
  | zero => omega
  | succ n ih =>
    unfold cTV slo
    pointwise
    rw [cMax_of C0 r key pc hp _ n (by omega) (cC_apply C0 K r key pc hK hk hinj hp hb n (by omega)), sel_eq]
    have := s.isLt
    by_cases h : s.val = n
    · rw [if_pos (by rw [h]), h]
    · rw [if_neg fun e => h ((ofNat_inj (by omega) (by omega)).1 e)]
      exact ih (by omega) (by omega)

theorem cTI_apply (n : ℕ) (hn : n ≤ 16) (s : Fin 16) (hs : s.val < n) : cTI C0 K n (ix2 r s) = BitVec.ofNat 32 (key (pc s.val)) := by
  induction n with
  | zero => omega
  | succ n ih =>
    unfold cTI slo
    pointwise
    rw [cMin_of C0 K r key pc hK hk hp hb _ n (by omega) (cC_apply C0 K r key pc hK hk hinj hp hb n (by omega)), sel_eq]
    have := s.isLt
    by_cases h : s.val = n
    · rw [if_pos (by rw [h]), h]
    · rw [if_neg fun e => h ((ofNat_inj (by omega) (by omega)).1 e)]
      exact ih (by omega) (by omega)

end cands

/-! ## The last selection -/

/-- The flat position of a beam's slot. -/
def flat (x : Fin 16 × Fin 16) : ℕ := x.1.val * 16 + x.2.val

theorem flat_lt (x : Fin 16 × Fin 16) : flat x < 256 := by
  unfold flat; have := x.1.isLt; have := x.2.isLt; omega

theorem flat_inj : Function.Injective flat := fun x y h => by
  unfold flat at h
  have := x.2.isLt; have := y.2.isLt
  exact Prod.ext (Fin.ext (by omega)) (Fin.ext (by omega))

theorem flat_word (x : Fin 16 × Fin 16) :
    IntOp.addi (IntOp.muli (BitVec.ofNat 32 x.1.val) 16#32) (BitVec.ofNat 32 x.2.val) = BitVec.ofNat 32 (flat x) := by
  unfold IntOp.addi IntOp.muli flat
  apply BitVec.eq_of_toNat_eq
  have := x.1.isLt; have := x.2.isLt
  simp only [BitVec.toNat_add, BitVec.toNat_mul, BitVec.toNat_ofNat]
  omega

theorem fold_single {ι : Type} [DecidableEq ι] (s : Finset ι) (f : ι → BitVec 32) (i : ι) (h : ∀ j, j ≠ i → f j = 0#32) :
    Finset.fold IntOp.addi 0#32 f s = if i ∈ s then f i else 0#32 := by
  induction s using Finset.induction_on with
  | empty => simp
  | insert a s ha ih =>
    rw [Finset.fold_insert ha, ih]
    by_cases e : a = i
    · subst e
      rw [if_neg ha, if_pos (Finset.mem_insert_self _ _)]
      show f a + 0#32 = f a
      simp
    · rw [h a e]
      have : (i ∈ insert a s) = (i ∈ s) := by
        apply propext; rw [Finset.mem_insert]
        exact ⟨fun h => h.resolve_left fun h' => e h'.symm, Or.inr⟩
      simp only [this]
      show 0#32 + _ = _
      simp

theorem pTok_apply (ti : IVec S16x16 32) (x : Fin 16 × Fin 16) : pTok ti (BitVec.ofNat 32 (flat x)) = ti (ix2 x.1 x.2) := by
  unfold pTok fio slo
  pointwise
  rw [fold_single _ _ x, if_pos (Finset.mem_univ _)]
  · rw [flat_word, sel_eq, if_pos rfl]
  · intro j hj
    have h1 := flat_lt j
    have h2 := flat_lt x
    rw [flat_word, sel_eq, if_neg fun e => hj (flat_inj ((ofNat_inj (by omega) (by omega)).1 e))]

theorem pLr_apply (ys : FVec Ideal S16x16 .f32) (x : Fin 16 × Fin 16) : (pLr ys (BitVec.ofNat 32 (flat x)) : EReal) = ys (ix2 x.1 x.2) := by
  unfold pLr fio slo
  pointwise
  have h : ∀ a b : Fin 16, Scalar.select (IntOp.cmpi CmpIPredicate.eq (IntOp.addi (IntOp.muli (BitVec.ofNat 32 a.val) 16#32) (BitVec.ofNat 32 b.val))
      (BitVec.ofNat 32 (flat x))) (ys (ix2 a b) : EReal) 0 = if (a, b) = x then (ys (ix2 a b) : EReal) else 0 := fun a b => by
    have h1 := flat_lt (a, b)
    have h2 := flat_lt x
    rw [flat_word (a, b), sel_eq]
    by_cases e : (a, b) = x
    · rw [if_pos e, if_pos (by rw [e])]
    · rw [if_neg e, if_neg fun e' => e (flat_inj ((ofNat_inj (by omega) (by omega)).1 e'))]
  simp only [h]
  rw [Finset.sum_eq_single x.1, Finset.sum_eq_single x.2]
  · rw [if_pos rfl]
  · intro b _ hb; rw [if_neg fun e => hb (by rw [← e])]
  · intro hn; exact absurd (Finset.mem_univ _) hn
  · intro a _ ha
    refine Finset.sum_eq_zero fun b _ => ?_
    rw [if_neg fun e => ha (by rw [← e])]
  · intro hn; exact absurd (Finset.mem_univ _) hn

theorem qOf_apply (k : Fin 256) : qOf (BitVec.ofNat 32 k.val) = BitVec.ofNat 32 (k.val / 16) := by
  revert k
  decide +kernel

section last
variable (D0 : FVec Ideal S16x16 .f32) (pd : ℕ → Fin 16 × Fin 16)
  (hp : Order (fun x : Fin 16 × Fin 16 => (D0 (ix2 x.1 x.2) : EReal)) flat pd 16) (hb : ∀ t < 16, (⊥ : EReal) < D0 (ix2 (pd t).1 (pd t).2))

include hp in
theorem pMax_of (A : FVec Ideal S16x16 .f32) (t : ℕ) (ht : t < 16)
    (hA : ∀ x : Fin 16 × Fin 16, (A (ix2 x.1 x.2) : EReal) = masked (fun x : Fin 16 × Fin 16 => (D0 (ix2 x.1 x.2) : EReal)) pd t x) :
    (pMax A : EReal) = D0 (ix2 (pd t).1 (pd t).2) := by
  unfold pMax
  pointwise
  rw [foldMax]
  have e1 : (fun x : Fin 16 × Fin 16 => A (ix2 x.1 x.2)) = masked (fun x : Fin 16 × Fin 16 => (D0 (ix2 x.1 x.2) : EReal)) pd t := funext hA
  rw [e1, masked_sup hp ht]

include hp hb

theorem pIdx_of (A : FVec Ideal S16x16 .f32) (t : ℕ) (ht : t < 16)
    (hA : ∀ x : Fin 16 × Fin 16, (A (ix2 x.1 x.2) : EReal) = masked (fun x : Fin 16 × Fin 16 => (D0 (ix2 x.1 x.2) : EReal)) pd t x) :
    pIdx A = BitVec.ofNat 32 (flat (pd t)) := by
  unfold pIdx fio slo
  pointwise
  rw [pMax_of D0 pd hp A t ht hA]
  simp only [hA, flat_word]
  exact fold_pick hp (fun i => lt_trans (flat_lt i) (by norm_num)) ht (hb t ht)

theorem dD_apply (n : ℕ) (hn : n ≤ 16) :
    ∀ x : Fin 16 × Fin 16, (dD D0 n (ix2 x.1 x.2) : EReal) = masked (fun x : Fin 16 × Fin 16 => (D0 (ix2 x.1 x.2) : EReal)) pd n x := by
  induction n with
  | zero =>
    intro x
    rw [masked_zero]
    rfl
  | succ n ih =>
    intro x
    have hA := ih (by omega)
    rw [masked_succ, ← hA x]
    show dStep (dD D0 n) (ix2 x.1 x.2) = _
    unfold dStep fio slo
    pointwise
    rw [pIdx_of D0 pd hp hb _ n (by omega) hA, flat_word, sel_eq, negInf]
    have := flat_lt x
    have := flat_lt (pd n)
    by_cases h : x = pd n
    · rw [if_pos h, if_pos (by rw [h])]
    · rw [if_neg h, if_neg fun e => h (flat_inj ((ofNat_inj (by omega) (by omega)).1 e))]

theorem rTok_apply (ti : IVec S16x16 32) (n : ℕ) (hn : n ≤ 16) (s : Fin 16) (hs : s.val < n) :
    rTok D0 ti n (ix2 0 s) = ti (ix2 (pd s.val).1 (pd s.val).2) := by
  induction n with
  | zero => omega
  | succ n ih =>
    unfold rTok row1
    pointwise
    rw [pIdx_of D0 pd hp hb _ n (by omega) (dD_apply D0 pd hp hb n (by omega)), pTok_apply, sel_eq]
    have := s.isLt
    by_cases h : s.val = n
    · rw [if_pos (by rw [h]), h]
    · rw [if_neg fun e => h ((ofNat_inj (by omega) (by omega)).1 e)]
      exact ih (by omega) (by omega)

theorem rQ_apply (n : ℕ) (hn : n ≤ 16) (s : Fin 16) (hs : s.val < n) :
    rQ D0 n (ix2 0 s) = BitVec.ofNat 32 (pd s.val).1.val := by
  induction n with
  | zero => omega
  | succ n ih =>
    unfold rQ row1
    pointwise
    rw [pIdx_of D0 pd hp hb _ n (by omega) (dD_apply D0 pd hp hb n (by omega)), qOf_apply ⟨flat (pd n), flat_lt _⟩, sel_eq]
    have := s.isLt
    by_cases h : s.val = n
    · rw [if_pos (by rw [h]), h]
      congr 1
      show flat (pd n) / 16 = _
      unfold flat
      have := (pd n).2.isLt
      omega
    · rw [if_neg fun e => h ((ofNat_inj (by omega) (by omega)).1 e)]
      exact ih (by omega) (by omega)

theorem rP_apply (n : ℕ) (hn : n ≤ 16) (s : Fin 16) (hs : s.val < n) :
    (rP D0 n (ix2 0 s) : EReal) = D0 (ix2 (pd s.val).1 (pd s.val).2) := by
  induction n with
  | zero => omega
  | succ n ih =>
    unfold rP row1
    pointwise
    rw [pMax_of D0 pd hp _ n (by omega) (dD_apply D0 pd hp hb n (by omega)), sel_eq]
    have := s.isLt
    by_cases h : s.val = n
    · rw [if_pos (by rw [h]), h]
    · rw [if_neg fun e => h ((ofNat_inj (by omega) (by omega)).1 e)]
      exact ih (by omega) (by omega)

theorem rL_apply (ys : FVec Ideal S16x16 .f32) (n : ℕ) (hn : n ≤ 16) (s : Fin 16) (hs : s.val < n) :
    (rL D0 ys n (ix2 0 s) : EReal) = ys (ix2 (pd s.val).1 (pd s.val).2) := by
  induction n with
  | zero => omega
  | succ n ih =>
    unfold rL row1
    pointwise
    rw [pIdx_of D0 pd hp hb _ n (by omega) (dD_apply D0 pd hp hb n (by omega)), pLr_apply, sel_eq]
    have := s.isLt
    by_cases h : s.val = n
    · rw [if_pos (by rw [h]), h]
    · rw [if_neg fun e => h ((ofNat_inj (by omega) (by omega)).1 e)]
      exact ih (by omega) (by omega)

end last

/-! ## The candidates' values and numbers -/

theorem vidOf_apply (S : IVec S16x16 32) (r : Fin 16) (j : Fin 2048) (g : ℕ) (hg : g < 800)
    (hS : S (ix2 r ⟨j.val / 128, by omega⟩) = BitVec.ofNat 32 g) : vidOf S (ix2 r j) = BitVec.ofNat 32 (g * 128 + j.val % 128) := by
  unfold vidOf
  pointwise
  rw [hS]
  unfold IntOp.addi IntOp.muli
  apply BitVec.eq_of_toNat_eq
  simp only [BitVec.toNat_add, BitVec.toNat_mul, BitVec.toNat_ofNat]
  omega

theorem oh_sum (f : Fin 800 → EReal) (w : BitVec 32) (g : Fin 800) (hw : w = BitVec.ofNat 32 g.val) :
    (∑ x : Fin 800, (FloatOps.sitofp (F := Ideal) FTy.f32 (BitVec.setWidth 32 (IntOp.cmpi CmpIPredicate.eq w (BitVec.ofNat 32 x.val))) : EReal) * f x) = f g := by
  have h : ∀ x : Fin 800, (FloatOps.sitofp (F := Ideal) FTy.f32 (BitVec.setWidth 32 (IntOp.cmpi CmpIPredicate.eq w (BitVec.ofNat 32 x.val))) : EReal)
      = if x = g then 1 else 0 := fun x => by
    have := x.isLt
    have := g.isLt
    rw [hw]
    by_cases e : x = g
    · subst e
      rw [if_pos rfl]
      have : IntOp.cmpi CmpIPredicate.eq (BitVec.ofNat 32 x.val) (BitVec.ofNat 32 x.val) = 1#1 := by simp [IntOp.cmpi]
      rw [this]
      show ((((BitVec.setWidth 32 1#1).toInt : ℝ) : EReal)) = 1
      simp
    · rw [if_neg e]
      have hne : BitVec.ofNat 32 g.val ≠ BitVec.ofNat 32 x.val := fun h => e (Fin.ext ((ofNat_inj (by omega) (by omega)).1 h).symm)
      have : IntOp.cmpi CmpIPredicate.eq (BitVec.ofNat 32 g.val) (BitVec.ofNat 32 x.val) = 0#1 := by rw [cmpi_eq, if_neg hne]
      rw [this]
      show ((((BitVec.setWidth 32 0#1).toInt : ℝ) : EReal)) = 0
      simp
  simp only [h]
  rw [Finset.sum_eq_single g]
  · rw [if_pos rfl, one_mul]
  · intro b _ hb; rw [if_neg hb, zero_mul]
  · intro hn; exact absurd (Finset.mem_univ _) hn

end Cert.KernelBIdeal.Point

end
-- ==== Proof.BCand.lean ====
/- The candidates of a row: the logits of the groups taken. -/
module

public import proofs.«01_k».proof.Proof.BTriple
public import proofs.«01_k».proof.Proof.BValue

@[expose] public section

set_option maxRecDepth 16384

noncomputable section

namespace Cert.KernelBIdeal.Point

open Cert.KernelBIdeal Cert.KernelBIdeal.Gen Cert.Rank
open Idealize.ShloMosaic Idealize.ShloMosaic.TcCoe Idealize.ShloMosaic.Tactic Idealize.SL.Sem

set_option maxHeartbeats 1000000 in
theorem candX_apply (x0 : Vec Ideal S16x896 .f32) (x1 : Vec Ideal S16x800x128 .f32) (r : Fin 16) (j : Fin 2048) (g : Fin 800)
    (hS : gS (F := Ideal) x0 16 (ix2 r ⟨j.val / 128, by omega⟩) = BitVec.ofNat 32 g.val) :
    (candX x0 x1 (ix2 r j) : EReal) = x1 (ix3 r g ⟨j.val % 128, Nat.mod_lt _ (by norm_num)⟩) := by
  unfold candX candOf rowOf ohOf lrow
  generalize gS (F := Ideal) x0 16 = S at hS ⊢
  obtain ⟨k, hk⟩ := r
  interval_cases k
  · have hS : S (ix2 (0 : Fin 16) (⟨j.val / 128, by omega⟩ : Fin 16)) = BitVec.ofNat 32 g.val := hS
    pointwise
    refine (Finset.sum_congr rfl fun x _ => ?_).trans (oh_sum (fun x => (x1 (ix3 (0 : Fin 16) x ⟨j.val % 128, Nat.mod_lt _ (by norm_num)⟩) : EReal)) _ g hS)
    rfl
  · have hS : S (ix2 (1 : Fin 16) (⟨j.val / 128, by omega⟩ : Fin 16)) = BitVec.ofNat 32 g.val := hS
    pointwise
    refine (Finset.sum_congr rfl fun x _ => ?_).trans (oh_sum (fun x => (x1 (ix3 (1 : Fin 16) x ⟨j.val % 128, Nat.mod_lt _ (by norm_num)⟩) : EReal)) _ g hS)
    rfl
  · have hS : S (ix2 (2 : Fin 16) (⟨j.val / 128, by omega⟩ : Fin 16)) = BitVec.ofNat 32 g.val := hS
    pointwise
    refine (Finset.sum_congr rfl fun x _ => ?_).trans (oh_sum (fun x => (x1 (ix3 (2 : Fin 16) x ⟨j.val % 128, Nat.mod_lt _ (by norm_num)⟩) : EReal)) _ g hS)
    rfl
  · have hS : S (ix2 (3 : Fin 16) (⟨j.val / 128, by omega⟩ : Fin 16)) = BitVec.ofNat 32 g.val := hS
    pointwise
    refine (Finset.sum_congr rfl fun x _ => ?_).trans (oh_sum (fun x => (x1 (ix3 (3 : Fin 16) x ⟨j.val % 128, Nat.mod_lt _ (by norm_num)⟩) : EReal)) _ g hS)
    rfl
  · have hS : S (ix2 (4 : Fin 16) (⟨j.val / 128, by omega⟩ : Fin 16)) = BitVec.ofNat 32 g.val := hS
    pointwise
    refine (Finset.sum_congr rfl fun x _ => ?_).trans (oh_sum (fun x => (x1 (ix3 (4 : Fin 16) x ⟨j.val % 128, Nat.mod_lt _ (by norm_num)⟩) : EReal)) _ g hS)
    rfl
  · have hS : S (ix2 (5 : Fin 16) (⟨j.val / 128, by omega⟩ : Fin 16)) = BitVec.ofNat 32 g.val := hS
    pointwise
    refine (Finset.sum_congr rfl fun x _ => ?_).trans (oh_sum (fun x => (x1 (ix3 (5 : Fin 16) x ⟨j.val % 128, Nat.mod_lt _ (by norm_num)⟩) : EReal)) _ g hS)
    rfl
  · have hS : S (ix2 (6 : Fin 16) (⟨j.val / 128, by omega⟩ : Fin 16)) = BitVec.ofNat 32 g.val := hS
    pointwise
    refine (Finset.sum_congr rfl fun x _ => ?_).trans (oh_sum (fun x => (x1 (ix3 (6 : Fin 16) x ⟨j.val % 128, Nat.mod_lt _ (by norm_num)⟩) : EReal)) _ g hS)
    rfl
  · have hS : S (ix2 (7 : Fin 16) (⟨j.val / 128, by omega⟩ : Fin 16)) = BitVec.ofNat 32 g.val := hS
    pointwise
    refine (Finset.sum_congr rfl fun x _ => ?_).trans (oh_sum (fun x => (x1 (ix3 (7 : Fin 16) x ⟨j.val % 128, Nat.mod_lt _ (by norm_num)⟩) : EReal)) _ g hS)
    rfl
  · have hS : S (ix2 (8 : Fin 16) (⟨j.val / 128, by omega⟩ : Fin 16)) = BitVec.ofNat 32 g.val := hS
    pointwise
    refine (Finset.sum_congr rfl fun x _ => ?_).trans (oh_sum (fun x => (x1 (ix3 (8 : Fin 16) x ⟨j.val % 128, Nat.mod_lt _ (by norm_num)⟩) : EReal)) _ g hS)
    rfl
  · have hS : S (ix2 (9 : Fin 16) (⟨j.val / 128, by omega⟩ : Fin 16)) = BitVec.ofNat 32 g.val := hS
    pointwise
    refine (Finset.sum_congr rfl fun x _ => ?_).trans (oh_sum (fun x => (x1 (ix3 (9 : Fin 16) x ⟨j.val % 128, Nat.mod_lt _ (by norm_num)⟩) : EReal)) _ g hS)
    rfl
  · have hS : S (ix2 (10 : Fin 16) (⟨j.val / 128, by omega⟩ : Fin 16)) = BitVec.ofNat 32 g.val := hS
    pointwise
    refine (Finset.sum_congr rfl fun x _ => ?_).trans (oh_sum (fun x => (x1 (ix3 (10 : Fin 16) x ⟨j.val % 128, Nat.mod_lt _ (by norm_num)⟩) : EReal)) _ g hS)
    rfl
  · have hS : S (ix2 (11 : Fin 16) (⟨j.val / 128, by omega⟩ : Fin 16)) = BitVec.ofNat 32 g.val := hS
    pointwise
    refine (Finset.sum_congr rfl fun x _ => ?_).trans (oh_sum (fun x => (x1 (ix3 (11 : Fin 16) x ⟨j.val % 128, Nat.mod_lt _ (by norm_num)⟩) : EReal)) _ g hS)
    rfl
  · have hS : S (ix2 (12 : Fin 16) (⟨j.val / 128, by omega⟩ : Fin 16)) = BitVec.ofNat 32 g.val := hS
    pointwise
    refine (Finset.sum_congr rfl fun x _ => ?_).trans (oh_sum (fun x => (x1 (ix3 (12 : Fin 16) x ⟨j.val % 128, Nat.mod_lt _ (by norm_num)⟩) : EReal)) _ g hS)
    rfl
  · have hS : S (ix2 (13 : Fin 16) (⟨j.val / 128, by omega⟩ : Fin 16)) = BitVec.ofNat 32 g.val := hS
    pointwise
    refine (Finset.sum_congr rfl fun x _ => ?_).trans (oh_sum (fun x => (x1 (ix3 (13 : Fin 16) x ⟨j.val % 128, Nat.mod_lt _ (by norm_num)⟩) : EReal)) _ g hS)
    rfl
  · have hS : S (ix2 (14 : Fin 16) (⟨j.val / 128, by omega⟩ : Fin 16)) = BitVec.ofNat 32 g.val := hS
    pointwise
    refine (Finset.sum_congr rfl fun x _ => ?_).trans (oh_sum (fun x => (x1 (ix3 (14 : Fin 16) x ⟨j.val % 128, Nat.mod_lt _ (by norm_num)⟩) : EReal)) _ g hS)
    rfl
  · have hS : S (ix2 (15 : Fin 16) (⟨j.val / 128, by omega⟩ : Fin 16)) = BitVec.ofNat 32 g.val := hS
    pointwise
    refine (Finset.sum_congr rfl fun x _ => ?_).trans (oh_sum (fun x => (x1 (ix3 (15 : Fin 16) x ⟨j.val % 128, Nat.mod_lt _ (by norm_num)⟩) : EReal)) _ g hS)
    rfl

section rows
theorem at128 {g : ℕ} (h : g < 800) (o : Fin 128) : g * 128 + o.val < 102400 := by omega

variable (x0 : Vec Ideal S16x896 .f32) (x1 : Vec Ideal S16x800x128 .f32) (x2 x3 : Vec Ideal S16x1 .f32)
  (lg : Fin 16 → Fin 102400 → EReal) (m0 : EReal)
  (h0 : ∀ (r : Fin 16) (g : Fin 896), (x0 (ix2 r g) : EReal)
    = if h : g.val < 800 then Finset.univ.sup fun o : Fin 128 => lg r ⟨g.val * 128 + o.val, at128 h o⟩ else m0)
  (h1 : ∀ (r : Fin 16) (g : Fin 800) (o : Fin 128), (x1 (ix3 r g o) : EReal) = lg r ⟨g.val * 128 + o.val, at128 g.isLt o⟩)
  (hv : ∀ (r : Fin 16) (n : Fin 102400), n.val < 100000 → m0 < lg r n)
  (r : Fin 16) (p : ℕ → Fin 102400) (hp : Order (lg r) Fin.val p 16)

include h0 h1 hv hp

/-- Every logit of rank below sixteen is greater than the value that pads the row. -/
theorem rank_above (t : ℕ) (ht : t < 16) : m0 < lg r (p t) :=
  hp.above m0 16 (fun k : Fin 16 => (⟨k.val, by omega⟩ : Fin 102400)) (fun a b h => Fin.ext (congrArg Fin.val h :))
    (fun k => hv r _ (by show k.val < _; omega)) ht ht

theorem rows_top : (∀ s : Fin 16, (cTV (F := Ideal) (candX x0 x1) (vidOf (gS (F := Ideal) x0 16)) 16 (ix2 r s) : EReal) = lg r (p s.val))
    ∧ ∀ s : Fin 16, tiX x0 x1 (ix2 r s) = BitVec.ofNat 32 (p s.val).val := by
  classical
  obtain ⟨pg, hpg⟩ := exists_order (fun g : Fin 896 => (x0 (ix2 r g) : EReal)) (by norm_num)
  have hpg := hpg.mono (T' := 16) (by norm_num)
  -- the sixteen groups are logits' groups
  have habove : ∀ t < 16, m0 < (x0 (ix2 r (pg t)) : EReal) := fun t ht =>
    hpg.above m0 16 (fun k : Fin 16 => (⟨k.val, by omega⟩ : Fin 896)) (fun a b h => Fin.ext (congrArg Fin.val h :))
      (fun k => by
        rw [h0, dif_pos (by show k.val < _; omega)]
        exact lt_of_lt_of_le (hv r ⟨k.val * 128 + 0, by omega⟩ (by show k.val * 128 + 0 < _; omega))
          (Finset.le_sup (f := fun o : Fin 128 => lg r ⟨k.val * 128 + o.val, by omega⟩) (Finset.mem_univ (0 : Fin 128)))) ht ht
  have hbot : ∀ t < 16, (⊥ : EReal) < (x0 (ix2 r (pg t)) : EReal) := fun t ht => lt_of_le_of_lt bot_le (habove t ht)
  have h800 : ∀ t < 16, (pg t).val < 800 := fun t ht => by
    by_contra hc
    have := habove t ht
    rw [h0, dif_neg hc] at this
    exact lt_irrefl _ this
  have hsup : ∀ t (ht : t < 16), (x0 (ix2 r (pg t)) : EReal)
      = Finset.univ.sup fun o : Fin 128 => lg r ⟨(pg t).val * 128 + o.val, by have := h800 t ht; omega⟩ := fun t ht => by
    rw [h0, dif_pos (h800 t ht)]
  have hS : ∀ s : Fin 16, gS (F := Ideal) x0 16 (ix2 r s) = BitVec.ofNat 32 (pg s.val).val := fun s => by
    rw [gS_apply x0 r pg hpg hbot 16 (le_refl _) s, if_pos s.isLt]
  -- the candidates' logits
  let e : Fin 2048 → Fin 102400 := fun j => ⟨(pg (j.val / 128)).val * 128 + j.val % 128, by
    have := h800 (j.val / 128) (by omega); omega⟩
  have he : Function.Injective e := fun a b hab => by
    have hab : (pg (a.val / 128)).val * 128 + a.val % 128 = (pg (b.val / 128)).val * 128 + b.val % 128 := congrArg Fin.val hab
    have h2 : pg (a.val / 128) = pg (b.val / 128) := Fin.ext (by omega)
    have h3 := hpg.inj (a := a.val / 128) (b := b.val / 128) (by omega) (by omega) h2
    rw [h2] at hab
    exact Fin.ext (by omega)
  have hc : ∀ j, (candX x0 x1 (ix2 r j) : EReal) = lg r (e j) := fun j => by
    rw [candX_apply x0 x1 r j ⟨(pg (j.val / 128)).val, h800 _ (by omega)⟩ (hS ⟨j.val / 128, by omega⟩), h1]
  have hK : ∀ j, vidOf (gS (F := Ideal) x0 16) (ix2 r j) = BitVec.ofNat 32 (e j).val := fun j =>
    vidOf_apply _ r j (pg (j.val / 128)).val (h800 _ (by omega)) (hS ⟨j.val / 128, by omega⟩)
  -- the first sixteen logits are among them
  have hmem : ∀ t < 16, ∃ j, e j = p t := fun t ht => by
    obtain ⟨s, hs, hg⟩ := group_mem (G := 896) 128 (lg r) (fun i => ⟨i.val / 128, by omega⟩) (fun _ => rfl)
      (fun g => (x0 (ix2 r g) : EReal)) p pg 16 hp hpg
      (fun i => by
        rw [h0, dif_pos (by show i.val / 128 < 800; omega)]
        refine le_trans (le_of_eq (congrArg (lg r) (Fin.ext ?_)))
          (Finset.le_sup (f := fun o : Fin 128 => lg r ⟨i.val / 128 * 128 + o.val, by omega⟩) (Finset.mem_univ ⟨i.val % 128, by omega⟩))
        show i.val = i.val / 128 * 128 + i.val % 128
        omega)
      (fun s hs => by
        obtain ⟨o, -, ho⟩ := Finset.exists_mem_eq_sup (Finset.univ : Finset (Fin 128)) ⟨0, Finset.mem_univ _⟩
          (fun o : Fin 128 => lg r ⟨(pg s).val * 128 + o.val, by have := h800 s hs; omega⟩)
        refine ⟨⟨(pg s).val * 128 + o.val, by have := h800 s hs; omega⟩, Fin.ext ?_, ?_⟩
        · show ((pg s).val * 128 + o.val) / 128 = _
          omega
        · rw [hsup s hs]; exact ho.symm) t ht
    have hg : (pg s).val = (p t).val / 128 := congrArg Fin.val hg
    refine ⟨⟨s * 128 + (p t).val % 128, by omega⟩, Fin.ext ?_⟩
    show (pg ((s * 128 + (p t).val % 128) / 128)).val * 128 + (s * 128 + (p t).val % 128) % 128 = _
    rw [show (s * 128 + (p t).val % 128) / 128 = s from by omega]
    omega
  choose! pc hpc using hmem
  have ho := hp.pull e pc he hpc
  have ho' : Order (fun j : Fin 2048 => (candX x0 x1 (ix2 r j) : EReal)) (fun j => (e j).val) pc 16 := by
    rw [show (fun j : Fin 2048 => (candX x0 x1 (ix2 r j) : EReal)) = fun j => lg r (e j) from funext hc]; exact ho
  have hb : ∀ t < 16, (⊥ : EReal) < (candX x0 x1 (ix2 r (pc t)) : EReal) := fun t ht => by
    rw [hc, hpc t ht]
    exact lt_of_le_of_lt bot_le (rank_above x0 x1 lg m0 h0 h1 hv r p hp t ht)
  have hk : ∀ j, (e j).val < 2 ^ 30 := fun j => by have := (e j).isLt; omega
  have hki : Function.Injective fun j => (e j).val := fun a b h => he (Fin.ext h)
  refine ⟨fun s => ?_, fun s => ?_⟩
  · rw [cTV_apply (candX x0 x1) _ r (fun j => (e j).val) pc hK hk hki ho' hb 16 (le_refl _) s s.isLt, hc, hpc _ s.isLt]
  · unfold tiX
    rw [cTI_apply (candX x0 x1) _ r (fun j => (e j).val) pc hK hk hki ho' hb 16 (le_refl _) s s.isLt, hpc _ s.isLt]

theorem ysX_apply (s : Fin 16) : (ysX x0 x1 x2 (ix2 r s) : EReal) = lg r (p s.val) - (x2 (ix2 r 0) : EReal) := by
  rw [ysX_eq]
  have e := (rows_top x0 x1 lg m0 h0 h1 hv r p hp).1 s
  generalize cTV (F := Ideal) (candX x0 x1) (vidOf (gS (F := Ideal) x0 16)) 16 = V at e ⊢
  pointwise
  rw [e]

theorem dX_apply (s : Fin 16) : (dX x0 x1 x2 x3 (ix2 r s) : EReal) = (x3 (ix2 r 0) : EReal) + (lg r (p s.val) - (x2 (ix2 r 0) : EReal)) := by
  have e := ysX_apply x0 x1 x2 lg m0 h0 h1 hv r p hp s
  unfold dX dIn
  generalize ysX x0 x1 x2 = V at e ⊢
  pointwise
  rw [e]

end rows

end Cert.KernelBIdeal.Point

end
-- ==== Proof.BRef.lean ====
/- The reference of the selections, entry by entry: two stable sorts and two gathers. -/
module

public import proofs.«01_k».proof.Proof.Gen.ReferenceBIdeal
public import proofs.«01_k».proof.Proof.Gen.ReferenceBIdeal.Run
public import proofs.«01_k».proof.Proof.BMath
public import Idealize.ShloMosaic.Lib.Pointwise
public import Idealize.ShloMosaic.Lib.ValueIdx

@[expose] public section

set_option maxRecDepth 16384

noncomputable section

namespace Cert.ReferenceBIdeal.Point

open Cert.ReferenceBIdeal Cert.ReferenceBIdeal.Gen Cert.Rank
open Idealize.ShloMosaic Idealize.ShloMosaic.TcCoe Idealize.ShloMosaic.Tactic Idealize.SL.Sem

/-- The quotients by sixteen. -/
def qW (f : IVec S16 32) : IVec S16 32 :=
  select (andi (cmpi .ne (signi f) (broadcastInDim S16 ![] bcast_S_S16 (signi (id (constantI S_ 32 16#32))))) (cmpi .ne (Host.remsi f (broadcastInDim S16 ![] bcast_S_S16 (id (constantI S_ 32 16#32)))) (broadcastInDim S16 ![] bcast_S_S16 (constantI S_ 32 0#32)))) (subi (Host.divsi f (broadcastInDim S16 ![] bcast_S_S16 (id (constantI S_ 32 16#32)))) (broadcastInDim S16 ![] bcast_S_S16 (constantI S_ 32 1#32))) (Host.divsi f (broadcastInDim S16 ![] bcast_S_S16 (id (constantI S_ 32 16#32))))

/-- The divisor of the remainders: sixteen, which is not zero. -/
def cB : IVec S_ 32 := select (cmpi .eq (id (constantI S_ 32 16#32)) (constantI S_ 32 0#32)) (constantI S_ 32 1#32) (id (constantI S_ 32 16#32))

/-- The remainders by sixteen. -/
def cW (f : IVec S16 32) : IVec S16 32 :=
  select (andi (cmpi .ne (cmpi .slt (Host.remsi f (broadcastInDim S16 ![] bcast_S_S16 cB)) (broadcastInDim S16 ![] bcast_S_S16 (constantI S_ 32 0#32))) (broadcastInDim S16 ![] bcast_S_S16 (cmpi .slt cB (constantI S_ 32 0#32)))) (cmpi .ne (Host.remsi f (broadcastInDim S16 ![] bcast_S_S16 cB)) (broadcastInDim S16 ![] bcast_S_S16 (constantI S_ 32 0#32)))) (addi (Host.remsi f (broadcastInDim S16 ![] bcast_S_S16 cB)) (broadcastInDim S16 ![] bcast_S_S16 cB)) (Host.remsi f (broadcastInDim S16 ![] bcast_S_S16 cB))

/-- A negative index counts from the end. -/
def wrap (v : IVec S16 32) : IVec S16 32 :=
  select (cmpi .slt v (broadcastInDim S16 ![] bcast_S_S16 (constantI S_ 32 0#32))) (addi v (broadcastInDim S16 ![] bcast_S_S16 (constantI S_ 32 16#32))) v

/-- The index pairs of the gathers. -/
def pairs (f : IVec S16 32) : IVec S16x2 32 :=
  concatenate S16x2 1 [⟨S16x1, broadcastInDim S16x1 ![0] bcast_S16_S16x1_0 (wrap (qW f))⟩, ⟨S16x1, broadcastInDim S16x1 ![0] bcast_S16_S16x1_0 (wrap (cW f))⟩] concatenates_S16x1_S16x1_S16x2_d1

/-- The logarithms of the probabilities. -/
def lpOf (x : FVec Ideal S16x102400 .f32) (l : FVec Ideal S16x1 .f32) : FVec Ideal S16x102400 .f32 :=
  subf x (broadcastInDim S16x102400 ![0, 1] bcast_S16x1_S16x102400_0_1 l)

/-- The sums in one row. -/
def flOf (b : FVec Ideal S16 .f32) (ys : FVec Ideal S16x16 .f32) : FVec Ideal S256 .f32 :=
  shapeCast _ (addf (broadcastInDim S16x16 ![0, 1] bcast_S16x1_S16x16_0_1 (broadcastInDim S16x1 ![0] bcast_S16_S16x1_0 b)) ys) shapeCasts_S16x16_S256

/-- The first sixteen of each row. -/
def rowsT (x : FVec Ideal S16x102400 .f32) : (S16x16.Idx → EReal) × IVec S16x16 32 :=
  Host.topK S16x16 1 (FloatOps.cmpfTotal (F := Ideal) (φ := .f32) .gt) x sliceFits_S16x102400_S16x16

/-- The first sixteen of all. -/
def flatT (x : FVec Ideal S256 .f32) : (S16.Idx → EReal) × IVec S16 32 :=
  Host.topK S16 0 (FloatOps.cmpfTotal (F := Ideal) (φ := .f32) .gt) x sliceFits_S256_S16

theorem qW_apply (f : IVec S16 32) (s : Fin 16) (k : Fin 256) (h : f (ix1 s) = BitVec.ofNat 32 k.val) :
    qW f (ix1 s) = BitVec.ofNat 32 (k.val / 16) := by
  unfold qW
  pointwise
  rw [h]
  clear h
  revert k
  decide +kernel

theorem cW_apply (f : IVec S16 32) (s : Fin 16) (k : Fin 256) (h : f (ix1 s) = BitVec.ofNat 32 k.val) :
    cW f (ix1 s) = BitVec.ofNat 32 (k.val % 16) := by
  unfold cW cB
  pointwise
  rw [h]
  clear h
  revert k
  decide +kernel

theorem along2 {M N : ℕ} (r : Fin M) (s k : Fin N) : (ix2 r s : (⟨2, ![M, N]⟩ : Shape).Idx).along (1 : Fin 2) k = ix2 r k := by
  funext a
  match a with
  | ⟨0, _⟩ => rfl
  | ⟨1, _⟩ => rfl

theorem along1 {N : ℕ} (s k : Fin N) : (ix1 s : (⟨1, ![N]⟩ : Shape).Idx).along (0 : Fin 1) k = ix1 k := by
  funext a
  match a with
  | ⟨0, _⟩ => rfl

/-- Whether one entry of a row comes before another. -/
def befR (x : FVec Ideal S16x102400 .f32) (r : Fin 16) (k k' : Fin 102400) : Bool :=
  FloatOps.cmpfTotal (F := Ideal) (φ := .f32) .gt (x (ix2 r k)) (x (ix2 r k')) == 1#1

def befF (x : FVec Ideal S256 .f32) (k k' : Fin 256) : Bool :=
  FloatOps.cmpfTotal (F := Ideal) (φ := .f32) .gt (x (ix1 k)) (x (ix1 k')) == 1#1

theorem gt_eq (a b : EReal) : (FloatOps.cmpfTotal (F := Ideal) (φ := .f32) .gt a b == 1#1) = decide (b < a) := by
  show (BitVec.ofBool (decide (b < a)) == 1#1) = _
  cases decide (b < a) <;> rfl

theorem rowsT_apply (x : FVec Ideal S16x102400 .f32) (r s : Fin 16) :
    (rowsT x).1 (ix2 r s) = x (ix2 r (sortedFrom (befR x r) ⟨s.val, by omega⟩))
    ∧ (rowsT x).2 (ix2 r s) = BitVec.ofNat 32 (sortedFrom (befR x r) ⟨s.val, by omega⟩).val := by
  unfold rowsT Host.topK Host.sort2
  constructor
  · pointwise
    simp only [along2]
    rfl
  · pointwise
    simp only [along2]
    rfl

theorem flatT_apply (x : FVec Ideal S256 .f32) (s : Fin 16) :
    (flatT x).1 (ix1 s) = x (ix1 (sortedFrom (befF x) ⟨s.val, by omega⟩))
    ∧ (flatT x).2 (ix1 s) = BitVec.ofNat 32 (sortedFrom (befF x) ⟨s.val, by omega⟩).val := by
  unfold flatT Host.topK Host.sort2
  constructor
  · pointwise
    simp only [along1]
    rfl
  · pointwise
    simp only [along1]
    rfl

theorem flOf_apply (b : FVec Ideal S16 .f32) (ys : FVec Ideal S16x16 .f32) (k : Fin 256) :
    (flOf b ys (ix1 k) : EReal) = (b (ix1 ⟨k.val / 16, by omega⟩) : EReal) + ys (ix2 ⟨k.val / 16, by omega⟩ ⟨k.val % 16, by omega⟩) := by
  unfold flOf
  pointwise

theorem lpOf_apply (x : FVec Ideal S16x102400 .f32) (l : FVec Ideal S16x1 .f32) (r : Fin 16) (k : Fin 102400) :
    (lpOf x l (ix2 r k) : EReal) = (x (ix2 r k) : EReal) - l (ix2 r 0) := by
  unfold lpOf
  pointwise

theorem pairs_apply0 (f : IVec S16 32) (s : Fin 16) : pairs f (ix2 s 0) = wrap (qW f) (ix1 s) := by
  unfold pairs
  pointwise

theorem pairs_apply1 (f : IVec S16 32) (s : Fin 16) : pairs f (ix2 s 1) = wrap (cW f) (ix1 s) := by
  unfold pairs
  pointwise

theorem res0 (m : (ℓ : Loc nD τ sig) → Buf (Elt Ideal) ℓ) (c : Dev nD) :
    Cert.ReferenceBIdeal.Value.res_main_v21 m c = Host.gather gather_S16x16_S16x2_S16_n_01_n_n_01_1_11 (rowsT (lpOf (m ((c.tc : Thread nD τ).loc main_arg1)) (m ((c.tc : Thread nD τ).loc main_arg2)))).2
      (pairs (flatT (flOf (m ((c.tc : Thread nD τ).loc main_arg3)) (rowsT (lpOf (m ((c.tc : Thread nD τ).loc main_arg1)) (m ((c.tc : Thread nD τ).loc main_arg2)))).1)).2) := by
  unfold Cert.ReferenceBIdeal.Value.res_main_v21; rfl

theorem res3 (m : (ℓ : Loc nD τ sig) → Buf (Elt Ideal) ℓ) (c : Dev nD) :
    Cert.ReferenceBIdeal.Value.res_main_v35 m c = Host.gather gather_S16x16_S16x2_S16_n_01_n_n_01_1_11 (rowsT (lpOf (m ((c.tc : Thread nD τ).loc main_arg1)) (m ((c.tc : Thread nD τ).loc main_arg2)))).1
      (pairs (flatT (flOf (m ((c.tc : Thread nD τ).loc main_arg3)) (rowsT (lpOf (m ((c.tc : Thread nD τ).loc main_arg1)) (m ((c.tc : Thread nD τ).loc main_arg2)))).1)).2) := by
  unfold Cert.ReferenceBIdeal.Value.res_main_v35; rfl

theorem wrap_apply (v : IVec S16 32) (s : Fin 16) (k : Fin 16) (h : v (ix1 s) = BitVec.ofNat 32 k.val) : wrap v (ix1 s) = BitVec.ofNat 32 k.val := by
  unfold wrap
  pointwise
  rw [h]
  clear h
  revert k
  decide +kernel

theorem gather_pairs {α : Type} (x : S16x16.Idx → α) (idx : IVec S16x2 32) (s : Fin 16) :
    Host.gather gather_S16x16_S16x2_S16_n_01_n_n_01_1_11 x idx (ix1 s)
      = x (ix2 ⟨min (idx (ix2 s (0 : Fin 2))).toInt.toNat 15, by omega⟩ ⟨min (idx (ix2 s (1 : Fin 2))).toInt.toNat 15, by omega⟩) := by
  unfold Host.gather
  refine congrArg x (funext fun a => Fin.ext ?_)
  match a with
  | ⟨0, _⟩ =>
    show GatherDims.start _ (ix1 s) idx 0 + GatherDims.batchCoord _ (ix1 s) 0 + GatherDims.offCoord _ (ix1 s) 0 = min (idx (ix2 s (0 : Fin 2))).toInt.toNat 15
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S16x16_S16x2_S16_n_01_n_n_01_1_11.startIndexMap by decide)]
    have hsi : gather_S16x16_S16x2_S16_n_01_n_n_01_1_11.siIdx (ix1 s) ⟨List.idxOf (0 : Fin 2) gather_S16x16_S16x2_S16_n_01_n_n_01_1_11.startIndexMap,
        List.idxOf_lt_length_iff.2 (by decide)⟩ = ix2 s (0 : Fin 2) := by
      funext b; refine Fin.ext ?_
      match b with
      | ⟨0, _⟩ => rfl
      | ⟨1, _⟩ => rfl
    rw [hsi]
    rfl
  | ⟨1, _⟩ =>
    show GatherDims.start _ (ix1 s) idx 1 + GatherDims.batchCoord _ (ix1 s) 1 + GatherDims.offCoord _ (ix1 s) 1 = min (idx (ix2 s (1 : Fin 2))).toInt.toNat 15
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S16x16_S16x2_S16_n_01_n_n_01_1_11.startIndexMap by decide)]
    have hsi : gather_S16x16_S16x2_S16_n_01_n_n_01_1_11.siIdx (ix1 s) ⟨List.idxOf (1 : Fin 2) gather_S16x16_S16x2_S16_n_01_n_n_01_1_11.startIndexMap,
        List.idxOf_lt_length_iff.2 (by decide)⟩ = ix2 s (1 : Fin 2) := by
      funext b; refine Fin.ext ?_
      match b with
      | ⟨0, _⟩ => rfl
      | ⟨1, _⟩ => rfl
    rw [hsi]
    rfl

/-- A gather at the pair of a flat position. -/
theorem gather_flat {α : Type} (x : S16x16.Idx → α) (f : IVec S16 32) (s : Fin 16) (k : Fin 256) (h : f (ix1 s) = BitVec.ofNat 32 k.val) :
    Host.gather gather_S16x16_S16x2_S16_n_01_n_n_01_1_11 x (pairs f) (ix1 s) = x (ix2 ⟨k.val / 16, by omega⟩ ⟨k.val % 16, by omega⟩) := by
  have hn : ∀ a : Fin 16, min (BitVec.ofNat 32 a.val).toInt.toNat 15 = a.val := by decide
  rw [gather_pairs]
  have h0 : pairs f (ix2 s (0 : Fin 2)) = BitVec.ofNat 32 (k.val / 16) :=
    (pairs_apply0 f s).trans (wrap_apply _ s ⟨k.val / 16, by omega⟩ (qW_apply f s k h))
  have h1 : pairs f (ix2 s (1 : Fin 2)) = BitVec.ofNat 32 (k.val % 16) :=
    (pairs_apply1 f s).trans (wrap_apply _ s ⟨k.val % 16, by omega⟩ (cW_apply f s k h))
  refine congrArg x ?_
  congr 1
  · refine Fin.ext ?_
    show min (pairs f (ix2 s (0 : Fin 2))).toInt.toNat 15 = k.val / 16
    rw [h0]; exact hn ⟨k.val / 16, by omega⟩
  · refine Fin.ext ?_
    show min (pairs f (ix2 s (1 : Fin 2))).toInt.toNat 15 = k.val % 16
    rw [h1]; exact hn ⟨k.val % 16, by omega⟩

theorem order_first {N : ℕ} (x : Fin N → EReal) (hT : 16 ≤ N) (B : Fin N → Fin N → Bool) (hB : ∀ k k', B k k' = decide (x k' < x k)) :
    ∃ p : ℕ → Fin N, Order x Fin.val p 16 ∧ ∀ (s : ℕ) (h : s < N), p s = sortedFrom B ⟨s, h⟩ := by
  refine ⟨_, (order_sort x (by omega) B hB).mono hT, fun s h => ?_⟩
  exact congrArg (sortedFrom B) (Fin.ext (Nat.mod_eq_of_lt h))

/-- The first sixteen of each row are the row's entries in order. -/
theorem rows_order (x : FVec Ideal S16x102400 .f32) (r : Fin 16) : ∃ p : ℕ → Fin 102400,
    Order (fun k : Fin 102400 => (x (ix2 r k) : EReal)) Fin.val p 16
    ∧ ∀ s : Fin 16, (rowsT x).1 (ix2 r s) = x (ix2 r (p s.val)) ∧ (rowsT x).2 (ix2 r s) = BitVec.ofNat 32 (p s.val).val := by
  obtain ⟨p, hp, he⟩ := order_first (fun k : Fin 102400 => (x (ix2 r k) : EReal)) (by norm_num) (befR x r) fun k k' => gt_eq _ _
  refine ⟨p, hp, fun s => ?_⟩
  rw [he s.val (by omega)]
  exact rowsT_apply x r s

theorem flat_order (x : FVec Ideal S256 .f32) : ∃ p : ℕ → Fin 256,
    Order (fun k : Fin 256 => (x (ix1 k) : EReal)) Fin.val p 16
    ∧ ∀ s : Fin 16, (flatT x).1 (ix1 s) = x (ix1 (p s.val)) ∧ (flatT x).2 (ix1 s) = BitVec.ofNat 32 (p s.val).val := by
  obtain ⟨p, hp, he⟩ := order_first (fun k : Fin 256 => (x (ix1 k) : EReal)) (by norm_num) (befF x) fun k k' => gt_eq _ _
  refine ⟨p, hp, fun s => ?_⟩
  rw [he s.val (by omega)]
  exact flatT_apply x s

end Cert.ReferenceBIdeal.Point

end
-- ==== Proof.BRun.lean ====
/- The run of the selection kernel: what its four results end holding, and its arguments unchanged. -/
module

public import proofs.«01_k».proof.Proof.BTriple
public import proofs.«01_k».proof.Proof.Gen.KernelBIdeal.Launch
public import proofs.«01_k».proof.Proof.Gen.KernelBIdeal.Points
public import Idealize.ShloMosaic.Lib.Pipeline.ValueKit.Geometry
public import Idealize.ShloMosaic.Lib.StableHlo.ReadAt

@[expose] public section

set_option maxRecDepth 16384

noncomputable section

namespace Cert.KernelBIdeal.Point

open Cert.KernelBIdeal Cert.KernelBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four operands as the region finds them. -/
abbrev X0 (c : Dev nD) : Vec F S16x896 .f32 := V m c main_v2
abbrev X1 (c : Dev nD) : Vec F S16x800x128 .f32 := V m c main_v3
abbrev X2 (c : Dev nD) : Vec F S16x1 .f32 := V m c main_arg2
abbrev X3 (c : Dev nD) : Vec F S16x1 .f32 := V m c main_v4

/-- The last selection's sums, logarithms and token numbers. -/
abbrev DX (c : Dev nD) : FVec F S16x16 .f32 := dX (X0 m c) (X1 m c) (X2 m c) (X3 m c)
abbrev YX (c : Dev nD) : FVec F S16x16 .f32 := ysX (X0 m c) (X1 m c) (X2 m c)
abbrev TX (c : Dev nD) : IVec S16x16 32 := tiX (X0 m c) (X1 m c)

def afterV (c : Dev nD) (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => rTok (DX m c) (TX m c) 16
  | 5 => rQ (DX m c) 16
  | 6 => rP (DX m c) 16
  | 7 => rL (DX m c) (YX m c) 16
  | ⟨_ + 8, h⟩ => absurd h (Nat.not_lt.2 (Nat.le_add_left _ _))

def dats (_ : Fin 1) (c : Dev nD) : Dat τ (Elt F) Unit ℕ (UR sig nD τ) ℕ cfg0 c where
  A w := V m c (Pipeline.arrRef spec0 w)
  after w t := afterV m c w t
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) : (Pipeline.ΦA (Val := Elt F) (U := UR sig nD τ) spec0 c : sProp 𝕄)
    = iprop((∃ f, owns (c : Thread nD τ) (Memref.whole cc0_scratch0) fullShare f) ∗ ∃ r, prngReg c r) := by
  unfold Pipeline.ΦA; rw [scopedRest0_eq]
  simp only [owns_whole]

theorem idx0 : ∀ t : Fin grid0.N, win0_0.index t = ![0, 0] := by decide +kernel
theorem idx1 : ∀ t : Fin grid0.N, win0_1.index t = ![0, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel

theorem blk0 (c : Dev nD) (t : Fin cfg0.N) : (iblk m c 0 t : Vec F S16x896 .f32) = X0 m c := by
  funext i
  obtain ⟨a, b, rfl⟩ : ∃ a b, i = ix2 a b := ⟨_, _, eq_ix2 i⟩
  blk_ext [iblk, idx0 t]
theorem blk1 (c : Dev nD) (t : Fin cfg0.N) : (iblk m c 1 t : Vec F S16x800x128 .f32) = X1 m c := by
  funext i
  obtain ⟨a, b, d, rfl⟩ : ∃ a b d, i = ix3 a b d := ⟨_, _, _, eq_ix3 i⟩
  blk_ext [iblk, idx1 t]
theorem blk2 (c : Dev nD) (t : Fin cfg0.N) : (iblk m c 2 t : Vec F S16x1 .f32) = X2 m c := by
  funext i
  obtain ⟨a, b, rfl⟩ : ∃ a b, i = ix2 a b := ⟨_, _, eq_ix2 i⟩
  blk_ext [iblk, idx2 t]
theorem blk3 (c : Dev nD) (t : Fin cfg0.N) : (iblk m c 3 t : Vec F S16x1 .f32) = X3 m c := by
  funext i
  obtain ⟨a, b, rfl⟩ : ∃ a b, i = ix2 a b := ⟨_, _, eq_ix2 i⟩
  blk_ext [iblk, idx3 t]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗
    owns (c : Thread nD τ) (st0_1 t) fullShare ((dats m 0 c).after 1 t) ∗
    owns (c : Thread nD τ) (st0_2 t) fullShare ((dats m 0 c).after 2 t) ∗
    owns (c : Thread nD τ) (st0_3 t) fullShare ((dats m 0 c).after 3 t) ∗
    owns (c : Thread nD τ) (st0_4 t) fullShare ((dats m 0 c).after 4 t) ∗
    owns (c : Thread nD τ) (st0_5 t) fullShare ((dats m 0 c).after 5 t) ∗
    owns (c : Thread nD τ) (st0_6 t) fullShare ((dats m 0 c).after 6 t) ∗
    owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3]
  iapply (sound_kernel (F := F) c Set.univ (st0_0 t) (hstage0_0 0) (st0_1 t) (hstage0_1 0) (st0_2 t) (hstage0_2 0) (st0_3 t) (hstage0_3 0)
    (st0_4 t) (hstage0_4 0) (st0_5 t) (hstage0_5 0) (st0_6 t) (hstage0_6 0) (st0_7 t) (hstage0_7 0)
    (Memref.whole cc0_scratch0) (Memref.isWhole_whole _) (iblk m c 0 t) (iblk m c 1 t) (iblk m c 2 t) (iblk m c 3 t)
    ((dats m 0 c).before 4 t d4) ((dats m 0 c).before 5 t d5) ((dats m 0 c).before 6 t d6) ((dats m 0 c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have e1 : dX (iblk m c 0 t) (iblk m c 1 t) (iblk m c 2 t) (iblk m c 3 t) = DX m c := by rw [blk0, blk1, blk2, blk3]
  have e2 : ysX (iblk m c 0 t) (iblk m c 1 t) (iblk m c 2 t) = YX m c := by rw [blk0, blk1, blk2]
  have e3 : tiX (iblk m c 0 t) (iblk m c 1 t) = TX m c := by rw [blk0, blk1]
  rw [e1, e2, e3]
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem final4 (c : Dev nD) : (dats m 0 c).arrAt 4 cfg0.N = (rTok (DX m c) (TX m c) 16 : Vec F S1x16 .i32) := by
  refine (dats m 0 c).arrAt_eq_of_after_last 4 t0_0 (by decide +kernel) _ fun j => ?_
  blk_simp
  rfl

theorem tail4 (c : Dev nD) : Pipeline.afterTail₀ cfgs (dats m) 0 (V0 m) [hostOps1] c main_v6
    = shapeCast S16 (rTok (DX m c) (TX m c) 16 : Vec F S1x16 .i32) shapeCasts_S1x16_S16 := by
  have h : Pipeline.withArrays spec0 c (V0 m c) (fun w => (dats m 0 c).arrAt w cfg0.N) (Proc.devRef .tc main_v5_0)
      = (dats m 0 c).arrAt 4 cfg0.N :=
    Pipeline.withArrays_arr spec0 launch0.win.arr_inj c (V0 m c) (fun w => (dats m 0 c).arrAt w cfg0.N) 4
  rw [final4] at h
  have g : ∀ W : Valuation τ sig (Elt F), StableHlo.after hostOps1 W (Proc.devRef .tc main_v6)
      = shapeCast S16 (W (Proc.devRef .tc main_v5_0) : Vec F S1x16 .i32) shapeCasts_S1x16_S16 := fun W => by
    after_results_simp
    rfl
  exact (g _).trans (congrArg (fun z => shapeCast S16 z shapeCasts_S1x16_S16) h)

theorem final5 (c : Dev nD) : (dats m 0 c).arrAt 5 cfg0.N = (rQ (DX m c) 16 : Vec F S1x16 .i32) := by
  refine (dats m 0 c).arrAt_eq_of_after_last 5 t0_0 (by decide +kernel) _ fun j => ?_
  blk_simp
  rfl

theorem tail5 (c : Dev nD) : Pipeline.afterTail₀ cfgs (dats m) 0 (V0 m) [hostOps1] c main_v7
    = shapeCast S16 (rQ (DX m c) 16 : Vec F S1x16 .i32) shapeCasts_S1x16_S16 := by
  have h : Pipeline.withArrays spec0 c (V0 m c) (fun w => (dats m 0 c).arrAt w cfg0.N) (Proc.devRef .tc main_v5_1)
      = (dats m 0 c).arrAt 5 cfg0.N :=
    Pipeline.withArrays_arr spec0 launch0.win.arr_inj c (V0 m c) (fun w => (dats m 0 c).arrAt w cfg0.N) 5
  rw [final5] at h
  have g : ∀ W : Valuation τ sig (Elt F), StableHlo.after hostOps1 W (Proc.devRef .tc main_v7)
      = shapeCast S16 (W (Proc.devRef .tc main_v5_1) : Vec F S1x16 .i32) shapeCasts_S1x16_S16 := fun W => by
    after_results_simp
    rfl
  exact (g _).trans (congrArg (fun z => shapeCast S16 z shapeCasts_S1x16_S16) h)

theorem final6 (c : Dev nD) : (dats m 0 c).arrAt 6 cfg0.N = (rP (DX m c) 16 : Vec F S1x16 .f32) := by
  refine (dats m 0 c).arrAt_eq_of_after_last 6 t0_0 (by decide +kernel) _ fun j => ?_
  blk_simp
  rfl

theorem tail6 (c : Dev nD) : Pipeline.afterTail₀ cfgs (dats m) 0 (V0 m) [hostOps1] c main_v8
    = shapeCast S16 (rP (DX m c) 16 : Vec F S1x16 .f32) shapeCasts_S1x16_S16 := by
  have h : Pipeline.withArrays spec0 c (V0 m c) (fun w => (dats m 0 c).arrAt w cfg0.N) (Proc.devRef .tc main_v5_2)
      = (dats m 0 c).arrAt 6 cfg0.N :=
    Pipeline.withArrays_arr spec0 launch0.win.arr_inj c (V0 m c) (fun w => (dats m 0 c).arrAt w cfg0.N) 6
  rw [final6] at h
  have g : ∀ W : Valuation τ sig (Elt F), StableHlo.after hostOps1 W (Proc.devRef .tc main_v8)
      = shapeCast S16 (W (Proc.devRef .tc main_v5_2) : Vec F S1x16 .f32) shapeCasts_S1x16_S16 := fun W => by
    after_results_simp
    rfl
  exact (g _).trans (congrArg (fun z => shapeCast S16 z shapeCasts_S1x16_S16) h)

theorem final7 (c : Dev nD) : (dats m 0 c).arrAt 7 cfg0.N = (rL (DX m c) (YX m c) 16 : Vec F S1x16 .f32) := by
  refine (dats m 0 c).arrAt_eq_of_after_last 7 t0_0 (by decide +kernel) _ fun j => ?_
  blk_simp
  rfl

theorem tail7 (c : Dev nD) : Pipeline.afterTail₀ cfgs (dats m) 0 (V0 m) [hostOps1] c main_v9
    = shapeCast S16 (rL (DX m c) (YX m c) 16 : Vec F S1x16 .f32) shapeCasts_S1x16_S16 := by
  have h : Pipeline.withArrays spec0 c (V0 m c) (fun w => (dats m 0 c).arrAt w cfg0.N) (Proc.devRef .tc main_v5_3)
      = (dats m 0 c).arrAt 7 cfg0.N :=
    Pipeline.withArrays_arr spec0 launch0.win.arr_inj c (V0 m c) (fun w => (dats m 0 c).arrAt w cfg0.N) 7
  rw [final7] at h
  have g : ∀ W : Valuation τ sig (Elt F), StableHlo.after hostOps1 W (Proc.devRef .tc main_v9)
      = shapeCast S16 (W (Proc.devRef .tc main_v5_3) : Vec F S1x16 .f32) shapeCasts_S1x16_S16 := fun W => by
    after_results_simp
    rfl
  exact (g _).trans (congrArg (fun z => shapeCast S16 z shapeCasts_S1x16_S16) h)

/-- The kernel's run: its four results, its arguments unchanged, every counter at zero. -/
theorem run_value : θ_run defs (onTc (τ := τ) (main (F := F))) ⟨m, fun _ => 0, ρ⟩ (fun r => (∀ c : Dev nD,
      r.2.mem ((c.tc : Thread nD τ).loc main_v6) = shapeCast S16 (rTok (DX m c) (TX m c) 16 : Vec F S1x16 .i32) shapeCasts_S1x16_S16
      ∧ r.2.mem ((c.tc : Thread nD τ).loc main_v7) = shapeCast S16 (rQ (DX m c) 16 : Vec F S1x16 .i32) shapeCasts_S1x16_S16
      ∧ r.2.mem ((c.tc : Thread nD τ).loc main_v8) = shapeCast S16 (rP (DX m c) 16 : Vec F S1x16 .f32) shapeCasts_S1x16_S16
      ∧ r.2.mem ((c.tc : Thread nD τ).loc main_v9) = shapeCast S16 (rL (DX m c) (YX m c) 16 : Vec F S1x16 .f32) shapeCasts_S1x16_S16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_v6 (Pipeline.mem_restRefs_of main_v6 (by decide) (by decide))).trans (tail4 m c),
      ((h.1 c).2 main_v7 (Pipeline.mem_restRefs_of main_v7 (by decide) (by decide))).trans (tail5 m c),
      ((h.1 c).2 main_v8 (Pipeline.mem_restRefs_of main_v8 (by decide) (by decide))).trans (tail6 m c),
      ((h.1 c).2 main_v9 (Pipeline.mem_restRefs_of main_v9 (by decide) (by decide))).trans (tail7 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans ((A_eq m c 2).trans (V_main_arg2 m c))),
      ((h.1 c).2 main_arg3 (Pipeline.mem_restRefs_of main_arg3 (by decide) (by decide))).trans (W_main_arg3 m (dats m) c)⟩, h.2⟩) (run_main m ρ)

end Cert.KernelBIdeal.Point

end
-- ==== Proof.BPre.lean ====
/- What the selections' precondition says of each element, and the operands as the selections' kernel finds them. -/
module

public import proofs.«01_k».proof.Proof.BRun
public import proofs.«01_k».proof.Proof.BValue
public import proofs.«01_k».proof.Proof.Gen.Pre_ranked
public import Idealize.ShloMosaic.Lib.ReduceAll

@[expose] public section

set_option maxRecDepth 16384

noncomputable section

namespace Cert.KernelBIdeal.Point

open Idealize.ShloMosaic Idealize.ShloMosaic.TcCoe Idealize.ShloMosaic.Tactic Idealize.SL.Sem

theorem andi_one (a b : BitVec 1) (h : IntOp.andi a b = 1#1) : a = 1#1 ∧ b = 1#1 := by
  revert a b; decide

theorem ofBool_one (p : Prop) [Decidable p] (h : BitVec.ofBool (decide p) = 1#1) : p := by
  by_contra hn
  rw [decide_eq_false hn] at h
  exact absurd h (by decide)

/-- The value that pads the groups' maxima. -/
abbrev m0 : EReal := Ideal.ofBits FTy.f32 0xF149F2CA#32

theorem posInf : Ideal.ofBits FTy.f32 0x7F800000#32 = (⊤ : EReal) := by
  simp [Ideal.ofBits, Ideal.ieee]

section pre
open Cert.Pre_ranked Cert.Pre_ranked.Gen

theorem ranked_facts (a0 : FVec Ideal S25x16x32 .f32) (a1 : FVec Ideal S16x102400 .f32) (a2 : FVec Ideal S16x1 .f32) (a3 : FVec Ideal S16 .f32)
    (h : Cert.Pre_ranked.fn (F := Ideal) a0 a1 a2 a3 = fun _ => 1#1) :
    (∀ (r : Fin 16) (n : Fin 102400), n.val < 100000 → m0 < (a1 (ix2 r n) : EReal))
    ∧ (∀ r : Fin 16, (a2 (ix2 r 0) : EReal) ≠ ⊤ ∧ (a2 (ix2 r 0) : EReal) ≠ ⊥)
    ∧ (∀ q : Fin 16, (⊥ : EReal) < a3 (ix1 q))
    ∧ ∀ (t : Fin 25) (r : Fin 16) (g : Fin 32), (a0 (ix3 t r g) : EReal)
      = Finset.univ.sup fun o : Fin 128 => (a1 (ix2 r ⟨t.val * 4096 + g.val * 128 + o.val, by omega⟩) : EReal) := by
  have : Subsingleton Cert.Pre_ranked.S_.Idx := ⟨fun a b => funext fun k => k.elim0⟩
  have h0 := congrFun h (fun k => k.elim0)
  dsimp only [fn, fn_part1] at h0
  obtain ⟨h0, hg⟩ := andi_one _ _ h0
  obtain ⟨h0, h3⟩ := andi_one _ _ h0
  obtain ⟨h1, h2⟩ := andi_one _ _ h0
  refine ⟨fun r n hn => ?_, fun r => ?_, fun q => ?_, fun t r g => ?_⟩
  · have e := Host.reduce_andi_all _ _ _ _ _ h1 (ix2 r (⟨n.val, hn⟩ : Fin 100000))
    pointwise at e
    exact ofBool_one _ e
  · have e := Host.reduce_andi_all _ _ _ _ _ h2 (ix2 r 0)
    pointwise at e
    have e := ofBool_one _ e
    rw [posInf] at e
    have e' : max (a2 (ix2 r 0) : EReal) (-(a2 (ix2 r 0))) < ⊤ := e
    refine ⟨fun h => ?_, fun h => ?_⟩ <;> rw [h] at e' <;> simp at e'
  · have e := Host.reduce_andi_all _ _ _ _ _ h3 (ix1 q)
    pointwise at e
    have e := ofBool_one _ e
    rwa [negInf] at e
  · have e := Host.reduce_andi_all _ _ _ _ _ hg (ix3 t r g)
    pointwise at e
    have e := ofBool_one _ e
    rw [negInf] at e
    exact e

end pre

open Cert.KernelBIdeal Cert.KernelBIdeal.Gen

variable (m : (ℓ : Loc nD τ sig) → Buf (Elt Ideal) ℓ) (c : Dev nD)

theorem X1_apply (r : Fin 16) (g : Fin 800) (o : Fin 128) :
    (X1 m c (ix3 r g o) : EReal) = m ((c.tc : Thread nD τ).loc main_arg1) (ix2 r ⟨g.val * 128 + o.val, by omega⟩) := by
  unfold X1 V V0 hostOps0 hostOps0_1 hostOps0_2
  after_reads_at

theorem X3_apply (r : Fin 16) : (X3 m c (ix2 r 0) : EReal) = m ((c.tc : Thread nD τ).loc main_arg3) (ix1 r) := by
  unfold X3 V V0 hostOps0 hostOps0_1 hostOps0_2
  after_reads_at

theorem X0_apply (r : Fin 16) (g : Fin 896) :
    (X0 m c (ix2 r g) : EReal) = if h : g.val < 800 then
      m ((c.tc : Thread nD τ).loc main_arg0) (ix3 (⟨g.val / 32, by omega⟩ : Fin 25) r (⟨g.val % 32, by omega⟩ : Fin 32)) else m0 := by
  unfold X0 V V0 hostOps0 hostOps0_1 hostOps0_2
  after_reads_at
  rfl

end Cert.KernelBIdeal.Point

end
-- ==== Proof.BEqual.lean ====
/- The selections' kernel and reference give equal results where the precondition holds. -/
module

public import proofs.«01_k».proof.Proof.BCand
public import proofs.«01_k».proof.Proof.BRef
public import proofs.«01_k».proof.Proof.BPre

@[expose] public section

set_option maxRecDepth 16384

noncomputable section

namespace Cert.KernelBIdeal.Point

open Idealize.ShloMosaic Idealize.ShloMosaic.TcCoe Idealize.ShloMosaic.Tactic Idealize.SL.Sem
open Cert.Rank Cert.KernelBIdeal Cert.KernelBIdeal.Gen

theorem sub_lt_sub (a b l : EReal) (ht : l ≠ ⊤) (hb : l ≠ ⊥) (h : a - l < b - l) : a < b := by
  by_contra hn
  exact absurd h (not_lt.2 (EReal.sub_le_sub (not_lt.1 hn) le_rfl))

theorem sub_inj (a b l : EReal) (ht : l ≠ ⊤) (hb : l ≠ ⊥) (h : a - l = b - l) : a = b := by
  lift l to ℝ using ⟨ht, hb⟩
  have := congrArg (· + (l : EReal)) h
  simpa only [EReal.sub_add_cancel] using this

theorem above_bot (x a l m : EReal) (hx : ⊥ < x) (ha : m < a) (ht : l ≠ ⊤) : ⊥ < x + (a - l) := by
  rw [sub_eq_add_neg, EReal.bot_lt_add_iff, EReal.bot_lt_add_iff]
  refine ⟨hx, lt_of_le_of_lt bot_le ha, ?_⟩
  rw [bot_lt_iff_ne_bot]
  simpa using ht

section equal

variable (m : (ℓ : Loc nD τ sig) → Buf (Elt Ideal) ℓ) (c : Dev nD)

abbrev A0 : FVec Ideal S25x16x32 .f32 := m ((c.tc : Thread nD τ).loc main_arg0)
abbrev A1 : FVec Ideal S16x102400 .f32 := m ((c.tc : Thread nD τ).loc main_arg1)
abbrev A2 : FVec Ideal S16x1 .f32 := m ((c.tc : Thread nD τ).loc main_arg2)
abbrev A3 : FVec Ideal S16 .f32 := m ((c.tc : Thread nD τ).loc main_arg3)

/-- The logits, row by row. -/
def lg (r : Fin 16) (n : Fin 102400) : EReal := A1 m c (ix2 r n)

variable (hpre : Cert.Pre_ranked.fn (F := Ideal) (A0 m c) (A1 m c) (A2 m c) (A3 m c) = fun _ => 1#1)

include hpre

theorem h0 : ∀ (r : Fin 16) (g : Fin 896), (X0 m c (ix2 r g) : EReal)
    = if h : g.val < 800 then Finset.univ.sup fun o : Fin 128 => lg m c r ⟨g.val * 128 + o.val, by omega⟩ else m0 := by
  intro r g
  rw [X0_apply]
  split
  · rename_i h
    refine ((ranked_facts _ _ _ _ hpre).2.2.2 _ r _).trans ?_
    refine Finset.sup_congr rfl fun o _ => ?_
    unfold lg
    refine congrArg (fun n => (A1 m c (ix2 r n) : EReal)) (Fin.ext ?_)
    show g.val / 32 * 4096 + g.val % 32 * 128 + o.val = g.val * 128 + o.val
    omega
  · rfl

omit hpre in
theorem h1 : ∀ (r : Fin 16) (g : Fin 800) (o : Fin 128), (X1 m c (ix3 r g o) : EReal) = lg m c r ⟨g.val * 128 + o.val, by omega⟩ :=
  fun r g o => X1_apply m c r g o

theorem hv : ∀ (r : Fin 16) (n : Fin 102400), n.val < 100000 → m0 < lg m c r n :=
  fun r n h => (ranked_facts _ _ _ _ hpre).1 r n h

/-- The kernel's candidates are the reference's. -/
theorem rows_eq (r : Fin 16) : ∃ p : ℕ → Fin 102400, Order (lg m c r) Fin.val p 16
    ∧ ∀ s : Fin 16, (Cert.ReferenceBIdeal.Point.rowsT (Cert.ReferenceBIdeal.Point.lpOf (A1 m c) (A2 m c))).1 (ix2 r s) = lg m c r (p s.val) - A2 m c (ix2 r 0)
      ∧ (Cert.ReferenceBIdeal.Point.rowsT (Cert.ReferenceBIdeal.Point.lpOf (A1 m c) (A2 m c))).2 (ix2 r s) = BitVec.ofNat 32 (p s.val).val := by
  obtain ⟨p, hp, he⟩ := Cert.ReferenceBIdeal.Point.rows_order (Cert.ReferenceBIdeal.Point.lpOf (A1 m c) (A2 m c)) r
  obtain ⟨ht, hb⟩ := (ranked_facts _ _ _ _ hpre).2.1 r
  have hl : ∀ k, (Cert.ReferenceBIdeal.Point.lpOf (A1 m c) (A2 m c) (ix2 r k) : EReal) = lg m c r k - A2 m c (ix2 r 0) :=
    fun k => Cert.ReferenceBIdeal.Point.lpOf_apply _ _ r k
  refine ⟨p, hp.map (fun i j h => ?_) (fun i j h => ?_), fun s => ⟨(he s).1.trans (hl _), (he s).2⟩⟩
  · exact sub_lt_sub _ _ _ ht hb (by simpa only [hl] using h)
  · exact sub_inj _ _ _ ht hb (by simpa only [hl] using h)

theorem ys_eq (r s : Fin 16) : (YX m c (ix2 r s) : EReal)
    = (Cert.ReferenceBIdeal.Point.rowsT (Cert.ReferenceBIdeal.Point.lpOf (A1 m c) (A2 m c))).1 (ix2 r s) := by
  obtain ⟨p, hp, he⟩ := rows_eq m c hpre r
  refine (ysX_apply (X0 m c) (X1 m c) (X2 m c) (lg m c) m0 (h0 m c hpre) (h1 m c) (hv m c hpre) r p hp s).trans ?_
  rw [(he s).1]
  exact congrArg (fun z : FVec Ideal S16x1 .f32 => lg m c r (p s.val) - (z (ix2 r 0) : EReal)) (V_main_arg2 m c)

theorem tok_eq (r s : Fin 16) : (TX m c (ix2 r s))
    = (Cert.ReferenceBIdeal.Point.rowsT (Cert.ReferenceBIdeal.Point.lpOf (A1 m c) (A2 m c))).2 (ix2 r s) := by
  obtain ⟨p, hp, he⟩ := rows_eq m c hpre r
  rw [(he s).2]
  exact (rows_top (X0 m c) (X1 m c) (lg m c) m0 (h0 m c hpre) (h1 m c) (hv m c hpre) r p hp).2 s

/-- The reference's sums. -/
abbrev FL : FVec Ideal Cert.ReferenceBIdeal.S256 .f32 :=
  Cert.ReferenceBIdeal.Point.flOf (A3 m c) (Cert.ReferenceBIdeal.Point.rowsT (Cert.ReferenceBIdeal.Point.lpOf (A1 m c) (A2 m c))).1

theorem d_eq (r s : Fin 16) : (DX m c (ix2 r s) : EReal) = FL m c (ix1 ⟨r.val * 16 + s.val, by omega⟩)
    ∧ (⊥ : EReal) < DX m c (ix2 r s) := by
  obtain ⟨p, hp, he⟩ := rows_eq m c hpre r
  obtain ⟨ht, hb⟩ := (ranked_facts _ _ _ _ hpre).2.1 r
  have e : (DX m c (ix2 r s) : EReal) = A3 m c (ix1 r) + (lg m c r (p s.val) - A2 m c (ix2 r 0)) := by
    refine (dX_apply (X0 m c) (X1 m c) (X2 m c) (X3 m c) (lg m c) m0 (h0 m c hpre) (h1 m c) (hv m c hpre) r p hp s).trans ?_
    rw [X3_apply]
    exact congrArg (fun z : FVec Ideal S16x1 .f32 => (A3 m c (ix1 r) : EReal) + (lg m c r (p s.val) - (z (ix2 r 0) : EReal))) (V_main_arg2 m c)
  refine ⟨?_, ?_⟩
  · rw [e]
    refine Eq.trans ?_ (Cert.ReferenceBIdeal.Point.flOf_apply _ _ _).symm
    rw [← (he s).1]
    have hr : (⟨(r.val * 16 + s.val) / 16, by omega⟩ : Fin 16) = r := Fin.ext (by show (r.val * 16 + s.val) / 16 = r.val; omega)
    have hs : (⟨(r.val * 16 + s.val) % 16, by omega⟩ : Fin 16) = s := Fin.ext (by show (r.val * 16 + s.val) % 16 = s.val; omega)
    simp only [hr, hs]
  · rw [e]
    exact above_bot _ _ _ m0 ((ranked_facts _ _ _ _ hpre).2.2.1 r) (rank_above (X0 m c) (X1 m c) (lg m c) m0 (h0 m c hpre) (h1 m c) (hv m c hpre) r p hp s.val s.isLt) ht

theorem final : ∃ p3 : ℕ → Fin 256,
    Order (fun x : Fin 16 × Fin 16 => (DX m c (ix2 x.1 x.2) : EReal)) flat (fun t => (⟨(p3 t).val / 16, by omega⟩, ⟨(p3 t).val % 16, by omega⟩)) 16
    ∧ ∀ s : Fin 16, (Cert.ReferenceBIdeal.Point.flatT (FL m c)).1 (ix1 s) = FL m c (ix1 (p3 s.val))
      ∧ (Cert.ReferenceBIdeal.Point.flatT (FL m c)).2 (ix1 s) = BitVec.ofNat 32 (p3 s.val).val := by
  obtain ⟨p3, hp, he⟩ := Cert.ReferenceBIdeal.Point.flat_order (FL m c)
  refine ⟨p3, ?_, he⟩
  have h := hp.pull (fun x : Fin 16 × Fin 16 => (⟨flat x, flat_lt x⟩ : Fin 256)) (fun t => (⟨(p3 t).val / 16, by omega⟩, ⟨(p3 t).val % 16, by omega⟩))
    (fun a b hab => flat_inj (Fin.mk.inj hab)) (fun t _ => Fin.ext (by show (p3 t).val / 16 * 16 + (p3 t).val % 16 = (p3 t).val; omega))
  have hd : (fun x : Fin 16 × Fin 16 => (DX m c (ix2 x.1 x.2) : EReal)) = fun x => FL m c (ix1 ⟨flat x, flat_lt x⟩) :=
    funext fun x => (d_eq m c hpre x.1 x.2).1
  rw [hd]
  exact h

omit hpre in
theorem cast16 {α : Type} (x : S1x16.Idx → α) (s : Fin 16) : shapeCast S16 x shapeCasts_S1x16_S16 (ix1 s) = x (ix2 0 s) := by
  pointwise

open Cert.ReferenceBIdeal.Point in
/-- The four results. -/
theorem results :
    shapeCast S16 (rTok (DX m c) (TX m c) 16) shapeCasts_S1x16_S16
      = Host.gather Cert.ReferenceBIdeal.gather_S16x16_S16x2_S16_n_01_n_n_01_1_11 (rowsT (lpOf (A1 m c) (A2 m c))).2 (pairs (flatT (FL m c)).2)
    ∧ shapeCast S16 (rQ (DX m c) 16) shapeCasts_S1x16_S16 = qW (flatT (FL m c)).2
    ∧ shapeCast S16 (rP (DX m c) 16) shapeCasts_S1x16_S16 = (flatT (FL m c)).1
    ∧ shapeCast S16 (rL (DX m c) (YX m c) 16) shapeCasts_S1x16_S16
      = Host.gather Cert.ReferenceBIdeal.gather_S16x16_S16x2_S16_n_01_n_n_01_1_11 (rowsT (lpOf (A1 m c) (A2 m c))).1 (pairs (flatT (FL m c)).2) := by
  obtain ⟨p3, hp, he⟩ := final m c hpre
  have hb : ∀ t < 16, (⊥ : EReal) < DX m c (ix2 (⟨(p3 t).val / 16, by omega⟩ : Fin 16) (⟨(p3 t).val % 16, by omega⟩ : Fin 16)) :=
    fun t _ => (d_eq m c hpre _ _).2
  refine ⟨funext fun i => ?_, funext fun i => ?_, funext fun i => ?_, funext fun i => ?_⟩
  all_goals
    obtain ⟨s, rfl⟩ : ∃ s : Fin 16, i = ix1 s := ⟨i 0, eq_ix1 i⟩
    refine (cast16 _ s).trans ?_
  · rw [rTok_apply (DX m c) _ hp hb (TX m c) 16 le_rfl s s.isLt, gather_flat _ _ s _ (he s).2]
    exact tok_eq m c hpre _ _
  · rw [rQ_apply (DX m c) _ hp hb 16 le_rfl s s.isLt, qW_apply _ s _ (he s).2]
  · rw [rP_apply (DX m c) _ hp hb 16 le_rfl s s.isLt]
    refine ((d_eq m c hpre _ _).1).trans (Eq.trans ?_ (he s).1.symm)
    refine congrArg (fun k => (FL m c (ix1 k) : EReal)) (Fin.ext ?_)
    show (p3 s.val).val / 16 * 16 + (p3 s.val).val % 16 = (p3 s.val).val
    omega
  · rw [rL_apply (DX m c) _ hp hb (YX m c) 16 le_rfl s s.isLt, gather_flat _ _ s _ (he s).2]
    exact ys_eq m c hpre _ _

end equal

end Cert.KernelBIdeal.Point

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.ReferenceAIdeal.Run
public import proofs.«01_k».proof.Proof.Gen.Pre_beams
public import proofs.«01_k».proof.Proof.Gen.KernelB
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.ReferenceBIdeal.Run
public import proofs.«01_k».proof.Proof.Gen.Pre_ranked
public import proofs.«01_k».proof.Proof.Main
public import proofs.«01_k».proof.Proof.Equal
public import proofs.«01_k».proof.Proof.ABits
public import proofs.«01_k».proof.Proof.AFinal
public import proofs.«01_k».proof.Proof.AEqual
public import proofs.«01_k».proof.Proof.BRunBits
public import proofs.«01_k».proof.Proof.BEqual
public import Idealize.ShloMosaic.Adequacy
public import Idealize.ShloMosaic.Lib.Quiescent
public import Idealize.ShloMosaic.Init

@[expose] public section

noncomputable section

namespace Cert.Proof

open Idealize.ShloMosaic Idealize.SL.Sem

/-- The kernel's frame over words: its run (Proof/Main.lean), the results dropped. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Tile.run_main (F := Bits) m ρ)

/-- The ideal kernel's frame, without a precondition. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Tile.run_main (F := Ideal) m ρ)

/-- The reference's frame: a straight line of host operations that declares no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference leave the same two arrays, whatever the arrays, where every beam number is one of 0..15. -/
theorem algebraic : Cert.algebraic_KernelIdeal_ReferenceIdeal_pre_beams := by
  intro m ρ m' ρ' hpre hag
  refine ⟨fun c => Tile.rowsOf (Tile.arr m) c, fun c => Tile.resOf m c, ?_, ?_⟩
  · exact (θ_run Cert.KernelIdeal.defs _ _).mono (fun _ h c => ⟨(h.1 c).2.2.2.1, (h.1 c).2.2.2.2, (h.1 c).1, (h.1 c).2.1, (h.1 c).2.2.1⟩)
      (Tile.run_main (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · have hq := RefValue.beams_lt _ _ _ (hpre c)
      rw [(hag c).1, (hag c).2.1]
      exact Tile.rows_eq _ _ hq
    · have hq := RefValue.beams_lt _ _ _ (hpre c)
      rw [(hag c).1, (hag c).2.2]
      exact Tile.state_eq _ _ hq

/-- The logits kernel's frame over words. -/
theorem frame_kernelA : Cert.quiescent_KernelA := fun m ρ _ => Cert.KernelA.Point.frame_main (F := Bits) m ρ

/-- The ideal logits kernel's frame: its run, the results dropped. -/
theorem frame_kernelAIdeal : Cert.quiescent_KernelAIdeal := fun m ρ _ =>
  (θ_run Cert.KernelAIdeal.defs _ _).mono (fun _ h => ⟨fun c => (h.1 c).2.2.2, h.2⟩) (Cert.KernelAIdeal.Point.run_value m ρ)

/-- The logits reference's frame: a straight line of host operations that declares no semaphore. -/
theorem frame_referenceAIdeal : Cert.quiescent_ReferenceAIdeal := fun m ρ _ =>
  (θ_run Cert.ReferenceAIdeal.defs _ _).mono (fun r h => ⟨fun c => (h c).2.2.2, sem_eq_zero_of_no_sems (by decide) r.2⟩)
    (Cert.ReferenceAIdeal.Value.run (F := Ideal) m ρ)

/-- The named mask: the ideal kernel reads minus infinity where the kernel has its large negative word. -/
theorem preservesA : Cert.preserves_KernelA_KernelAIdeal :=
  IdealRules.named_const.statement Cert.KernelAIdeal.κ "mask" .f32 0xF149F2CA#32 ⊥ rfl

/-- Logits kernel and reference leave the same three arrays, whatever the arguments. -/
theorem algebraicA : Cert.algebraic_KernelAIdeal_ReferenceAIdeal := by
  intro m ρ m' ρ' _ hag
  refine ⟨fun c => Cert.KernelAIdeal.Point.lgArr m c, fun c => Cert.KernelAIdeal.Point.gmArr m c, fun c => Cert.KernelAIdeal.Point.lseV m c, ?_, ?_⟩
  · exact (θ_run Cert.KernelAIdeal.defs _ _).mono (fun _ h => h.1) (Cert.KernelAIdeal.Point.run_value m ρ)
  · refine (θ_run Cert.ReferenceAIdeal.defs _ _).mono (fun _ h c => ⟨(h c).1.trans ?_, (h c).2.1.trans ?_, (h c).2.2.1.trans ?_, (h c).2.2.2⟩)
      (Cert.ReferenceAIdeal.Value.run (F := Ideal) m' ρ')
    all_goals rw [(hag c).1, (hag c).2.1, (hag c).2.2]
    · exact Cert.KernelAIdeal.Point.logits_eq _ _ _
    · exact Cert.KernelAIdeal.Point.gmax_eq _ _ _
    · exact Cert.KernelAIdeal.Point.lse_eq _ _ _

/-- The selections' kernel's frame over words. -/
theorem frame_kernelB : Cert.quiescent_KernelB := fun m ρ _ =>
  (θ_run Cert.KernelB.defs _ _).mono (fun _ h => ⟨fun c => (h.1 c).2.2.2.2, h.2⟩) (Cert.KernelB.Point.run_value (F := Bits) m ρ)

/-- The ideal selections' kernel's frame. -/
theorem frame_kernelBIdeal : Cert.quiescent_KernelBIdeal := fun m ρ _ =>
  (θ_run Cert.KernelBIdeal.defs _ _).mono (fun _ h => ⟨fun c => (h.1 c).2.2.2.2, h.2⟩) (Cert.KernelBIdeal.Point.run_value (F := Ideal) m ρ)

/-- The selections' reference's frame: a straight line of host operations that declares no semaphore. -/
theorem frame_referenceBIdeal : Cert.quiescent_ReferenceBIdeal := fun m ρ _ =>
  (θ_run Cert.ReferenceBIdeal.defs _ _).mono (fun r h => ⟨fun c => (h c).2.2.2.2, sem_eq_zero_of_no_sems (by decide) r.2⟩)
    (Cert.ReferenceBIdeal.Value.run (F := Ideal) m ρ)

/-- Selections' kernel and reference leave the same four arrays where the precondition holds. -/
theorem algebraicB : Cert.algebraic_KernelBIdeal_ReferenceBIdeal_pre_ranked := by
  intro m ρ m' ρ' hpre hag
  refine ⟨fun c => _, fun c => _, fun c => _, fun c => _,
    (θ_run Cert.KernelBIdeal.defs _ _).mono (fun _ h => h.1) (Cert.KernelBIdeal.Point.run_value (F := Ideal) m ρ), ?_⟩
  refine (θ_run Cert.ReferenceBIdeal.defs _ _).mono (fun _ h c => ⟨(h c).1.trans ?_, (h c).2.1.trans ?_, (h c).2.2.1.trans ?_, (h c).2.2.2.1.trans ?_, (h c).2.2.2.2⟩)
    (Cert.ReferenceBIdeal.Value.run (F := Ideal) m' ρ')
  · rw [Cert.ReferenceBIdeal.Point.res0, (hag c).2.1, (hag c).2.2.1, (hag c).2.2.2]
    exact (Cert.KernelBIdeal.Point.results m c (hpre c)).1.symm
  · rw [(hag c).2.1, (hag c).2.2.1, (hag c).2.2.2]
    exact (Cert.KernelBIdeal.Point.results m c (hpre c)).2.1.symm
  · rw [(hag c).2.1, (hag c).2.2.1, (hag c).2.2.2]
    exact (Cert.KernelBIdeal.Point.results m c (hpre c)).2.2.1.symm
  · rw [Cert.ReferenceBIdeal.Point.res3, (hag c).2.1, (hag c).2.2.1, (hag c).2.2.2]
    exact (Cert.KernelBIdeal.Point.results m c (hpre c)).2.2.2.symm

theorem claim : Cert.Claim := ⟨Cert.Kernel.Gen.facts, Cert.KernelIdeal.Gen.facts, Cert.ReferenceIdeal.Gen.facts, Cert.KernelA.Gen.facts,
  Cert.KernelAIdeal.Gen.facts, Cert.ReferenceAIdeal.Gen.facts, Cert.KernelB.Gen.facts, Cert.KernelBIdeal.Gen.facts, Cert.ReferenceBIdeal.Gen.facts,
  Cert.Pre_beams.Gen.facts, Cert.Pre_ranked.Gen.facts,
  frame_kernel, frame_kernelIdeal, fun m ρ _ => frame_kernelIdeal m ρ trivial, frame_referenceIdeal, fun m ρ _ => frame_referenceIdeal m ρ trivial,
  frame_kernelA, frame_kernelAIdeal, frame_referenceAIdeal,
  frame_kernelB, frame_kernelBIdeal, fun m ρ _ => frame_kernelBIdeal m ρ trivial, frame_referenceBIdeal, fun m ρ _ => frame_referenceBIdeal m ρ trivial,
  trivial, algebraic, preservesA, algebraicA, trivial, algebraicB⟩

end Cert.Proof

end
